-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x1024 : Shape := ⟨3, ![2, 8192, 1024]⟩
abbrev S64 : Shape := ⟨1, ![64]⟩
abbrev S128 : Shape := ⟨1, ![128]⟩
abbrev S1 : Shape := ⟨1, ![1]⟩
abbrev S_ : Shape := ⟨0, ![]⟩

class Facts : Prop where
  bcast_S_S2x8192x1024 : S_.BroadcastsInDim S2x8192x1024 (![] : Fin 0 → Fin S2x8192x1024.rank)
  bcast_S_S64 : S_.BroadcastsInDim S64 (![] : Fin 0 → Fin S64.rank)
  bcast_S_S1 : S_.BroadcastsInDim S1 (![] : Fin 0 → Fin S1.rank)

variable [Facts]

def fn_part1 {F : FTy → Type} [FloatOps F] (main_arg7 : FVec F S64 .f32) (main_arg9 : FVec F S1 .f32) (main_v2 : IVec S2x8192x1024 1) (main_v5 : IVec S2x8192x1024 1) (main_v8 : IVec S2x8192x1024 1) (main_v11 : IVec S64 1) (main_v14 : IVec S64 1) (main_v17 : IVec S64 1) : IVec S2x8192x1024 1 × IVec S2x8192x1024 1 × IVec S2x8192x1024 1 × IVec S64 1 × IVec S64 1 × IVec S64 1 × IVec S64 1 × IVec S1 1 :=
  let main_v18 : FVec F S64 .f32 := Host.absf main_arg7
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S1 .f32 := Host.absf main_arg9
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  (main_v2, main_v5, main_v8, main_v11, main_v14, main_v17, main_v20, main_v23)

def fn {F : FTy → Type} [FloatOps F] (main_arg0 : FVec F S2x8192x1024 .f32) (main_arg1 : FVec F S2x8192x1024 .f32) (main_arg2 : FVec F S2x8192x1024 .f32) (main_arg3 : FVec F S2x8192x1024 .f32) (main_arg4 : FVec F S64 .f32) (main_arg5 : FVec F S64 .f32) (main_arg6 : FVec F S64 .f32) (main_arg7 : FVec F S64 .f32) (main_arg8 : FVec F S128 .f32) (main_arg9 : FVec F S1 .f32) : IVec S2x8192x1024 1 × IVec S2x8192x1024 1 × IVec S2x8192x1024 1 × IVec S64 1 × IVec S64 1 × IVec S64 1 × IVec S64 1 × IVec S1 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x8192x1024 .f32 := Host.absf main_arg1
  let main_cst_0 : FVec F S_ .f32 := constant S_ .f32 0x7F800000#32
  let main_v4 : FVec F S2x8192x1024 .f32 := broadcastInDim S2x8192x1024 ![] bcast_S_S2x8192x1024 main_cst_0
  let main_v5 : IVec S2x8192x1024 1 := cmpf .olt main_v3 main_v4
  let main_v6 : FVec F S2x8192x1024 .f32 := Host.absf main_arg2
  let main_cst_1 : FVec F S_ .f32 := constant S_ .f32 0x7F800000#32
  let main_v7 : FVec F S2x8192x1024 .f32 := broadcastInDim S2x8192x1024 ![] bcast_S_S2x8192x1024 main_cst_1
  let main_v8 : IVec S2x8192x1024 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg6
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg7 main_arg9 main_v2 main_v5 main_v8 main_v11 main_v14 main_v17
-- ==== Kernel.lean ====
abbrev S2x8192x1024 : Shape := ⟨3, ![2, 8192, 1024]⟩
abbrev S64 : Shape := ⟨1, ![64]⟩
abbrev S128 : Shape := ⟨1, ![128]⟩
abbrev S1 : Shape := ⟨1, ![1]⟩
abbrev S1x64 : Shape := ⟨2, ![1, 64]⟩
abbrev S_ : Shape := ⟨0, ![]⟩
abbrev S1x128 : Shape := ⟨2, ![1, 128]⟩
abbrev S3x128 : Shape := ⟨2, ![3, 128]⟩
abbrev S8x128 : Shape := ⟨2, ![8, 128]⟩
abbrev S1x1024x128 : Shape := ⟨3, ![1, 1024, 128]⟩
abbrev S1x8192x128 : Shape := ⟨3, ![1, 8192, 128]⟩
abbrev S128x2048 : Shape := ⟨2, ![128, 2048]⟩
abbrev S16x128x512 : Shape := ⟨3, ![16, 128, 512]⟩
abbrev S1x2048 : Shape := ⟨2, ![1, 2048]⟩
abbrev S512x2048 : Shape := ⟨2, ![512, 2048]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1024x128 : Shape := ⟨2, ![1024, 128]⟩
abbrev S128x1024 : Shape := ⟨2, ![128, 1024]⟩
abbrev S1x1 : Shape := ⟨2, ![1, 1]⟩
abbrev S1024 : Shape := ⟨1, ![1024]⟩
abbrev S1024x1 : Shape := ⟨2, ![1024, 1]⟩
abbrev S128x256 : Shape := ⟨2, ![128, 256]⟩
abbrev S512x256 : Shape := ⟨2, ![512, 256]⟩
abbrev S1x256 : Shape := ⟨2, ![1, 256]⟩
abbrev S256 : Shape := ⟨1, ![256]⟩

abbrev nBuf : Space → Nat
  | .hbm => 35
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1, .f32⟩
  | .hbm, ⟨10, _⟩ => ⟨S1x64, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x64, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1x64, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x64, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S3x128, .f32⟩
  | .hbm, ⟨30, _⟩ => ⟨S8x128, .f32⟩
  | .hbm, ⟨31, _⟩ => ⟨S1x128, .f32⟩
  | .hbm, ⟨32, _⟩ => ⟨S2x8192x1024, .bf16⟩
  | .hbm, ⟨33, _⟩ => ⟨S2x8192x1024, .bf16⟩
  | .hbm, ⟨34, _⟩ => ⟨S2x8192x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1024x128, .f32⟩
  | .local _ .vmem, ⟨7, _⟩ => ⟨S1x1024x128, .f32⟩
  | .local _ .vmem, ⟨8, _⟩ => ⟨S8x128, .f32⟩
  | .local _ .vmem, ⟨9, _⟩ => ⟨S1x128, .f32⟩
  | .local _ .vmem, ⟨10, _⟩ => ⟨S1x1024x128, .bf16⟩
  | .local _ .vmem, ⟨11, _⟩ => ⟨S1x1024x128, .bf16⟩
  | .local _ .vmem, ⟨12, _⟩ => ⟨S128x2048, .bf16⟩
  | .local _ .vmem, ⟨13, _⟩ => ⟨S16x128x512, .bf16⟩
  | .local _ .vmem, ⟨14, _⟩ => ⟨S1x2048, .f32⟩
  | .local _ .vmem, ⟨15, _⟩ => ⟨S1x2048, .f32⟩
  | .local _ .vmem, ⟨16, _⟩ => ⟨S128x2048, .f32⟩
  | .local _ .vmem, ⟨17, _⟩ => ⟨S512x2048, .f32⟩
  | .local _ .vmem, ⟨18, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 9], ![false, false, false]⟩

def k0_mult1 : BitVec 32 :=
  let c0_i32_43 : BitVec 32 := 0#32
  c0_i32_43
@[reducible] def k0_t1_loop (i : grid0.Coords) : Scf.Loop 32 :=
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_83 : BitVec 32 := 1#32
  ⟨c0_i32_82, v148, c1_i32_83⟩
def k0_mult2 (i : grid0.Coords) (k0_t1 : Fin (k0_t1_loop i).trips) : BitVec 32 :=
  let c2_i32 : BitVec 32 := 2#32
  let c0_i32_82 : BitVec 32 := 0#32
  let c1_i32_83 : BitVec 32 := 1#32
  let arg17 : BitVec 32 := Scf.iv c0_i32_82 c1_i32_83 k0_t1
  let v151 : BitVec 32 := Scalar.muli c2_i32 arg17
  let c1_i32_86 : BitVec 32 := 1#32
  let v152 : BitVec 32 := Scalar.addi v151 c1_i32_86
  let c512_i32 : BitVec 32 := 512#32
  let v153 : BitVec 32 := Scalar.muli v152 c512_i32
  v153
def k0_off1 (i : grid0.Coords) (k0_t1 : Fin (k0_t1_loop i).trips) : Fin 3 → Nat :=
  let c0_87 : Index := 0#32
  let c2_i32 : BitVec 32 := 2#32
  let c0_i32_82 : BitVec 32 := 0#32
  let c1_i32_83 : BitVec 32 := 1#32
  let arg17 : BitVec 32 := Scf.iv c0_i32_82 c1_i32_83 k0_t1
  let v151 : BitVec 32 := Scalar.muli c2_i32 arg17
  let c1_i32_86 : BitVec 32 := 1#32
  let v152 : BitVec 32 := Scalar.addi v151 c1_i32_86
  let c512_i32 : BitVec 32 := 512#32
  let v153 : BitVec 32 := Scalar.muli v152 c512_i32
  let v154 : BitVec 32 := v153
  let v155 : Index := Scalar.indexCast v154
  let c0_88 : Index := 0#32
  ![0, v155.toNat, 0]
def k0_off2 (i : grid0.Coords) (k0_t1 : Fin (k0_t1_loop i).trips) : Fin 3 → Nat :=
  let c2_i32 : BitVec 32 := 2#32
  let c0_i32_82 : BitVec 32 := 0#32
  let c1_i32_83 : BitVec 32 := 1#32
  let arg17 : BitVec 32 := Scf.iv c0_i32_82 c1_i32_83 k0_t1
  let v151 : BitVec 32 := Scalar.muli c2_i32 arg17
  let v198 : Index := Scalar.indexCast v151
  let c0_129 : Index := 0#32
  let c0_130 : Index := 0#32
  ![v198.toNat, 0, 0]
def k0_mult3 (i : grid0.Coords) (k0_t1 : Fin (k0_t1_loop i).trips) : BitVec 32 :=
  let c2_i32_267 : BitVec 32 := 2#32
  let c0_i32_82 : BitVec 32 := 0#32
  let c1_i32_83 : BitVec 32 := 1#32
  let arg17 : BitVec 32 := Scf.iv c0_i32_82 c1_i32_83 k0_t1
  let v441 : BitVec 32 := Scalar.muli c2_i32_267 arg17
  let c1_i32_268 : BitVec 32 := 1#32
  let v442 : BitVec 32 := Scalar.addi v441 c1_i32_268
  let c1_i32_269 : BitVec 32 := 1#32
  let v443 : BitVec 32 := Scalar.addi v442 c1_i32_269
  let c512_i32_270 : BitVec 32 := 512#32
  let v444 : BitVec 32 := Scalar.muli v443 c512_i32_270
  v444
def k0_off3 (i : grid0.Coords) (k0_t1 : Fin (k0_t1_loop i).trips) : Fin 3 → Nat :=
  let c0_271 : Index := 0#32
  let c2_i32_267 : BitVec 32 := 2#32
  let c0_i32_82 : BitVec 32 := 0#32
  let c1_i32_83 : BitVec 32 := 1#32
  let arg17 : BitVec 32 := Scf.iv c0_i32_82 c1_i32_83 k0_t1
  let v441 : BitVec 32 := Scalar.muli c2_i32_267 arg17
  let c1_i32_268 : BitVec 32 := 1#32
  let v442 : BitVec 32 := Scalar.addi v441 c1_i32_268
  let c1_i32_269 : BitVec 32 := 1#32
  let v443 : BitVec 32 := Scalar.addi v442 c1_i32_269
  let c512_i32_270 : BitVec 32 := 512#32
  let v444 : BitVec 32 := Scalar.muli v443 c512_i32_270
  let v445 : BitVec 32 := v444
  let v446 : Index := Scalar.indexCast v445
  let c0_272 : Index := 0#32
  ![0, v446.toNat, 0]
def k0_off4 (i : grid0.Coords) (k0_t1 : Fin (k0_t1_loop i).trips) : Fin 3 → Nat :=
  let c2_i32_267 : BitVec 32 := 2#32
  let c0_i32_82 : BitVec 32 := 0#32
  let c1_i32_83 : BitVec 32 := 1#32
  let arg17 : BitVec 32 := Scf.iv c0_i32_82 c1_i32_83 k0_t1
  let v441 : BitVec 32 := Scalar.muli c2_i32_267 arg17
  let c1_i32_268 : BitVec 32 := 1#32
  let v442 : BitVec 32 := Scalar.addi v441 c1_i32_268
  let v489 : Index := Scalar.indexCast v442
  let c0_313 : Index := 0#32
  let c0_314 : Index := 0#32
  ![v489.toNat, 0, 0]
@[reducible] def k0_t2_loop (i : grid0.Coords) : Scf.Loop 32 :=
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let v145 : BitVec 32 := Scalar.addi c0_i32_82 v144
  let c1_i32_84 : BitVec 32 := 1#32
  ⟨v148, v145, c1_i32_84⟩
def k0_mult4 (i : grid0.Coords) (k0_t2 : Fin (k0_t2_loop i).trips) : BitVec 32 :=
  let c2_i32 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v151 : BitVec 32 := Scalar.muli c2_i32 arg17
  let c1_i32_86 : BitVec 32 := 1#32
  let v152 : BitVec 32 := Scalar.addi v151 c1_i32_86
  let c512_i32 : BitVec 32 := 512#32
  let v153 : BitVec 32 := Scalar.muli v152 c512_i32
  v153
def k0_off5 (i : grid0.Coords) (k0_t2 : Fin (k0_t2_loop i).trips) : Fin 3 → Nat :=
  let c0_87 : Index := 0#32
  let c2_i32 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v151 : BitVec 32 := Scalar.muli c2_i32 arg17
  let c1_i32_86 : BitVec 32 := 1#32
  let v152 : BitVec 32 := Scalar.addi v151 c1_i32_86
  let c512_i32 : BitVec 32 := 512#32
  let v153 : BitVec 32 := Scalar.muli v152 c512_i32
  let v154 : BitVec 32 := v153
  let v155 : Index := Scalar.indexCast v154
  let c0_88 : Index := 0#32
  ![0, v155.toNat, 0]
def k0_off6 (i : grid0.Coords) (k0_t2 : Fin (k0_t2_loop i).trips) : Fin 3 → Nat :=
  let c2_i32 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v151 : BitVec 32 := Scalar.muli c2_i32 arg17
  let v198 : Index := Scalar.indexCast v151
  let c0_129 : Index := 0#32
  let c0_130 : Index := 0#32
  ![v198.toNat, 0, 0]
def k0_mult5 (i : grid0.Coords) (k0_t2 : Fin (k0_t2_loop i).trips) : BitVec 32 :=
  let c2_i32_267 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v441 : BitVec 32 := Scalar.muli c2_i32_267 arg17
  let c1_i32_268 : BitVec 32 := 1#32
  let v442 : BitVec 32 := Scalar.addi v441 c1_i32_268
  let c1_i32_269 : BitVec 32 := 1#32
  let v443 : BitVec 32 := Scalar.addi v442 c1_i32_269
  let c512_i32_270 : BitVec 32 := 512#32
  let v444 : BitVec 32 := Scalar.muli v443 c512_i32_270
  v444
def k0_off7 (i : grid0.Coords) (k0_t2 : Fin (k0_t2_loop i).trips) : Fin 3 → Nat :=
  let c0_271 : Index := 0#32
  let c2_i32_267 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v441 : BitVec 32 := Scalar.muli c2_i32_267 arg17
  let c1_i32_268 : BitVec 32 := 1#32
  let v442 : BitVec 32 := Scalar.addi v441 c1_i32_268
  let c1_i32_269 : BitVec 32 := 1#32
  let v443 : BitVec 32 := Scalar.addi v442 c1_i32_269
  let c512_i32_270 : BitVec 32 := 512#32
  let v444 : BitVec 32 := Scalar.muli v443 c512_i32_270
  let v445 : BitVec 32 := v444
  let v446 : Index := Scalar.indexCast v445
  let c0_272 : Index := 0#32
  ![0, v446.toNat, 0]
def k0_off8 (i : grid0.Coords) (k0_t2 : Fin (k0_t2_loop i).trips) : Fin 3 → Nat :=
  let c2_i32_267 : BitVec 32 := 2#32
  let c0_i32_82 : BitVec 32 := 0#32
  let arg2 : BitVec 32 := BitVec.ofNat 32 (i 2).val
  let c8_i32 : BitVec 32 := 8#32
  let v142 : BitVec 1 := Scalar.cmpi .slt arg2 c8_i32
  let c0_i32_80 : BitVec 32 := 0#32
  let v143 : BitVec 32 := Scalar.select v142 arg2 c0_i32_80
  let v144 : BitVec 32 := Scalar.subi v143 c0_i32_82
  let c1_i32 : BitVec 32 := 1#32
  let v146 : BitVec 32 := Scalar.divsi v144 c1_i32
  let v147 : BitVec 32 := Scalar.muli v146 c1_i32
  let v148 : BitVec 32 := Scalar.addi c0_i32_82 v147
  let c1_i32_84 : BitVec 32 := 1#32
  let arg17 : BitVec 32 := Scf.iv v148 c1_i32_84 k0_t2
  let v441 : BitVec 32 := Scalar.muli c2_i32_267 arg17
  let c1_i32_268 : BitVec 32 := 1#32
  let v442 : BitVec 32 := Scalar.addi v441 c1_i32_268
  let v489 : Index := Scalar.indexCast v442
  let c0_313 : Index := 0#32
  let c0_314 : Index := 0#32
  ![v489.toNat, 0, 0]
def k0_cond2 (i : grid0.Coords) : BitVec 1 :=
  let arg2 : BitVec 32 := BitVec.ofNat 32 (i 2).val
  let c8_i32 : BitVec 32 := 8#32
  let v142 : BitVec 1 := Scalar.cmpi .slt arg2 c8_i32
  let v149 : BitVec 32 := Scalar.extui v142
  let c0_i32_85 : BitVec 32 := 0#32
  let v150 : BitVec 1 := Scalar.cmpi .ne v149 c0_i32_85
  v150

def k0_mult6 (i : grid0.Coords) : BitVec 32 :=
  let c2_i32 : BitVec 32 := 2#32
  let arg2 : BitVec 32 := BitVec.ofNat 32 (i 2).val
  let v151 : BitVec 32 := Scalar.muli c2_i32 arg2
  let c1_i32_86 : BitVec 32 := 1#32
  let v152 : BitVec 32 := Scalar.addi v151 c1_i32_86
  let c512_i32 : BitVec 32 := 512#32
  let v153 : BitVec 32 := Scalar.muli v152 c512_i32
  v153
def k0_off9 (i : grid0.Coords) : Fin 3 → Nat :=
  let c0_87 : Index := 0#32
  let c2_i32 : BitVec 32 := 2#32
  let arg2 : BitVec 32 := BitVec.ofNat 32 (i 2).val
  let v151 : BitVec 32 := Scalar.muli c2_i32 arg2
  let c1_i32_86 : BitVec 32 := 1#32
  let v152 : BitVec 32 := Scalar.addi v151 c1_i32_86
  let c512_i32 : BitVec 32 := 512#32
  let v153 : BitVec 32 := Scalar.muli v152 c512_i32
  let v154 : BitVec 32 := v153
  let v155 : Index := Scalar.indexCast v154
  let c0_88 : Index := 0#32
  ![0, v155.toNat, 0]
def k0_off10 (i : grid0.Coords) : Fin 3 → Nat :=
  let c2_i32 : BitVec 32 := 2#32
  let arg2 : BitVec 32 := BitVec.ofNat 32 (i 2).val
  let v151 : BitVec 32 := Scalar.muli c2_i32 arg2
  let v178 : Index := Scalar.indexCast v151
  let c0_109 : Index := 0#32
  let c0_110 : Index := 0#32
  ![v178.toNat, 0, 0]
def k0_off11 (i : grid0.Coords) : Fin 3 → Nat :=
  let c2_i32_269 : BitVec 32 := 2#32
  let arg2 : BitVec 32 := BitVec.ofNat 32 (i 2).val
  let v493 : BitVec 32 := Scalar.muli c2_i32_269 arg2
  let c1_i32_270 : BitVec 32 := 1#32
  let v494 : BitVec 32 := Scalar.addi v493 c1_i32_270
  let v495 : Index := Scalar.indexCast v494
  let c0_271 : Index := 0#32
  let c0_272 : Index := 0#32
  ![v495.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg2 c7_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S2x8192x1024 : Shape := ⟨3, ![2, 8192, 1024]⟩
abbrev S64 : Shape := ⟨1, ![64]⟩
abbrev S128 : Shape := ⟨1, ![128]⟩
abbrev S1 : Shape := ⟨1, ![1]⟩
abbrev S2x8192x8x2x64 : Shape := ⟨5, ![2, 8192, 8, 2, 64]⟩
abbrev S2x8192x8x128 : Shape := ⟨4, ![2, 8192, 8, 128]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1, .f32⟩
  | .hbm, ⟨10, _⟩ => ⟨S2x8192x8x2x64, .f32⟩
  | .hbm, ⟨11, _⟩ => ⟨S2x8192x8x2x64, .f32⟩
  | .hbm, ⟨12, _⟩ => ⟨S2x8192x8x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x8x2x8192x8192, .f32⟩
  | .hbm, ⟨25, _⟩ => ⟨S_, .f32⟩
  | .hbm, ⟨26, _⟩ => ⟨S2x8x2x8192x8192, .f32⟩
  | .hbm, ⟨27, _⟩ => ⟨S2x8x2x8192x8192, .f32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S2x8x2x8192x8192, .i1⟩
  | .hbm, ⟨37, _⟩ => ⟨S2x8x2x8192x8192, .f32⟩
  | .hbm, ⟨38, _⟩ => ⟨S2x8x2x8192x8192, .f32⟩
  | .hbm, ⟨39, _⟩ => ⟨S_, .f32⟩
  | .hbm, ⟨40, _⟩ => ⟨S2x8x2x8192, .f32⟩
  | .hbm, ⟨41, _⟩ => ⟨S_, .f32⟩
  | .hbm, ⟨42, _⟩ => ⟨S2x8x2x8192, .f32⟩
  | .hbm, ⟨43, _⟩ => ⟨S2x8x2x8192, .f32⟩
  | .hbm, ⟨44, _⟩ => ⟨S2x8x2x8192x1, .f32⟩
  | .hbm, ⟨45, _⟩ => ⟨S2x8x2x8192x8192, .f32⟩
  | .hbm, ⟨46, _⟩ => ⟨S2x8x2x8192x8192, .f32⟩
  | .hbm, ⟨47, _⟩ => ⟨S2x8x2x8192x8192, .f32⟩
  | .hbm, ⟨48, _⟩ => ⟨S_, .f32⟩
  | .hbm, ⟨49, _⟩ => ⟨S2x8x2x8192, .f32⟩
  | .hbm, ⟨50, _⟩ => ⟨S2x8x2x8192x1, .f32⟩
  | .hbm, ⟨51, _⟩ => ⟨S2x8x2x8192x8192, .f32⟩
  | .hbm, ⟨52, _⟩ => ⟨S2x8x2x8192x8192, .f32⟩
  | .hbm, ⟨53, _⟩ => ⟨S2x8x1x8192x8192, .f32⟩
  | .hbm, ⟨54, _⟩ => ⟨S2x8x8192x8192, .f32⟩
  | .hbm, ⟨55, _⟩ => ⟨S2x8x1x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x128x8192, .f32⟩
  | .hbm, ⟨61, _⟩ => ⟨S2x8192x8x128, .f32⟩
  | .hbm, ⟨62, _⟩ => ⟨S2x8192x8x128, .f32⟩
  | .hbm, ⟨63, _⟩ => ⟨S_, .f32⟩
  | .hbm, ⟨64, _⟩ => ⟨S2x8192x8, .f32⟩
  | .hbm, ⟨65, _⟩ => ⟨S2x8192x8x1, .f32⟩
  | .hbm, ⟨66, _⟩ => ⟨S_, .f32⟩
  | .hbm, ⟨67, _⟩ => ⟨S2x8192x8x1, .f32⟩
  | .hbm, ⟨68, _⟩ => ⟨S2x8192x8x1, .f32⟩
  | .hbm, ⟨69, _⟩ => ⟨S_, .f32⟩
  | .hbm, ⟨70, _⟩ => ⟨S2x8192x8x1, .f32⟩
  | .hbm, ⟨71, _⟩ => ⟨S2x8192x8x1, .f32⟩
  | .hbm, ⟨72, _⟩ => ⟨S2x8192x8x1, .f32⟩
  | .hbm, ⟨73, _⟩ => ⟨S2x8192x8x128, .f32⟩
  | .hbm, ⟨74, _⟩ => ⟨S2x8192x8x128, .f32⟩
  | .hbm, ⟨75, _⟩ => ⟨S1x1x1x128, .f32⟩
  | .hbm, ⟨76, _⟩ => ⟨S2x8192x8x128, .f32⟩
  | .hbm, ⟨77, _⟩ => ⟨S2x8192x8x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x8192x8x128, .f32⟩
  | .hbm, ⟨82, _⟩ => ⟨S2x8192x8x128, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Proof.Skel.lean ====
/- Each printed part of the kernel that reads no named constant is its skeleton, stated over the float values alone:
   the run of the body passes through these equations. -/
module

public import proofs.«01_k».proof.Proof.Gen.KernelIdeal.Skeleton

@[expose] public section

namespace Cert.KernelIdeal

open Idealize.ShloMosaic

variable {F : FTy → Type} [FloatOps F]

set_option maxRecDepth 65536 in
theorem k0_part1_eq_skeleton : k0_part1 (F := F) = Gen.k0_part1_skel (F := F) := rfl

set_option maxRecDepth 65536 in
theorem k0_part2_eq_skeleton : k0_part2 (F := F) = Gen.k0_part2_skel (F := F) := rfl

set_option maxRecDepth 65536 in
theorem k0_part3_eq_skeleton : k0_part3 (F := F) = Gen.k0_part3_skel (F := F) := rfl

set_option maxRecDepth 65536 in
theorem k0_part4_eq_skeleton : k0_part4 (F := F) = Gen.k0_part4_skel (F := F) := rfl

set_option maxRecDepth 65536 in
theorem k0_part5_eq_skeleton : k0_part5 (F := F) = Gen.k0_part5_skel (F := F) := rfl

set_option maxRecDepth 65536 in
theorem k0_part6_eq_skeleton : k0_part6 (F := F) = Gen.k0_part6_skel (F := F) := rfl

set_option maxRecDepth 65536 in
theorem k0_part7_eq_skeleton : k0_part7 (F := F) = Gen.k0_part7_skel (F := F) := rfl

set_option maxRecDepth 65536 in
theorem k0_part8_eq_skeleton : k0_part8 (F := F) = Gen.k0_part8_skel (F := F) := rfl

set_option maxRecDepth 65536 in
theorem k0_part9_eq_skeleton : k0_part9 (F := F) = Gen.k0_part9_skel (F := F) := rfl

set_option maxRecDepth 65536 in
theorem k0_part10_eq_skeleton : k0_part10 (F := F) = Gen.k0_part10_skel (F := F) := rfl

set_option maxRecDepth 65536 in
theorem k0_part11_eq_skeleton : k0_part11 (F := F) = Gen.k0_part11_skel (F := F) := rfl

set_option maxRecDepth 65536 in
theorem k0_part12_eq_skeleton : k0_part12 (F := F) = Gen.k0_part12_skel (F := F) := rfl

set_option maxRecDepth 65536 in
theorem k0_part13_eq_skeleton : k0_part13 (F := F) = Gen.k0_part13_skel (F := F) := rfl

set_option maxRecDepth 65536 in
theorem k0_part14_eq_skeleton : k0_part14 (F := F) = Gen.k0_part14_skel (F := F) := rfl

set_option maxRecDepth 65536 in
theorem k0_part15_eq_skeleton : k0_part15 (F := F) = Gen.k0_part15_skel (F := F) := rfl

set_option maxRecDepth 65536 in
theorem k0_part16_eq_skeleton : k0_part16 (F := F) = Gen.k0_part16_skel (F := F) := rfl

set_option maxRecDepth 65536 in
theorem k0_part17_eq_skeleton : k0_part17 (F := F) = Gen.k0_part17_skel (F := F) := rfl

set_option maxRecDepth 65536 in
theorem k0_part18_eq_skeleton : k0_part18 (F := F) = Gen.k0_part18_skel (F := F) := rfl

set_option maxRecDepth 65536 in
theorem k0_part19_eq_skeleton : k0_part19 (F := F) = Gen.k0_part19_skel (F := F) := rfl

set_option maxRecDepth 65536 in
theorem k0_part20_eq_skeleton : k0_part20 (F := F) = Gen.k0_part20_skel (F := F) := rfl

set_option maxRecDepth 65536 in
theorem k0_part21_eq_skeleton : k0_part21 (F := F) = Gen.k0_part21_skel (F := F) := rfl

set_option maxRecDepth 65536 in
theorem k0_part22_eq_skeleton : k0_part22 (F := F) = Gen.k0_part22_skel (F := F) := rfl

set_option maxRecDepth 65536 in
theorem k0_part23_eq_skeleton : k0_part23 (F := F) = Gen.k0_part23_skel (F := F) := rfl

set_option maxRecDepth 65536 in
theorem k0_part24_eq_skeleton : k0_part24 (F := F) = Gen.k0_part24_skel (F := F) := rfl

set_option maxRecDepth 65536 in
theorem k0_part25_eq_skeleton : k0_part25 (F := F) = Gen.k0_part25_skel (F := F) := rfl

set_option maxRecDepth 65536 in
theorem k0_part26_eq_skeleton : k0_part26 (F := F) = Gen.k0_part26_skel (F := F) := rfl

set_option maxRecDepth 65536 in
theorem k0_part27_eq_skeleton : k0_part27 (F := F) = Gen.k0_part27_skel (F := F) := rfl

set_option maxRecDepth 65536 in
theorem k0_part28_eq_skeleton : k0_part28 (F := F) = Gen.k0_part28_skel (F := F) := rfl

set_option maxRecDepth 65536 in
theorem k0_part29_eq_skeleton : k0_part29 (F := F) = Gen.k0_part29_skel (F := F) := rfl

set_option maxRecDepth 65536 in
theorem k0_part30_eq_skeleton : k0_part30 (F := F) = Gen.k0_part30_skel (F := F) := rfl

set_option maxRecDepth 65536 in
theorem k0_part31_eq_skeleton : k0_part31 (F := F) = Gen.k0_part31_skel (F := F) := rfl

set_option maxRecDepth 65536 in
theorem k0_part32_eq_skeleton : k0_part32 (F := F) = Gen.k0_part32_skel (F := F) := rfl

set_option maxRecDepth 65536 in
theorem k0_part33_eq_skeleton : k0_part33 (F := F) = Gen.k0_part33_skel (F := F) := rfl

set_option maxRecDepth 65536 in
theorem k0_part34_eq_skeleton : k0_part34 (F := F) = Gen.k0_part34_skel (F := F) := rfl

set_option maxRecDepth 65536 in
theorem k0_part35_eq_skeleton : k0_part35 (F := F) = Gen.k0_part35_skel (F := F) := rfl

set_option maxRecDepth 65536 in
theorem k0_part36_eq_skeleton : k0_part36 (F := F) = Gen.k0_part36_skel (F := F) := rfl

set_option maxRecDepth 65536 in
theorem k0_part37_eq_skeleton : k0_part37 (F := F) = Gen.k0_part37_skel (F := F) := rfl

set_option maxRecDepth 65536 in
theorem k0_part38_eq_skeleton : k0_part38 (F := F) = Gen.k0_part38_skel (F := F) := rfl

set_option maxRecDepth 65536 in
theorem k0_part39_eq_skeleton : k0_part39 (F := F) = Gen.k0_part39_skel (F := F) := rfl

set_option maxRecDepth 65536 in
theorem k0_part40_eq_skeleton : k0_part40 (F := F) = Gen.k0_part40_skel (F := F) := rfl

set_option maxRecDepth 65536 in
theorem k0_part41_eq_skeleton : k0_part41 (F := F) = Gen.k0_part41_skel (F := F) := rfl

set_option maxRecDepth 65536 in
theorem k0_part42_eq_skeleton : k0_part42 (F := F) = Gen.k0_part42_skel (F := F) := rfl

set_option maxRecDepth 65536 in
theorem k0_part43_eq_skeleton : k0_part43 (F := F) = Gen.k0_part43_skel (F := F) := rfl

set_option maxRecDepth 65536 in
theorem k0_part44_eq_skeleton : k0_part44 (F := F) = Gen.k0_part44_skel (F := F) := rfl

set_option maxRecDepth 65536 in
theorem k0_part45_eq_skeleton : k0_part45 (F := F) = Gen.k0_part45_skel (F := F) := rfl

set_option maxRecDepth 65536 in
theorem k0_part46_eq_skeleton : k0_part46 (F := F) = Gen.k0_part46_skel (F := F) := rfl

set_option maxRecDepth 65536 in
theorem k0_part47_eq_skeleton : k0_part47 (F := F) = Gen.k0_part47_skel (F := F) := rfl

set_option maxRecDepth 65536 in
theorem k0_part48_eq_skeleton : k0_part48 (F := F) = Gen.k0_part48_skel (F := F) := rfl

set_option maxRecDepth 65536 in
theorem k0_part49_eq_skeleton : k0_part49 (F := F) = Gen.k0_part49_skel (F := F) := rfl

set_option maxRecDepth 65536 in
theorem k0_part50_eq_skeleton : k0_part50 (F := F) = Gen.k0_part50_skel (F := F) := rfl

set_option maxRecDepth 65536 in
theorem k0_part51_eq_skeleton : k0_part51 (F := F) = Gen.k0_part51_skel (F := F) := rfl

set_option maxRecDepth 65536 in
theorem k0_part53_eq_skeleton : k0_part53 (F := F) = Gen.k0_part53_skel (F := F) := rfl

set_option maxRecDepth 65536 in
theorem k0_part54_eq_skeleton : k0_part54 (F := F) = Gen.k0_part54_skel (F := F) := rfl

set_option maxRecDepth 65536 in
theorem k0_part55_eq_skeleton : k0_part55 (F := F) = Gen.k0_part55_skel (F := F) := rfl

end Cert.KernelIdeal
-- ==== Proof.LoopI.lean ====
module

public import proofs.«01_k».proof.Proof.Gen.KernelIdeal.Loops
public import proofs.«01_k».proof.Proof.Skel

/-! The key-block loop's invariant, stated so that it does not mention what the second score buffer held before the loop.
A trip writes that buffer whole before it reads it, so no trip's pieces depend on its earlier contents. -/

@[expose] public section

set_option maxRecDepth 16384
set_option maxHeartbeats 8000000

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resource algebra of the run. -/
local notation "𝕄G" => MT nD τ sig Unit (Elt F) ℕ (UR sig nD τ) ℕ

/-- A trip's pieces do not depend on what the second score buffer held. -/
theorem tripL_k0_t1_free (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (k : Fin (k0_t1_loop i).trips) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg16' : BufTy.Contents (Elt F) arg16.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 k f_arg12 f_arg13 f_arg14 f_arg15 f_arg16
      = tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 k f_arg12 f_arg13 f_arg14 f_arg15 f_arg16' := by
  unfold tripL_k0_t1 trip_k0_t1; rfl

/-- The trips' pieces do not depend on what the second score buffer held before the loop. -/
theorem pb_k0_t1_free (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg16' : BufTy.Contents (Elt F) arg16.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16 k
      = pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16' k := by
  induction k with
  | zero => rfl
  | succ k ih =>
    rw [pb_k0_t1.eq_2, pb_k0_t1.eq_2, ih]
    unfold pb_k0_t1Step
    split
    · rw [tripL_k0_t1_free 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 _ _ _ _ _ (arg16.view.writes (Elt F) G_arg16 _) (arg16.view.writes (Elt F) G_arg16' _)]
    · rfl

/-- The loop's invariant before trip `k`, the trips' pieces taken at a fixed content of the second score buffer. -/
abbrev inv_k0_t1 (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg4.view.loc (c : Thread nD τ) ↦[arg4.view.set]{fullShare} X_arg4) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.set]{fullShare} f) ∗ ⌜f = arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 arg16.view.junk k).1⌝) ∗ (∃ f, (arg13.view.loc (c : Thread nD τ) ↦[arg13.view.set]{fullShare} f) ∗ ⌜f = arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 arg16.view.junk k).2.1⌝) ∗ (∃ f, (arg14.view.loc (c : Thread nD τ) ↦[arg14.view.set]{fullShare} f) ∗ ⌜f = arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 arg16.view.junk k).2.2.1⌝) ∗ (∃ f, (arg15.view.loc (c : Thread nD τ) ↦[arg15.view.set]{fullShare} f) ∗ ⌜f = arg15.view.writes (Elt F) G_arg15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 arg16.view.junk k).2.2.2.1⌝) ∗ (∃ f, (arg16.view.loc (c : Thread nD τ) ↦[arg16.view.set]{fullShare} f) ∗ ⌜f = arg16.view.writes (Elt F) G_arg16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 arg16.view.junk k).2.2.2.2⌝))

/-- It is the generated invariant. -/
theorem inv_k0_t1_eq (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    inv_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16 = Gen.inv_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16 := by
  funext k u
  unfold inv_k0_t1 Gen.inv_k0_t1
  rw [pb_k0_t1_free 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16 arg16.view.junk k]

set_option warn.classDefReducibility false in
/-- The loop by that invariant. -/
@[sl_loop] def loopInv_k0_t1 (𝒱 : Variants) (c : Dev nD) (bd : Option 𝒱.V) (E : Set ℕ) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    _root_.Cert.KernelIdeal.Gen.LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 where
  inv := inv_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16
  step k acc := by
    rw [inv_k0_t1_eq]
    exact (Gen.loopInv_k0_t1 (F := F) 𝒱 c bd E i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G_arg12 G_arg13 G_arg14 G_arg15 G_arg16).step k acc

/-- The loop over the remaining key blocks makes no trip. -/
theorem trips_k0_t2 (i : grid0.Coords) : (k0_t2_loop i).trips = 0 := by
  have h : (i 2).val < 9 := (i 2).isLt
  simp only [k0_t2_loop]
  generalize (i 2).val = n at h
  interval_cases n <;> rfl

/-- The number of trips of the loop over the key blocks before the diagonal. -/
theorem trips_k0_t1 (i : grid0.Coords) : (k0_t1_loop i).trips = if (i 2).val < 8 then (i 2).val else 0 := by
  have h : (i 2).val < 9 := (i 2).isLt
  simp only [k0_t1_loop]
  generalize (i 2).val = n at h
  interval_cases n <;> rfl

/-- That loop's invariant: nothing changes. -/
abbrev inv_k0_t2 (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (v148 : BitVec 32) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (k : ℕ) (_u : PUnit) : sProp 𝕄G :=
  iprop((arg4.view.loc (c : Thread nD τ) ↦[arg4.view.set]{fullShare} X_arg4) ∗ (arg10.view.loc (c : Thread nD τ) ↦[arg10.view.set]{fullShare} X_arg10) ∗ (arg11.view.loc (c : Thread nD τ) ↦[arg11.view.set]{fullShare} X_arg11) ∗ (∃ f, (arg12.view.loc (c : Thread nD τ) ↦[arg12.view.set]{fullShare} f) ∗ ⌜f = G_arg12⌝) ∗ (∃ f, (arg13.view.loc (c : Thread nD τ) ↦[arg13.view.set]{fullShare} f) ∗ ⌜f = G_arg13⌝) ∗ (∃ f, (arg14.view.loc (c : Thread nD τ) ↦[arg14.view.set]{fullShare} f) ∗ ⌜f = G_arg14⌝) ∗ (∃ f, (arg15.view.loc (c : Thread nD τ) ↦[arg15.view.set]{fullShare} f) ∗ ⌜f = G_arg15⌝) ∗ (∃ f, (arg16.view.loc (c : Thread nD τ) ↦[arg16.view.set]{fullShare} f) ∗ ⌜f = G_arg16⌝))

set_option warn.classDefReducibility false in
/-- The loop that makes no trip, by that invariant. -/
@[sl_loop] def loopInv_k0_t2 (𝒱 : Variants) (c : Dev nD) (bd : Option 𝒱.V) (E : Set ℕ) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (v148 : BitVec 32) (X_arg4 : BufTy.Contents (Elt F) arg4.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) :
    _root_.Cert.KernelIdeal.Gen.LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 v148 where
  inv := inv_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v148 X_arg4 X_arg10 X_arg11 G_arg12 G_arg13 G_arg14 G_arg15 G_arg16
  step k acc := absurd k.isLt (by have h := trips_k0_t2 i; unfold Scf.Loop.trips at h; omega)

end Cert.KernelIdeal.Own

end
-- ==== Proof.RunA.lean ====
module

public import proofs.«01_k».proof.Proof.Gen.KernelIdeal.Frame.Runs
public import proofs.«01_k».proof.Proof.LoopI

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1716000 in
/-- What the body's stores leave in each output's staging memref, as pieces (last first) IN CASE A (`scf.if` 0 taken, `scf.if` 1 taken: points 0, 9, … 135: 16 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) :
    Σ' (L6 : List (View.Piece (Elt F) S1x1024x128 .bf16)), Σ' (LS1 : List (View.Piece (Elt F) S16x128x512 .bf16)), Σ' (LS3 : List (View.Piece (Elt F) S1x2048 .f32)), { LS4 : List (View.Piece (Elt F) S128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ f, arg11.view.loc (c : Thread nD τ) ↦[arg11.view.set]{fullShare} arg11.view.writes (Elt F) f LS1) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_attn_prompt_eq_skeleton]; unfold cc0_attn_prompt_skel
    simp only [k0_part52_eq_skeleton, k0_part1_eq_skeleton, k0_part2_eq_skeleton, k0_part3_eq_skeleton, k0_part4_eq_skeleton, k0_part53_eq_skeleton, k0_part54_eq_skeleton, k0_part55_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]
    · iexists _, _; isplitr; swap; · iexact HS5
      ipureintro; rfl
    iexists _, _; isplitr; swap; · iexact HS6
    ipureintro; rfl

end Cert.KernelIdeal.Own

end
-- ==== Proof.RunB.lean ====
module

public import proofs.«01_k».proof.Proof.Gen.KernelIdeal.Frame.Runs
public import proofs.«01_k».proof.Proof.RunA

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1404000 in
/-- What the body's stores leave in each output's staging memref, as pieces (last first) IN CASE B (`scf.if` 0 not taken, `scf.if` 1 taken: points 1, 2, … 142: 112 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) :
    Σ' (L6 : List (View.Piece (Elt F) S1x1024x128 .bf16)), Σ' (LS1 : List (View.Piece (Elt F) S16x128x512 .bf16)), Σ' (LS3 : List (View.Piece (Elt F) S1x2048 .f32)), { LS4 : List (View.Piece (Elt F) S128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3 ∗ owns (c : Thread nD τ) arg14 fullShare xs4 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, fun E K => ?run⟩
  case run =>
    simp only [cc0_attn_prompt_eq_skeleton]; unfold cc0_attn_prompt_skel
    simp only [k0_part52_eq_skeleton, k0_part53_eq_skeleton, k0_part54_eq_skeleton, k0_part55_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%ds2, %fs2, -, HS2⟩, ⟨%fs3, %hfs3, HS3⟩, ⟨%fs4, %hfs4, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs1; obtain rfl := harg13.eq_unread hfs3; obtain rfl := harg14.eq_unread hfs4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]
    · iexists _, _; isplitr; swap; · iexact HS5
      ipureintro; rfl
    iexists _, _; isplitr; swap; · iexact HS6
    ipureintro; rfl

end Cert.KernelIdeal.Own

end
-- ==== Proof.RunC.lean ====
module

public import proofs.«01_k».proof.Proof.Gen.KernelIdeal.Frame.Runs
public import proofs.«01_k».proof.Proof.RunB

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 not taken: points 8, 17, … 143: 16 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) :
    Σ' (L6 : List (View.Piece (Elt F) S1x1024x128 .bf16)), Σ' (LS1 : List (View.Piece (Elt F) S16x128x512 .bf16)), Σ' (LS3 : List (View.Piece (Elt F) S1x2048 .f32)), { LS4 : List (View.Piece (Elt F) S128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs1 ∗ (∃ d, owns (c : Thread nD τ) arg12 fullShare d) ∗ owns (c : Thread nD τ) arg13 fullShare xs3 ∗ owns (c : Thread nD τ) arg14 fullShare xs4 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ owns (c : Thread nD τ) arg11 fullShare xs1 ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ d, owns (c : Thread nD τ) arg15 fullShare d) ∗ (∃ d, owns (c : Thread nD τ) arg16 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, ?_, fun E K => ?run⟩
  case run =>
    simp only [cc0_attn_prompt_eq_skeleton]; unfold cc0_attn_prompt_skel
    simp only [k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%ds2, %fs2, -, HS2⟩, ⟨%fs3, %hfs3, HS3⟩, ⟨%fs4, %hfs4, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs1; obtain rfl := harg13.eq_unread hfs3; obtain rfl := harg14.eq_unread hfs4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _; isplitr; · ipureintro; exact harg11.read_unread _
      iexact HS1
    isplitl [HS2]
    · iexists _, _; isplitr; swap; · iexact HS2
      ipureintro; rfl
    isplitl [HS3]; · iexists _; iexact HS3
    isplitl [HS4]; · iexists _; iexact HS4
    isplitl [HS5]
    · iexists _, _; isplitr; swap; · iexact HS5
      ipureintro; rfl
    iexists _, _; isplitr; swap; · iexact HS6
    ipureintro; rfl

end Cert.KernelIdeal.Own

end
-- ==== Proof.Frame.lean ====
module

public import proofs.«01_k».proof.Proof.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (1 store of `S1x1024x128`, checked by the kernel's evaluation: Lib/Ring.lean `Piece.tiledL`, linear in the pieces, through a loop's `@[irreducible]` trip theorem too), so they cover it. -/
theorem cover0_A_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (y : S1x1024x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).1 S1x1024x128.size (by sl_kernel_rfl) y

/-- What case A leaves in output 6's staging buffer: its pieces read back over junk. -/
def out0_A_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) : Vec F S1x1024x128 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).1)

/-- Case A's pieces for scratch `arg11`, which the kernel carries between points, cover it: 16 pieces of `S1x128x512` tiling it (Lib/Ring.lean `Piece.tiledL`). -/
theorem scover0_A_1 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (y : S16x128x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1 S1x128x512.size (by sl_kernel_rfl) y

/-- What case A leaves in scratch `arg11`: its pieces read back over junk. -/
def sout0_A_1 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) : Vec F S16x128x512 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1)

/-- Case A's pieces for scratch `arg13`, which the kernel carries between points, cover it: one of them a store of the WHOLE buffer (Lib/Ring.lean `sl_whole_mem`). -/
theorem scover0_A_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (y : S1x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1 (by sl_whole_mem) y

/-- What case A leaves in scratch `arg13`: its pieces read back over junk. -/
def sout0_A_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) : Vec F S1x2048 .f32 :=
  VS0_3.read (Elt F) (VS0_3.writes (Elt F) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1)

/-- Case A's pieces for scratch `arg14`, which the kernel carries between points, cover it: one of them a store of the WHOLE buffer (Lib/Ring.lean `sl_whole_mem`). -/
theorem scover0_A_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (y : S128x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1 (by sl_whole_mem) y

/-- What case A leaves in scratch `arg14`: its pieces read back over junk. -/
def sout0_A_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) : Vec F S128x2048 .f32 :=
  VS0_4.read (Elt F) (VS0_4.writes (Elt F) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.1)

/-- Case B's pieces for output 6 tile its block (1 store of `S1x1024x128`, checked by the kernel's evaluation: Lib/Ring.lean `Piece.tiledL`, linear in the pieces, through a loop's `@[irreducible]` trip theorem too), so they cover it. -/
theorem cover0_B_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S1x1024x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1 S1x1024x128.size (by sl_kernel_rfl) y

/-- What case B leaves in output 6's staging buffer: its pieces read back over junk. -/
def out0_B_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S1x1024x128 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1)

/-- Case B stores nothing into scratch `arg11`: it holds what the point before left. -/
def sout0_B_1 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S16x128x512 .bf16 := xs1

/-- Case B's pieces for scratch `arg13`, which the kernel carries between points, cover it: one of them a store of the WHOLE buffer (Lib/Ring.lean `sl_whole_mem`). -/
theorem scover0_B_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S1x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1, y ∈ pc.1.set :=
  View.cover_of_wholeMem (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1 (by sl_whole_mem) y

/-- What case B leaves in scratch `arg13`: its pieces read back over junk. -/
def sout0_B_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S1x2048 .f32 :=
  VS0_3.read (Elt F) (VS0_3.writes (Elt F) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1)

/-- Case B's pieces for scratch `arg14`, which the kernel carries between points, cover it: one of them a store of the WHOLE buffer (Lib/Ring.lean `sl_whole_mem`). -/
theorem scover0_B_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S128x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1, y ∈ pc.1.set :=
  View.cover_of_wholeMem (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1 (by sl_whole_mem) y

/-- What case B leaves in scratch `arg14`: its pieces read back over junk. -/
def sout0_B_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S128x2048 .f32 :=
  VS0_4.read (Elt F) (VS0_4.writes (Elt F) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1)

/-- Case C's pieces for output 6 tile its block (1 store of `S1x1024x128`, checked by the kernel's evaluation: Lib/Ring.lean `Piece.tiledL`, linear in the pieces, through a loop's `@[irreducible]` trip theorem too), so they cover it. -/
theorem cover0_C_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S1x1024x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1 S1x1024x128.size (by sl_kernel_rfl) y

/-- What case C leaves in output 6's staging buffer: its pieces read back over junk. -/
def out0_C_6 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S1x1024x128 .bf16 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1)

/-- Case C stores nothing into scratch `arg11`: it holds what the point before left. -/
def sout0_C_1 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S16x128x512 .bf16 := xs1

/-- Case C's pieces for scratch `arg13`, which the kernel carries between points, cover it: one of them a store of the WHOLE buffer (Lib/Ring.lean `sl_whole_mem`). -/
theorem scover0_C_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S1x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1, y ∈ pc.1.set :=
  View.cover_of_wholeMem (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1 (by sl_whole_mem) y

/-- What case C leaves in scratch `arg13`: its pieces read back over junk. -/
def sout0_C_3 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S1x2048 .f32 :=
  VS0_3.read (Elt F) (VS0_3.writes (Elt F) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1)

/-- Case C's pieces for scratch `arg14`, which the kernel carries between points, cover it: one of them a store of the WHOLE buffer (Lib/Ring.lean `sl_whole_mem`). -/
theorem scover0_C_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) (y : S128x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1, y ∈ pc.1.set :=
  View.cover_of_wholeMem (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1 (by sl_whole_mem) y

/-- What case C leaves in scratch `arg14`: its pieces read back over junk. -/
def sout0_C_4 (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32) : Vec F S128x2048 .f32 :=
  VS0_4.read (Elt F) (VS0_4.writes (Elt F) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x128 .bf16 × Vec F S16x128x512 .bf16 × Vec F S1x2048 .f32 × Vec F S128x2048 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 9 = 0 then
      if h1 : (n + 1) % 9 ≤ 7 then
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 144 := lt_of_lt_of_eq hn (show cfg0.N = 144 from N_0); omega)
    else
      if h1 : (n + 1) % 9 ≤ 7 then
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 9 = 0) (h1 : t.val % 9 ≤ 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 9 = 0) (h1 : t.val % 9 ≤ 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents, over what the point before left. -/
theorem outsAt0_C (c : Dev nD) (t : Fin cfg0.N) (h0 : ¬t.val % 9 = 0) (h1 : ¬t.val % 9 ≤ 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ owns (c : Thread nD τ) scM0_4 fullShare ((outsAt0 m c n hn).2.2.2) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2.1) ∗ owns (c : Thread nD τ) scM0_4 fullShare ((outsAt0 m c (n - 1) (by omega)).2.2.2) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 144 := lt_of_lt_of_eq t.isLt (show cfg0.N = 144 from N_0)
  by_cases h0 : t.val % 9 = 0
  · by_cases h1 : t.val % 9 ≤ 7
    · by_cases hz : t.val = 0
      · rw [PhiS_castSucc m c t, PhiS_zero m c _ _ hz, PhiA0_eq]
        rw [outsAt0_A m c t h0 h1]
        unfold out0_A_6 sout0_A_1 sout0_A_3 sout0_A_4; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, ⟨%e6, H6⟩, HS0, ⟨%es1, HS1⟩, HS2, ⟨%es3, HS3⟩, ⟨%es4, HS4⟩, HS5, HS6⟩
        isplitl [HS0 HS1 HS2 HS3 HS4 HS5 HS6 Hg]
        · isplitl [HS0 HS1 HS2 HS3 HS4 HS5 HS6]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _)
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_6 sout0_A_1 sout0_A_3 sout0_A_4; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexists _; iexact HS1
        isplitl [HS2]; · iexact HS2
        isplitl [HS3]; · iexists _; iexact HS3
        isplitl [HS4]; · iexists _; iexact HS4
        isplitl [HS5]; · iexact HS5
        isplitl [HS6]; · iexact HS6
        iintro ⟨H0, H1, H2, H3, H4, H5, ⟨%e6, H6⟩, HS0, ⟨%es1, HS1⟩, HS2, ⟨%es3, HS3⟩, ⟨%es4, HS4⟩, HS5, HS6⟩
        isplitl [HS0 HS1 HS2 HS3 HS4 HS5 HS6 Hg]
        · isplitl [HS0 HS1 HS2 HS3 HS4 HS5 HS6]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _)
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _)
    · exfalso; omega
  · by_cases h1 : t.val % 9 ≤ 7
    · by_cases hz : t.val = 0
      · exfalso; have hN : t.val < 144 := lt_of_lt_of_eq t.isLt (show cfg0.N = 144 from N_0); omega
      · rw [PhiS_castSucc m c t, PhiS_pos m c _ _ hz]
        rw [outsAt0_B m c t h0 h1]
        unfold out0_B_6 sout0_B_1 sout0_B_3 sout0_B_4; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, ⟨%e6, H6⟩, HS0, HS1, HS2, ⟨%es3, HS3⟩, ⟨%es4, HS4⟩, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _)
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _)
    · by_cases hz : t.val = 0
      · exfalso; have hN : t.val < 144 := lt_of_lt_of_eq t.isLt (show cfg0.N = 144 from N_0); omega
      · rw [PhiS_castSucc m c t, PhiS_pos m c _ _ hz]
        rw [outsAt0_C m c t h0 h1]
        unfold out0_C_6 sout0_C_1 sout0_C_3 sout0_C_4; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, ⟨%e6, H6⟩, HS0, HS1, HS2, ⟨%es3, HS3⟩, ⟨%es4, HS4⟩, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _)
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexact HS2
    isplitl [HS3]
    · iexists _; iexact HS3
    isplitl [HS4]
    · iexists _; iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 144 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Own

end
-- ==== Proof.Value.lean ====
module

public import proofs.«01_k».proof.Proof.Frame
public import Idealize.ShloMosaic.Lib.Pipeline.Value

@[expose] public section

noncomputable section

namespace Cert.KernelIdeal.OwnValue

open Cert.KernelIdeal Cert.KernelIdeal.Own Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

-- no `blocks6`: window 6's index map revisits a block index, or its points could not be enumerated here;
-- the final array is still the frame's `arrAt`, to read with Lib/Pipeline/Value.lean's lemmas by hand

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 9)
    stores the scratch whole without reading what it held, and `acc` does not enter there (nor where no point meets the
    conditions: `acc`, never read). -/
def scAt0_1 (c : Dev nD) (n : ℕ) (hb : n < cfg0.N) (acc : Vec F S16x128x512 .bf16) : Vec F S16x128x512 .bf16 :=
  if h0 : n % 9 = 0 then
    if h1 : n % 9 ≤ 7 then
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : n % 9 ≤ 7 then
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2
    else
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the points ≡ 0 (mod 9)
    stores the scratch whole without reading what it held, and `acc` does not enter there (nor where no point meets the
    conditions: `acc`, never read). -/
def scAt0_3 (c : Dev nD) (n : ℕ) (hb : n < cfg0.N) (acc : Vec F S1x2048 .f32) : Vec F S1x2048 .f32 :=
  if h0 : n % 9 = 0 then
    if h1 : n % 9 ≤ 7 then
      sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : n % 9 ≤ 7 then
      sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2
    else
      sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (outsAt0 m c ((⟨n, hb⟩ : Fin cfg0.N).val - 1) (Nat.lt_of_le_of_lt (Nat.sub_le _ _) (⟨n, hb⟩ : Fin cfg0.N).isLt)).2.2.2

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the points ≡ 0 (mod 9)
    stores the scratch whole without reading what it held, and `acc` does not enter there (nor where no point meets the
    conditions: `acc`, never read). -/
def scAt0_4 (c : Dev nD) (n : ℕ) (hb : n < cfg0.N) (acc : Vec F S128x2048 .f32) : Vec F S128x2048 .f32 :=
  if h0 : n % 9 = 0 then
    if h1 : n % 9 ≤ 7 then
      sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
    else
      acc
  else
    if h1 : n % 9 ≤ 7 then
      sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc
    else
      sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc

end Cert.KernelIdeal.OwnValue

end
-- ==== Proof.Phase.lean ====
module

public import proofs.«01_k».proof.Proof.LoopI
public import Idealize.ShloMosaic.Lib.WritesUnit

/-! One pass over a key block, strip by strip, with what it leaves in the running maximum, the running sum and the accumulator. -/

@[expose] public section

set_option maxRecDepth 16384

noncomputable section

namespace Cert.KernelIdeal.Own

open Idealize.ShloMosaic Idealize.ShloMosaic.TcCoe Idealize.ShloMosaic.Tactic
open Cert.KernelIdeal.Gen

variable {F : FTy → Type} [FloatOps F] [Named F]

/-- The new running maximum of a strip. -/
def colMax (s : FVec F S512x256 .f32) (m : FVec F S1x256 .f32) : FVec F S1x256 .f32 :=
  maximumf m (shapeCast S1x256 (multiReduction .maximumf [0] S256 s 0xFF800000#32 reduces_S512x256_S256 (.inl rfl) rfl) shapeCasts_S256_S1x256)

/-- It as stored. -/
def stepM (s : FVec F S512x256 .f32) (m : FVec F S1x256 .f32) : FVec F S1x256 .f32 :=
  shapeCast S1x256 (colMax s m) shapeCasts_S1x256_S1x256

/-- The weights of a strip against its new maximum. -/
def stepP (s : FVec F S512x256 .f32) (m : FVec F S1x256 .f32) : FVec F S512x256 .f32 :=
  exp2 (subf s (broadcastTo S512x256 (colMax s m) broadcasts_S1x256_S512x256))

/-- The new running sum of a strip. -/
def stepL (s : FVec F S512x256 .f32) (m l : FVec F S1x256 .f32) : FVec F S1x256 .f32 :=
  shapeCast S1x256 (addf (mulf (exp2 (subf m (colMax s m))) l)
    (shapeCast S1x256 (multiReduction .add [0] S256 (stepP s m) 0x00000000#32 reduces_S512x256_S256 (.inl rfl) rfl) shapeCasts_S256_S1x256)) shapeCasts_S1x256_S1x256

/-- The new accumulator of a strip. -/
def stepA (vt : FVec F S128x512 .bf16) (s : FVec F S512x256 .f32) (m : FVec F S1x256 .f32) (a : FVec F S128x256 .f32) : FVec F S128x256 .f32 :=
  shapeCast S128x256 (addf (mulf (broadcastTo S128x256 (exp2 (subf m (colMax s m))) broadcasts_S1x256_S128x256) a)
    (matmul dot_S128x512_S512x256_S128x256_1_0_0_1_n_n none vt (truncf .bf16 (stepP s m) bitsLt_bf16_f32) (constant S128x256 .f32 0x00000000#32))) shapeCasts_S128x256_S128x256

/-- The scores of a strip against a key block. -/
def scores (kb : FVec F S512x128 .bf16) (q : FVec F S128x256 .bf16) : FVec F S512x256 .f32 :=
  shapeCast S512x256 (matmul dot_S512x128_S128x256_S512x256_1_0_0_1_n_n none kb q (constant S512x256 .f32 0x00000000#32)) shapeCasts_S512x256_S512x256

theorem strip_inb (a : ℕ) (r : Fin 8) : ∀ x, (![0, 256 * r.val] : Fin 2 → ℕ) x + (![a, 256] : Fin 2 → ℕ) x ≤ (⟨2, ![a, 2048]⟩ : Shape).size x := by
  intro x
  have := r.isLt
  fin_cases x <;> simp <;> omega

/-- Columns `256 r` to `256 r + 255`. -/
abbrev strip (a : ℕ) (r : Fin 8) : Rect ⟨2, ![a, 2048]⟩ := Rect.unit ![0, 256 * r.val] ![a, 256] (strip_inb a r)

section Reads

variable {sig : RefSig} {κ : Kind} {sp : Space} {a : ℕ} {e : EltTy} {Val : EltTy → Type}

/-- A strip just written reads back. -/
theorem strip_same (v : View sig κ sp ⟨2, ![a, 2048]⟩ e) (f : v.ty.Contents Val) (r : Fin 8) (w : (strip a r).shape.Idx → Val e)
    (L : List (View.Piece Val ⟨2, ![a, 2048]⟩ e)) :
    v.readAt Val (strip a r).toLoadRect (v.writes Val f (⟨strip a r, w⟩ :: L)) = w :=
  funext fun x => View.read_writes_cons_emb v f (strip a r) w L x

/-- Another strip reads what it read before. -/
theorem strip_other (v : View sig κ sp ⟨2, ![a, 2048]⟩ e) (f : v.ty.Contents Val) (r r' : Fin 8) (h : r ≠ r') (w : (strip a r').shape.Idx → Val e)
    (L : List (View.Piece Val ⟨2, ![a, 2048]⟩ e)) :
    v.readAt Val (strip a r).toLoadRect (v.writes Val f (⟨strip a r', w⟩ :: L)) = v.readAt Val (strip a r).toLoadRect (v.writes Val f L) :=
  funext fun x => View.read_writes_cons_unit_of_not_mem v f (strip_inb a r') w L ((strip a r).toLoadRect.idx x) rfl 1 (by
    have hx : (x 1).val < 256 := (x 1).isLt
    have h' : r.val ≠ r'.val := fun h'' => h (Fin.ext h'')
    show 256 * r.val + 1 * (x 1).val < 256 * r'.val ∨ 256 * r'.val + 256 ≤ 256 * r.val + 1 * (x 1).val
    omega)

/-- Pieces over strips, the last strip of the list first. -/
def fillL (w : (r : Fin 8) → (strip a r).shape.Idx → Val e) (L : List (View.Piece Val ⟨2, ![a, 2048]⟩ e)) : List (Fin 8) → List (View.Piece Val ⟨2, ![a, 2048]⟩ e)
  | [] => L
  | r :: rs => ⟨strip a r, w r⟩ :: fillL w L rs

theorem fillL_in (v : View sig κ sp ⟨2, ![a, 2048]⟩ e) (f : v.ty.Contents Val) (w : (r : Fin 8) → (strip a r).shape.Idx → Val e)
    (L : List (View.Piece Val ⟨2, ![a, 2048]⟩ e)) (r : Fin 8) : ∀ rs : List (Fin 8), r ∈ rs →
      v.readAt Val (strip a r).toLoadRect (v.writes Val f (fillL w L rs)) = w r
  | r' :: rs, h => by
    by_cases hr : r = r'
    · subst hr; exact strip_same v f r _ _
    · rw [fillL, strip_other v f r r' hr]; exact fillL_in v f w L r rs (by simpa [hr] using h)

theorem fillL_out (v : View sig κ sp ⟨2, ![a, 2048]⟩ e) (f : v.ty.Contents Val) (w : (r : Fin 8) → (strip a r).shape.Idx → Val e)
    (L : List (View.Piece Val ⟨2, ![a, 2048]⟩ e)) (r : Fin 8) : ∀ rs : List (Fin 8), r ∉ rs →
      v.readAt Val (strip a r).toLoadRect (v.writes Val f (fillL w L rs)) = v.readAt Val (strip a r).toLoadRect (v.writes Val f L)
  | [], _ => rfl
  | r' :: rs, h => by
    rw [fillL, strip_other v f r r' (by rintro rfl; exact h List.mem_cons_self)]; exact fillL_out v f w L r rs (fun h' => h (List.mem_cons_of_mem _ h'))

/-- Pieces each of which is made from what its strip read before it. -/
def passL (rd : List (View.Piece Val ⟨2, ![a, 2048]⟩ e) → (r : Fin 8) → (strip a r).shape.Idx → Val e)
    (w : (r : Fin 8) → ((strip a r).shape.Idx → Val e) → List (Fin 8) → (strip a r).shape.Idx → Val e)
    (L : List (View.Piece Val ⟨2, ![a, 2048]⟩ e)) : List (Fin 8) → List (View.Piece Val ⟨2, ![a, 2048]⟩ e)
  | [] => L
  | r :: rs => ⟨strip a r, w r (rd (passL rd w L rs) r) rs⟩ :: passL rd w L rs

end Reads

section Pass

variable {sig : RefSig} {κ : Kind} {sp : Space} {a : ℕ} {e : EltTy} {Val : EltTy → Type} [∀ e, Nonempty (Val e)]

theorem passL_in (v : View sig κ sp ⟨2, ![a, 2048]⟩ e) (f : v.ty.Contents Val)
    (w : (r : Fin 8) → ((strip a r).shape.Idx → Val e) → List (Fin 8) → (strip a r).shape.Idx → Val e)
    (w' : (r : Fin 8) → ((strip a r).shape.Idx → Val e) → (strip a r).shape.Idx → Val e)
    (L : List (View.Piece Val ⟨2, ![a, 2048]⟩ e)) (r : Fin 8) : ∀ rs : List (Fin 8), rs.Nodup → (∀ rs' r' x, r' ∉ rs' → w r' x rs' = w' r' x) →
      v.readAt Val (strip a r).toLoadRect (v.writes Val f (passL (fun L r => v.readCov L (strip a r).toLoadRect) w L rs))
        = if r ∈ rs then w' r (v.readCov L (strip a r).toLoadRect) else v.readAt Val (strip a r).toLoadRect (v.writes Val f L)
  | [], _, _ => rfl
  | r' :: rs, hn, hw => by
    have hn' := List.nodup_cons.mp hn
    by_cases hr : r = r'
    · subst hr
      rw [passL, strip_same, if_pos List.mem_cons_self, hw _ _ _ hn'.1]
      have := passL_in v v.junk w w' L r rs hn'.2 hw
      rw [if_neg hn'.1] at this
      exact congrArg _ this
    · rw [passL, strip_other v f r r' hr, passL_in v f w w' L r rs hn'.2 hw]
      simp only [List.mem_cons, hr, false_or]

end Pass

/-- The pieces a pass leaves in the running maximum. -/
def mPass {κ : Kind} {sp : Space} (v : View sig κ sp S1x2048 .f32) (S : Fin 8 → FVec F S512x256 .f32) (L : List (View.Piece (Elt F) S1x2048 .f32)) (rs : List (Fin 8)) :
    List (View.Piece (Elt F) S1x2048 .f32) :=
  passL (a := 1) (fun L r => v.readCov L (strip 1 r).toLoadRect) (fun r x _ => stepM (S r) x) L rs

/-- The pieces a pass leaves in the running sum. -/
def lPass {κ : Kind} {sp : Space} (v w : View sig κ sp S1x2048 .f32) (S : Fin 8 → FVec F S512x256 .f32) (L M : List (View.Piece (Elt F) S1x2048 .f32)) (rs : List (Fin 8)) :
    List (View.Piece (Elt F) S1x2048 .f32) :=
  passL (a := 1) (fun L r => w.readCov L (strip 1 r).toLoadRect) (fun r x rs => stepL (S r) (v.readCov (mPass v S L rs) (strip 1 r).toLoadRect) x) M rs

/-- The pieces a pass leaves in the accumulator. -/
def aPass {κ : Kind} {sp : Space} (v : View sig κ sp S1x2048 .f32) (w : View sig κ sp S128x2048 .f32) (vt : FVec F S128x512 .bf16) (S : Fin 8 → FVec F S512x256 .f32)
    (L : List (View.Piece (Elt F) S1x2048 .f32)) (M : List (View.Piece (Elt F) S128x2048 .f32)) (rs : List (Fin 8)) :
    List (View.Piece (Elt F) S128x2048 .f32) :=
  passL (a := 128) (fun L r => w.readCov L (strip 128 r).toLoadRect) (fun r x rs => stepA vt (S r) (v.readCov (mPass v S L rs) (strip 1 r).toLoadRect) x) M rs

theorem mPass_read {κ : Kind} {sp : Space} (v : View sig κ sp S1x2048 .f32) (S : Fin 8 → FVec F S512x256 .f32) (L : List (View.Piece (Elt F) S1x2048 .f32))
    (rs : List (Fin 8)) (hn : rs.Nodup) (f : v.ty.Contents (Elt F)) (r : Fin 8) :
    v.readAt (Elt F) (strip 1 r).toLoadRect (v.writes (Elt F) f (mPass v S L rs))
      = if r ∈ rs then stepM (S r) (v.readCov L (strip 1 r).toLoadRect) else v.readAt (Elt F) (strip 1 r).toLoadRect (v.writes (Elt F) f L) :=
  passL_in (a := 1) v f _ (fun r x => stepM (S r) x) L r rs hn fun _ _ _ _ => rfl

theorem mPass_cov {κ : Kind} {sp : Space} (v : View sig κ sp S1x2048 .f32) (S : Fin 8 → FVec F S512x256 .f32) (L : List (View.Piece (Elt F) S1x2048 .f32))
    (rs : List (Fin 8)) (hn : rs.Nodup) (r : Fin 8) :
    v.readCov (mPass v S L rs) (strip 1 r).toLoadRect
      = if r ∈ rs then stepM (S r) (v.readCov L (strip 1 r).toLoadRect) else v.readCov L (strip 1 r).toLoadRect :=
  mPass_read v S L rs hn v.junk r

theorem mPass_out {κ : Kind} {sp : Space} (v : View sig κ sp S1x2048 .f32) (S : Fin 8 → FVec F S512x256 .f32) (L : List (View.Piece (Elt F) S1x2048 .f32))
    (f : v.ty.Contents (Elt F)) (r : Fin 8) : ∀ (rs : List (Fin 8)), r ∉ rs →
    v.readAt (Elt F) (strip 1 r).toLoadRect (v.writes (Elt F) f (mPass v S L rs)) = v.readAt (Elt F) (strip 1 r).toLoadRect (v.writes (Elt F) f L)
  | [], _ => rfl
  | r' :: rs, h => by
    refine (strip_other (a := 1) v f r r' (by rintro rfl; exact h List.mem_cons_self) _ _).trans ?_
    exact mPass_out v S L f r rs (fun h' => h (List.mem_cons_of_mem _ h'))

theorem lPass_read {κ : Kind} {sp : Space} (v w : View sig κ sp S1x2048 .f32) (S : Fin 8 → FVec F S512x256 .f32) (L M : List (View.Piece (Elt F) S1x2048 .f32))
    (rs : List (Fin 8)) (hn : rs.Nodup) (f : w.ty.Contents (Elt F)) (r : Fin 8) :
    w.readAt (Elt F) (strip 1 r).toLoadRect (w.writes (Elt F) f (lPass v w S L M rs))
      = if r ∈ rs then stepL (S r) (v.readCov L (strip 1 r).toLoadRect) (w.readCov M (strip 1 r).toLoadRect)
        else w.readAt (Elt F) (strip 1 r).toLoadRect (w.writes (Elt F) f M) :=
  passL_in (a := 1) w f _ (fun r x => stepL (S r) (v.readCov L (strip 1 r).toLoadRect) x) M r rs hn fun rs' r' x h =>
    congrArg (fun y => stepL (S r') y x) (mPass_out v S L v.junk r' rs' h)

theorem aPass_read {κ : Kind} {sp : Space} (v : View sig κ sp S1x2048 .f32) (w : View sig κ sp S128x2048 .f32) (vt : FVec F S128x512 .bf16) (S : Fin 8 → FVec F S512x256 .f32)
    (L : List (View.Piece (Elt F) S1x2048 .f32)) (M : List (View.Piece (Elt F) S128x2048 .f32))
    (rs : List (Fin 8)) (hn : rs.Nodup) (f : w.ty.Contents (Elt F)) (r : Fin 8) :
    w.readAt (Elt F) (strip 128 r).toLoadRect (w.writes (Elt F) f (aPass v w vt S L M rs))
      = if r ∈ rs then stepA vt (S r) (v.readCov L (strip 1 r).toLoadRect) (w.readCov M (strip 128 r).toLoadRect)
        else w.readAt (Elt F) (strip 128 r).toLoadRect (w.writes (Elt F) f M) :=
  passL_in (a := 128) w f _ (fun r x => stepA vt (S r) (v.readCov L (strip 1 r).toLoadRect) x) M r rs hn fun rs' r' x h =>
    congrArg (fun y => stepA vt (S r') y x) (mPass_out v S L v.junk r' rs' h)

/-- All strips, the last first. -/
abbrev rs8 : List (Fin 8) := [7, 6, 5, 4, 3, 2, 1, 0]

/-- The strips the second diagonal block reaches. -/
abbrev rs4 : List (Fin 8) := [7, 6, 3, 2]

end Cert.KernelIdeal.Own

end
-- ==== Proof.Trip.lean ====
module

public import proofs.«01_k».proof.Proof.Phase

/-! A trip of the loop over the key blocks before the diagonal is two passes, the scores of the next block made before each. -/

@[expose] public section

set_option maxRecDepth 16384
set_option maxHeartbeats 8000000

noncomputable section

namespace Cert.KernelIdeal.Own

open Idealize.ShloMosaic Idealize.ShloMosaic.TcCoe Idealize.ShloMosaic.Tactic
open Cert.KernelIdeal.Gen

variable {F : FTy → Type} [FloatOps F] [Named F]

/-- A key block. -/
def keys {κ : Kind} {sp : Space} (v : View sig κ sp S1x8192x128 .bf16) (X : v.ty.Contents (Elt F)) (off : Fin 3 → ℕ)
    (h : ∀ a, off a + S1x512x128.size a ≤ S1x8192x128.size a) : FVec F S512x128 .bf16 :=
  shapeCast S512x128 (v.readAt (Elt F) (Rect.unit (s := S1x8192x128) off S1x512x128.size h).toLoadRect X) shapeCasts_S1x512x128_S512x128

/-- A transposed value block. -/
def vals {κ : Kind} {sp : Space} (v : View sig κ sp S16x128x512 .bf16) (X : v.ty.Contents (Elt F)) (off : Fin 3 → ℕ)
    (h : ∀ a, off a + S1x128x512.size a ≤ S16x128x512.size a) : FVec F S128x512 .bf16 :=
  shapeCast S128x512 (v.readAt (Elt F) (Rect.unit (s := S16x128x512) off S1x128x512.size h).toLoadRect X) shapeCasts_S1x128x512_S128x512

/-- The scores of every strip against a key block. -/
def scoresOf {κ : Kind} {sp : Space} (kb : FVec F S512x128 .bf16) (v : View sig κ sp S128x2048 .bf16) (X : v.ty.Contents (Elt F)) (r : Fin 8) : FVec F S512x256 .f32 :=
  scores kb (v.readAt (Elt F) (strip 128 r).toLoadRect X)

/-- The first query of a strip. -/
def qlo (r : Fin 8) : BitVec 32 := BitVec.ofNat 32 (256 * (r.val % 4))

/-- The scores of a diagonal block with those of later keys cut. -/
def masked (off lo : BitVec 32) (s : FVec F S512x256 .f32) : FVec F S512x256 .f32 :=
  select (cmpi .sle (addi (iota .tc S512x256 32 [0] iota_S512x256_d0_w32) (broadcast S512x256 off)) (addi (iota .tc S512x256 32 [1] iota_S512x256_d1_w32) (broadcast S512x256 lo))) s
    (broadcast S512x256 (Scalar.ofBits (F := F) .f32 0xFF800000#32))

section Names

variable (i : grid0.Coords) (arg3 : Memref sig .tc .vmem S1x1024x128 .f32) (arg4 : Memref sig .tc .vmem S1x8192x128 .bf16) (arg5 : Memref sig .tc .vmem S1x8192x128 .bf16) (arg6 : Memref sig .tc .vmem S1x1024x128 .f32) (arg7 : Memref sig .tc .vmem S8x128 .f32) (arg8 : Memref sig .tc .vmem S1x128 .f32) (arg9 : Memref sig .tc .vmem S1x1024x128 .bf16) (arg10 : Memref sig .tc .vmem S128x2048 .bf16) (arg11 : Memref sig .tc .vmem S16x128x512 .bf16) (arg12 : Memref sig .tc .vmem S1x2048 .f32) (arg13 : Memref sig .tc .vmem S1x2048 .f32) (arg14 : Memref sig .tc .vmem S128x2048 .f32) (arg15 : Memref sig .tc .vmem S512x2048 .f32) (arg16 : Memref sig .tc .vmem S512x2048 .f32) (X_arg4 : BufTy.Contents (Elt F) arg4.view.ty) (X_arg10 : BufTy.Contents (Elt F) arg10.view.ty) (X_arg11 : BufTy.Contents (Elt F) arg11.view.ty) (k : Fin (k0_t1_loop i).trips) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)

theorem t_sb7 (h1 : ∀ a, k0_off1 i k a + S1x512x128.size a ≤ S1x8192x128.size a) : (trip_k0_t1.sl.v197 (F := F) i arg4 arg10 X_arg4 X_arg10 k) = scoresOf (keys arg4.view X_arg4 (k0_off1 i k) h1) arg10.view X_arg10 7 := rfl

theorem t_sb6 (h1 : ∀ a, k0_off1 i k a + S1x512x128.size a ≤ S1x8192x128.size a) : (trip_k0_t1.sl.v192 (F := F) i arg4 arg10 X_arg4 X_arg10 k) = scoresOf (keys arg4.view X_arg4 (k0_off1 i k) h1) arg10.view X_arg10 6 := rfl

theorem t_sb5 (h1 : ∀ a, k0_off1 i k a + S1x512x128.size a ≤ S1x8192x128.size a) : (trip_k0_t1.sl.v187 (F := F) i arg4 arg10 X_arg4 X_arg10 k) = scoresOf (keys arg4.view X_arg4 (k0_off1 i k) h1) arg10.view X_arg10 5 := rfl

theorem t_sb4 (h1 : ∀ a, k0_off1 i k a + S1x512x128.size a ≤ S1x8192x128.size a) : (trip_k0_t1.sl.v182 (F := F) i arg4 arg10 X_arg4 X_arg10 k) = scoresOf (keys arg4.view X_arg4 (k0_off1 i k) h1) arg10.view X_arg10 4 := rfl

theorem t_sb3 (h1 : ∀ a, k0_off1 i k a + S1x512x128.size a ≤ S1x8192x128.size a) : (trip_k0_t1.sl.v177 (F := F) i arg4 arg10 X_arg4 X_arg10 k) = scoresOf (keys arg4.view X_arg4 (k0_off1 i k) h1) arg10.view X_arg10 3 := rfl

theorem t_sb2 (h1 : ∀ a, k0_off1 i k a + S1x512x128.size a ≤ S1x8192x128.size a) : (trip_k0_t1.sl.v172 (F := F) i arg4 arg10 X_arg4 X_arg10 k) = scoresOf (keys arg4.view X_arg4 (k0_off1 i k) h1) arg10.view X_arg10 2 := rfl

theorem t_sb1 (h1 : ∀ a, k0_off1 i k a + S1x512x128.size a ≤ S1x8192x128.size a) : (trip_k0_t1.sl.v167 (F := F) i arg4 arg10 X_arg4 X_arg10 k) = scoresOf (keys arg4.view X_arg4 (k0_off1 i k) h1) arg10.view X_arg10 1 := rfl

theorem t_sb0 (h1 : ∀ a, k0_off1 i k a + S1x512x128.size a ≤ S1x8192x128.size a) : (trip_k0_t1.sl.v162 (F := F) i arg4 arg10 X_arg4 X_arg10 k) = scoresOf (keys arg4.view X_arg4 (k0_off1 i k) h1) arg10.view X_arg10 0 := rfl

theorem t_sb (h1 : ∀ a, k0_off1 i k a + S1x512x128.size a ≤ S1x8192x128.size a) : (trip_k0_t1.sl.HW_arg16_8 (F := F) i arg4 arg10 X_arg4 X_arg10 k) = fillL (a := 512) (Val := Elt F) (e := .f32) (scoresOf (keys arg4.view X_arg4 (k0_off1 i k) h1) arg10.view X_arg10) [] rs8 := by
  unfold trip_k0_t1.sl.HW_arg16_8
  rw [t_sb0 (h1 := h1), t_sb1 (h1 := h1), t_sb2 (h1 := h1), t_sb3 (h1 := h1), t_sb4 (h1 := h1), t_sb5 (h1 := h1), t_sb6 (h1 := h1), t_sb7 (h1 := h1)]
  rfl

theorem t_sa7 (h3 : ∀ a, k0_off3 i k a + S1x512x128.size a ≤ S1x8192x128.size a) : (trip_k0_t1.sl.v488 (F := F) i arg4 arg10 X_arg4 X_arg10 k) = scoresOf (keys arg4.view X_arg4 (k0_off3 i k) h3) arg10.view X_arg10 7 := rfl

theorem t_sa6 (h3 : ∀ a, k0_off3 i k a + S1x512x128.size a ≤ S1x8192x128.size a) : (trip_k0_t1.sl.v483 (F := F) i arg4 arg10 X_arg4 X_arg10 k) = scoresOf (keys arg4.view X_arg4 (k0_off3 i k) h3) arg10.view X_arg10 6 := rfl

theorem t_sa5 (h3 : ∀ a, k0_off3 i k a + S1x512x128.size a ≤ S1x8192x128.size a) : (trip_k0_t1.sl.v478 (F := F) i arg4 arg10 X_arg4 X_arg10 k) = scoresOf (keys arg4.view X_arg4 (k0_off3 i k) h3) arg10.view X_arg10 5 := rfl

theorem t_sa4 (h3 : ∀ a, k0_off3 i k a + S1x512x128.size a ≤ S1x8192x128.size a) : (trip_k0_t1.sl.v473 (F := F) i arg4 arg10 X_arg4 X_arg10 k) = scoresOf (keys arg4.view X_arg4 (k0_off3 i k) h3) arg10.view X_arg10 4 := rfl

theorem t_sa3 (h3 : ∀ a, k0_off3 i k a + S1x512x128.size a ≤ S1x8192x128.size a) : (trip_k0_t1.sl.v468 (F := F) i arg4 arg10 X_arg4 X_arg10 k) = scoresOf (keys arg4.view X_arg4 (k0_off3 i k) h3) arg10.view X_arg10 3 := rfl

theorem t_sa2 (h3 : ∀ a, k0_off3 i k a + S1x512x128.size a ≤ S1x8192x128.size a) : (trip_k0_t1.sl.v463 (F := F) i arg4 arg10 X_arg4 X_arg10 k) = scoresOf (keys arg4.view X_arg4 (k0_off3 i k) h3) arg10.view X_arg10 2 := rfl

theorem t_sa1 (h3 : ∀ a, k0_off3 i k a + S1x512x128.size a ≤ S1x8192x128.size a) : (trip_k0_t1.sl.v458 (F := F) i arg4 arg10 X_arg4 X_arg10 k) = scoresOf (keys arg4.view X_arg4 (k0_off3 i k) h3) arg10.view X_arg10 1 := rfl

theorem t_sa0 (h3 : ∀ a, k0_off3 i k a + S1x512x128.size a ≤ S1x8192x128.size a) : (trip_k0_t1.sl.v453 (F := F) i arg4 arg10 X_arg4 X_arg10 k) = scoresOf (keys arg4.view X_arg4 (k0_off3 i k) h3) arg10.view X_arg10 0 := rfl

theorem t_m1_7  : (trip_k0_t1.sl.v375 (F := F) arg12 arg15 f_arg12 f_arg15) = stepM (arg15.view.readAt (Elt F) (strip 512 7).toLoadRect f_arg15) (arg12.view.readAt (Elt F) (strip 1 7).toLoadRect f_arg12) := rfl

theorem t_m1_6  : (trip_k0_t1.sl.v353 (F := F) arg12 arg15 f_arg12 f_arg15) = stepM (arg15.view.readAt (Elt F) (strip 512 6).toLoadRect f_arg15) (arg12.view.readAt (Elt F) (strip 1 6).toLoadRect f_arg12) := rfl

theorem t_m1_5  : (trip_k0_t1.sl.v331 (F := F) arg12 arg15 f_arg12 f_arg15) = stepM (arg15.view.readAt (Elt F) (strip 512 5).toLoadRect f_arg15) (arg12.view.readAt (Elt F) (strip 1 5).toLoadRect f_arg12) := rfl

theorem t_m1_4  : (trip_k0_t1.sl.v309 (F := F) arg12 arg15 f_arg12 f_arg15) = stepM (arg15.view.readAt (Elt F) (strip 512 4).toLoadRect f_arg15) (arg12.view.readAt (Elt F) (strip 1 4).toLoadRect f_arg12) := rfl

theorem t_m1_3  : (trip_k0_t1.sl.v287 (F := F) arg12 arg15 f_arg12 f_arg15) = stepM (arg15.view.readAt (Elt F) (strip 512 3).toLoadRect f_arg15) (arg12.view.readAt (Elt F) (strip 1 3).toLoadRect f_arg12) := rfl

theorem t_m1_2  : (trip_k0_t1.sl.v265 (F := F) arg12 arg15 f_arg12 f_arg15) = stepM (arg15.view.readAt (Elt F) (strip 512 2).toLoadRect f_arg15) (arg12.view.readAt (Elt F) (strip 1 2).toLoadRect f_arg12) := rfl

theorem t_m1_1  : (trip_k0_t1.sl.v243 (F := F) arg12 arg15 f_arg12 f_arg15) = stepM (arg15.view.readAt (Elt F) (strip 512 1).toLoadRect f_arg15) (arg12.view.readAt (Elt F) (strip 1 1).toLoadRect f_arg12) := rfl

theorem t_m1_0  : (trip_k0_t1.sl.v221 (F := F) arg12 arg15 f_arg12 f_arg15) = stepM (arg15.view.readAt (Elt F) (strip 512 0).toLoadRect f_arg15) (arg12.view.readAt (Elt F) (strip 1 0).toLoadRect f_arg12) := rfl

theorem t_l1_7  : (trip_k0_t1.sl.v372 (F := F) arg12 arg13 arg15 f_arg12 f_arg13 f_arg15) = stepL (arg15.view.readAt (Elt F) (strip 512 7).toLoadRect f_arg15) (arg12.view.readAt (Elt F) (strip 1 7).toLoadRect f_arg12) (arg13.view.readAt (Elt F) (strip 1 7).toLoadRect f_arg13) := rfl

theorem t_l1_6  : (trip_k0_t1.sl.v350 (F := F) arg12 arg13 arg15 f_arg12 f_arg13 f_arg15) = stepL (arg15.view.readAt (Elt F) (strip 512 6).toLoadRect f_arg15) (arg12.view.readAt (Elt F) (strip 1 6).toLoadRect f_arg12) (arg13.view.readAt (Elt F) (strip 1 6).toLoadRect f_arg13) := rfl

theorem t_l1_5  : (trip_k0_t1.sl.v328 (F := F) arg12 arg13 arg15 f_arg12 f_arg13 f_arg15) = stepL (arg15.view.readAt (Elt F) (strip 512 5).toLoadRect f_arg15) (arg12.view.readAt (Elt F) (strip 1 5).toLoadRect f_arg12) (arg13.view.readAt (Elt F) (strip 1 5).toLoadRect f_arg13) := rfl

theorem t_l1_4  : (trip_k0_t1.sl.v306 (F := F) arg12 arg13 arg15 f_arg12 f_arg13 f_arg15) = stepL (arg15.view.readAt (Elt F) (strip 512 4).toLoadRect f_arg15) (arg12.view.readAt (Elt F) (strip 1 4).toLoadRect f_arg12) (arg13.view.readAt (Elt F) (strip 1 4).toLoadRect f_arg13) := rfl

theorem t_l1_3  : (trip_k0_t1.sl.v284 (F := F) arg12 arg13 arg15 f_arg12 f_arg13 f_arg15) = stepL (arg15.view.readAt (Elt F) (strip 512 3).toLoadRect f_arg15) (arg12.view.readAt (Elt F) (strip 1 3).toLoadRect f_arg12) (arg13.view.readAt (Elt F) (strip 1 3).toLoadRect f_arg13) := rfl

theorem t_l1_2  : (trip_k0_t1.sl.v262 (F := F) arg12 arg13 arg15 f_arg12 f_arg13 f_arg15) = stepL (arg15.view.readAt (Elt F) (strip 512 2).toLoadRect f_arg15) (arg12.view.readAt (Elt F) (strip 1 2).toLoadRect f_arg12) (arg13.view.readAt (Elt F) (strip 1 2).toLoadRect f_arg13) := rfl

theorem t_l1_1  : (trip_k0_t1.sl.v240 (F := F) arg12 arg13 arg15 f_arg12 f_arg13 f_arg15) = stepL (arg15.view.readAt (Elt F) (strip 512 1).toLoadRect f_arg15) (arg12.view.readAt (Elt F) (strip 1 1).toLoadRect f_arg12) (arg13.view.readAt (Elt F) (strip 1 1).toLoadRect f_arg13) := rfl

theorem t_l1_0  : (trip_k0_t1.sl.v218 (F := F) arg12 arg13 arg15 f_arg12 f_arg13 f_arg15) = stepL (arg15.view.readAt (Elt F) (strip 512 0).toLoadRect f_arg15) (arg12.view.readAt (Elt F) (strip 1 0).toLoadRect f_arg12) (arg13.view.readAt (Elt F) (strip 1 0).toLoadRect f_arg13) := rfl

theorem t_a1_7 (h2 : ∀ a, k0_off2 i k a + S1x128x512.size a ≤ S16x128x512.size a) : (trip_k0_t1.sl.v440 (F := F) i arg11 arg12 arg14 arg15 X_arg11 k f_arg12 f_arg14 f_arg15) = stepA (vals arg11.view X_arg11 (k0_off2 i k) h2) (arg15.view.readAt (Elt F) (strip 512 7).toLoadRect f_arg15) (arg12.view.readAt (Elt F) (strip 1 7).toLoadRect f_arg12) (arg14.view.readAt (Elt F) (strip 128 7).toLoadRect f_arg14) := rfl

theorem t_a1_6 (h2 : ∀ a, k0_off2 i k a + S1x128x512.size a ≤ S16x128x512.size a) : (trip_k0_t1.sl.v432 (F := F) i arg11 arg12 arg14 arg15 X_arg11 k f_arg12 f_arg14 f_arg15) = stepA (vals arg11.view X_arg11 (k0_off2 i k) h2) (arg15.view.readAt (Elt F) (strip 512 6).toLoadRect f_arg15) (arg12.view.readAt (Elt F) (strip 1 6).toLoadRect f_arg12) (arg14.view.readAt (Elt F) (strip 128 6).toLoadRect f_arg14) := rfl

theorem t_a1_5 (h2 : ∀ a, k0_off2 i k a + S1x128x512.size a ≤ S16x128x512.size a) : (trip_k0_t1.sl.v424 (F := F) i arg11 arg12 arg14 arg15 X_arg11 k f_arg12 f_arg14 f_arg15) = stepA (vals arg11.view X_arg11 (k0_off2 i k) h2) (arg15.view.readAt (Elt F) (strip 512 5).toLoadRect f_arg15) (arg12.view.readAt (Elt F) (strip 1 5).toLoadRect f_arg12) (arg14.view.readAt (Elt F) (strip 128 5).toLoadRect f_arg14) := rfl

theorem t_a1_4 (h2 : ∀ a, k0_off2 i k a + S1x128x512.size a ≤ S16x128x512.size a) : (trip_k0_t1.sl.v416 (F := F) i arg11 arg12 arg14 arg15 X_arg11 k f_arg12 f_arg14 f_arg15) = stepA (vals arg11.view X_arg11 (k0_off2 i k) h2) (arg15.view.readAt (Elt F) (strip 512 4).toLoadRect f_arg15) (arg12.view.readAt (Elt F) (strip 1 4).toLoadRect f_arg12) (arg14.view.readAt (Elt F) (strip 128 4).toLoadRect f_arg14) := rfl

theorem t_a1_3 (h2 : ∀ a, k0_off2 i k a + S1x128x512.size a ≤ S16x128x512.size a) : (trip_k0_t1.sl.v408 (F := F) i arg11 arg12 arg14 arg15 X_arg11 k f_arg12 f_arg14 f_arg15) = stepA (vals arg11.view X_arg11 (k0_off2 i k) h2) (arg15.view.readAt (Elt F) (strip 512 3).toLoadRect f_arg15) (arg12.view.readAt (Elt F) (strip 1 3).toLoadRect f_arg12) (arg14.view.readAt (Elt F) (strip 128 3).toLoadRect f_arg14) := rfl

theorem t_a1_2 (h2 : ∀ a, k0_off2 i k a + S1x128x512.size a ≤ S16x128x512.size a) : (trip_k0_t1.sl.v400 (F := F) i arg11 arg12 arg14 arg15 X_arg11 k f_arg12 f_arg14 f_arg15) = stepA (vals arg11.view X_arg11 (k0_off2 i k) h2) (arg15.view.readAt (Elt F) (strip 512 2).toLoadRect f_arg15) (arg12.view.readAt (Elt F) (strip 1 2).toLoadRect f_arg12) (arg14.view.readAt (Elt F) (strip 128 2).toLoadRect f_arg14) := rfl

theorem t_a1_1 (h2 : ∀ a, k0_off2 i k a + S1x128x512.size a ≤ S16x128x512.size a) : (trip_k0_t1.sl.v392 (F := F) i arg11 arg12 arg14 arg15 X_arg11 k f_arg12 f_arg14 f_arg15) = stepA (vals arg11.view X_arg11 (k0_off2 i k) h2) (arg15.view.readAt (Elt F) (strip 512 1).toLoadRect f_arg15) (arg12.view.readAt (Elt F) (strip 1 1).toLoadRect f_arg12) (arg14.view.readAt (Elt F) (strip 128 1).toLoadRect f_arg14) := rfl

theorem t_a1_0 (h2 : ∀ a, k0_off2 i k a + S1x128x512.size a ≤ S16x128x512.size a) : (trip_k0_t1.sl.v384 (F := F) i arg11 arg12 arg14 arg15 X_arg11 k f_arg12 f_arg14 f_arg15) = stepA (vals arg11.view X_arg11 (k0_off2 i k) h2) (arg15.view.readAt (Elt F) (strip 512 0).toLoadRect f_arg15) (arg12.view.readAt (Elt F) (strip 1 0).toLoadRect f_arg12) (arg14.view.readAt (Elt F) (strip 128 0).toLoadRect f_arg14) := rfl

theorem t_m1  : (trip_k0_t1.sl.HW_arg12_8 (F := F) arg12 arg15 f_arg12 f_arg15) = fillL (a := 1) (Val := Elt F) (e := .f32) (fun r => stepM (arg15.view.readAt (Elt F) (strip 512 r).toLoadRect f_arg15) (arg12.view.readAt (Elt F) (strip 1 r).toLoadRect f_arg12)) [] rs8 := by
  unfold trip_k0_t1.sl.HW_arg12_8
  rw [t_m1_0, t_m1_1, t_m1_2, t_m1_3, t_m1_4, t_m1_5, t_m1_6, t_m1_7]
  rfl

theorem t_l1  : (trip_k0_t1.sl.HW_arg13_8 (F := F) arg12 arg13 arg15 f_arg12 f_arg13 f_arg15) = fillL (a := 1) (Val := Elt F) (e := .f32) (fun r => stepL (arg15.view.readAt (Elt F) (strip 512 r).toLoadRect f_arg15) (arg12.view.readAt (Elt F) (strip 1 r).toLoadRect f_arg12) (arg13.view.readAt (Elt F) (strip 1 r).toLoadRect f_arg13)) [] rs8 := by
  unfold trip_k0_t1.sl.HW_arg13_8
  rw [t_l1_0, t_l1_1, t_l1_2, t_l1_3, t_l1_4, t_l1_5, t_l1_6, t_l1_7]
  rfl

theorem t_a1 (h2 : ∀ a, k0_off2 i k a + S1x128x512.size a ≤ S16x128x512.size a) : (trip_k0_t1.sl.HW_arg14_8 (F := F) i arg11 arg12 arg14 arg15 X_arg11 k f_arg12 f_arg14 f_arg15) = fillL (a := 128) (Val := Elt F) (e := .f32) (fun r => stepA (vals arg11.view X_arg11 (k0_off2 i k) h2) (arg15.view.readAt (Elt F) (strip 512 r).toLoadRect f_arg15) (arg12.view.readAt (Elt F) (strip 1 r).toLoadRect f_arg12) (arg14.view.readAt (Elt F) (strip 128 r).toLoadRect f_arg14)) [] rs8 := by
  unfold trip_k0_t1.sl.HW_arg14_8
  rw [t_a1_0 (h2 := h2), t_a1_1 (h2 := h2), t_a1_2 (h2 := h2), t_a1_3 (h2 := h2), t_a1_4 (h2 := h2), t_a1_5 (h2 := h2), t_a1_6 (h2 := h2), t_a1_7 (h2 := h2)]
  rfl

theorem t_m2_0  : (trip_k0_t1.sl.v512 (F := F) i arg4 arg10 arg12 arg15 arg16 X_arg4 X_arg10 k f_arg12 f_arg15) = stepM (arg16.view.readCov (trip_k0_t1.sl.HW_arg16_8 (F := F) i arg4 arg10 X_arg4 X_arg10 k) (strip 512 0).toLoadRect) (arg12.view.readCov (trip_k0_t1.sl.HW_arg12_8 (F := F) arg12 arg15 f_arg12 f_arg15) (strip 1 0).toLoadRect) := rfl

theorem t_l2_0  : (trip_k0_t1.sl.v509 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 0).toLoadRect) (arg12.view.readCov (trip_k0_t1.sl.HW_arg12_8 (F := F) arg12 arg15 f_arg12 f_arg15) (strip 1 0).toLoadRect) (arg13.view.readCov (trip_k0_t1.sl.HW_arg13_8 (F := F) arg12 arg13 arg15 f_arg12 f_arg13 f_arg15) (strip 1 0).toLoadRect) := rfl

theorem t_a2_0 (h4 : ∀ a, k0_off4 i k a + S1x128x512.size a ≤ S16x128x512.size a) : (trip_k0_t1.sl.v675 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 0).toLoadRect) (arg12.view.readCov (trip_k0_t1.sl.HW_arg12_8 (F := F) arg12 arg15 f_arg12 f_arg15) (strip 1 0).toLoadRect) (arg14.view.readCov (trip_k0_t1.sl.HW_arg14_8 (F := F) i arg11 arg12 arg14 arg15 X_arg11 k f_arg12 f_arg14 f_arg15) (strip 128 0).toLoadRect) := rfl

theorem t_m2_1  : (trip_k0_t1.sl.v534 (F := F) i arg4 arg10 arg12 arg15 arg16 X_arg4 X_arg10 k f_arg12 f_arg15) = stepM (arg16.view.readCov (trip_k0_t1.sl.HW_arg16_8 (F := F) i arg4 arg10 X_arg4 X_arg10 k) (strip 512 1).toLoadRect) (arg12.view.readCov (trip_k0_t1.sl.HW_arg12_9 (F := F) i arg4 arg10 arg12 arg15 arg16 X_arg4 X_arg10 k f_arg12 f_arg15) (strip 1 1).toLoadRect) := rfl

theorem t_l2_1  : (trip_k0_t1.sl.v531 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 1).toLoadRect) (arg12.view.readCov (trip_k0_t1.sl.HW_arg12_9 (F := F) i arg4 arg10 arg12 arg15 arg16 X_arg4 X_arg10 k f_arg12 f_arg15) (strip 1 1).toLoadRect) (arg13.view.readCov (trip_k0_t1.sl.HW_arg13_9 (F := F) i arg4 arg10 arg12 arg13 arg15 arg16 X_arg4 X_arg10 k f_arg12 f_arg13 f_arg15) (strip 1 1).toLoadRect) := rfl

theorem t_a2_1 (h4 : ∀ a, k0_off4 i k a + S1x128x512.size a ≤ S16x128x512.size a) : (trip_k0_t1.sl.v683 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 1).toLoadRect) (arg12.view.readCov (trip_k0_t1.sl.HW_arg12_9 (F := F) i arg4 arg10 arg12 arg15 arg16 X_arg4 X_arg10 k f_arg12 f_arg15) (strip 1 1).toLoadRect) (arg14.view.readCov (trip_k0_t1.sl.HW_arg14_9 (F := F) i arg4 arg10 arg11 arg12 arg14 arg15 arg16 X_arg4 X_arg10 X_arg11 k f_arg12 f_arg14 f_arg15) (strip 128 1).toLoadRect) := rfl

theorem t_m2_2  : (trip_k0_t1.sl.v556 (F := F) i arg4 arg10 arg12 arg15 arg16 X_arg4 X_arg10 k f_arg12 f_arg15) = stepM (arg16.view.readCov (trip_k0_t1.sl.HW_arg16_8 (F := F) i arg4 arg10 X_arg4 X_arg10 k) (strip 512 2).toLoadRect) (arg12.view.readCov (trip_k0_t1.sl.HW_arg12_10 (F := F) i arg4 arg10 arg12 arg15 arg16 X_arg4 X_arg10 k f_arg12 f_arg15) (strip 1 2).toLoadRect) := rfl

theorem t_l2_2  : (trip_k0_t1.sl.v553 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 2).toLoadRect) (arg12.view.readCov (trip_k0_t1.sl.HW_arg12_10 (F := F) i arg4 arg10 arg12 arg15 arg16 X_arg4 X_arg10 k f_arg12 f_arg15) (strip 1 2).toLoadRect) (arg13.view.readCov (trip_k0_t1.sl.HW_arg13_10 (F := F) i arg4 arg10 arg12 arg13 arg15 arg16 X_arg4 X_arg10 k f_arg12 f_arg13 f_arg15) (strip 1 2).toLoadRect) := rfl

theorem t_a2_2 (h4 : ∀ a, k0_off4 i k a + S1x128x512.size a ≤ S16x128x512.size a) : (trip_k0_t1.sl.v691 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 2).toLoadRect) (arg12.view.readCov (trip_k0_t1.sl.HW_arg12_10 (F := F) i arg4 arg10 arg12 arg15 arg16 X_arg4 X_arg10 k f_arg12 f_arg15) (strip 1 2).toLoadRect) (arg14.view.readCov (trip_k0_t1.sl.HW_arg14_10 (F := F) i arg4 arg10 arg11 arg12 arg14 arg15 arg16 X_arg4 X_arg10 X_arg11 k f_arg12 f_arg14 f_arg15) (strip 128 2).toLoadRect) := rfl

theorem t_m2_3  : (trip_k0_t1.sl.v578 (F := F) i arg4 arg10 arg12 arg15 arg16 X_arg4 X_arg10 k f_arg12 f_arg15) = stepM (arg16.view.readCov (trip_k0_t1.sl.HW_arg16_8 (F := F) i arg4 arg10 X_arg4 X_arg10 k) (strip 512 3).toLoadRect) (arg12.view.readCov (trip_k0_t1.sl.HW_arg12_11 (F := F) i arg4 arg10 arg12 arg15 arg16 X_arg4 X_arg10 k f_arg12 f_arg15) (strip 1 3).toLoadRect) := rfl

theorem t_l2_3  : (trip_k0_t1.sl.v575 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 3).toLoadRect) (arg12.view.readCov (trip_k0_t1.sl.HW_arg12_11 (F := F) i arg4 arg10 arg12 arg15 arg16 X_arg4 X_arg10 k f_arg12 f_arg15) (strip 1 3).toLoadRect) (arg13.view.readCov (trip_k0_t1.sl.HW_arg13_11 (F := F) i arg4 arg10 arg12 arg13 arg15 arg16 X_arg4 X_arg10 k f_arg12 f_arg13 f_arg15) (strip 1 3).toLoadRect) := rfl

theorem t_a2_3 (h4 : ∀ a, k0_off4 i k a + S1x128x512.size a ≤ S16x128x512.size a) : (trip_k0_t1.sl.v699 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 3).toLoadRect) (arg12.view.readCov (trip_k0_t1.sl.HW_arg12_11 (F := F) i arg4 arg10 arg12 arg15 arg16 X_arg4 X_arg10 k f_arg12 f_arg15) (strip 1 3).toLoadRect) (arg14.view.readCov (trip_k0_t1.sl.HW_arg14_11 (F := F) i arg4 arg10 arg11 arg12 arg14 arg15 arg16 X_arg4 X_arg10 X_arg11 k f_arg12 f_arg14 f_arg15) (strip 128 3).toLoadRect) := rfl

theorem t_m2_4  : (trip_k0_t1.sl.v600 (F := F) i arg4 arg10 arg12 arg15 arg16 X_arg4 X_arg10 k f_arg12 f_arg15) = stepM (arg16.view.readCov (trip_k0_t1.sl.HW_arg16_8 (F := F) i arg4 arg10 X_arg4 X_arg10 k) (strip 512 4).toLoadRect) (arg12.view.readCov (trip_k0_t1.sl.HW_arg12_12 (F := F) i arg4 arg10 arg12 arg15 arg16 X_arg4 X_arg10 k f_arg12 f_arg15) (strip 1 4).toLoadRect) := rfl

theorem t_l2_4  : (trip_k0_t1.sl.v597 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 4).toLoadRect) (arg12.view.readCov (trip_k0_t1.sl.HW_arg12_12 (F := F) i arg4 arg10 arg12 arg15 arg16 X_arg4 X_arg10 k f_arg12 f_arg15) (strip 1 4).toLoadRect) (arg13.view.readCov (trip_k0_t1.sl.HW_arg13_12 (F := F) i arg4 arg10 arg12 arg13 arg15 arg16 X_arg4 X_arg10 k f_arg12 f_arg13 f_arg15) (strip 1 4).toLoadRect) := rfl

theorem t_a2_4 (h4 : ∀ a, k0_off4 i k a + S1x128x512.size a ≤ S16x128x512.size a) : (trip_k0_t1.sl.v707 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 4).toLoadRect) (arg12.view.readCov (trip_k0_t1.sl.HW_arg12_12 (F := F) i arg4 arg10 arg12 arg15 arg16 X_arg4 X_arg10 k f_arg12 f_arg15) (strip 1 4).toLoadRect) (arg14.view.readCov (trip_k0_t1.sl.HW_arg14_12 (F := F) i arg4 arg10 arg11 arg12 arg14 arg15 arg16 X_arg4 X_arg10 X_arg11 k f_arg12 f_arg14 f_arg15) (strip 128 4).toLoadRect) := rfl

theorem t_m2_5  : (trip_k0_t1.sl.v622 (F := F) i arg4 arg10 arg12 arg15 arg16 X_arg4 X_arg10 k f_arg12 f_arg15) = stepM (arg16.view.readCov (trip_k0_t1.sl.HW_arg16_8 (F := F) i arg4 arg10 X_arg4 X_arg10 k) (strip 512 5).toLoadRect) (arg12.view.readCov (trip_k0_t1.sl.HW_arg12_13 (F := F) i arg4 arg10 arg12 arg15 arg16 X_arg4 X_arg10 k f_arg12 f_arg15) (strip 1 5).toLoadRect) := rfl

theorem t_l2_5  : (trip_k0_t1.sl.v619 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 5).toLoadRect) (arg12.view.readCov (trip_k0_t1.sl.HW_arg12_13 (F := F) i arg4 arg10 arg12 arg15 arg16 X_arg4 X_arg10 k f_arg12 f_arg15) (strip 1 5).toLoadRect) (arg13.view.readCov (trip_k0_t1.sl.HW_arg13_13 (F := F) i arg4 arg10 arg12 arg13 arg15 arg16 X_arg4 X_arg10 k f_arg12 f_arg13 f_arg15) (strip 1 5).toLoadRect) := rfl

theorem t_a2_5 (h4 : ∀ a, k0_off4 i k a + S1x128x512.size a ≤ S16x128x512.size a) : (trip_k0_t1.sl.v715 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 5).toLoadRect) (arg12.view.readCov (trip_k0_t1.sl.HW_arg12_13 (F := F) i arg4 arg10 arg12 arg15 arg16 X_arg4 X_arg10 k f_arg12 f_arg15) (strip 1 5).toLoadRect) (arg14.view.readCov (trip_k0_t1.sl.HW_arg14_13 (F := F) i arg4 arg10 arg11 arg12 arg14 arg15 arg16 X_arg4 X_arg10 X_arg11 k f_arg12 f_arg14 f_arg15) (strip 128 5).toLoadRect) := rfl

theorem t_m2_6  : (trip_k0_t1.sl.v644 (F := F) i arg4 arg10 arg12 arg15 arg16 X_arg4 X_arg10 k f_arg12 f_arg15) = stepM (arg16.view.readCov (trip_k0_t1.sl.HW_arg16_8 (F := F) i arg4 arg10 X_arg4 X_arg10 k) (strip 512 6).toLoadRect) (arg12.view.readCov (trip_k0_t1.sl.HW_arg12_14 (F := F) i arg4 arg10 arg12 arg15 arg16 X_arg4 X_arg10 k f_arg12 f_arg15) (strip 1 6).toLoadRect) := rfl

theorem t_l2_6  : (trip_k0_t1.sl.v641 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 6).toLoadRect) (arg12.view.readCov (trip_k0_t1.sl.HW_arg12_14 (F := F) i arg4 arg10 arg12 arg15 arg16 X_arg4 X_arg10 k f_arg12 f_arg15) (strip 1 6).toLoadRect) (arg13.view.readCov (trip_k0_t1.sl.HW_arg13_14 (F := F) i arg4 arg10 arg12 arg13 arg15 arg16 X_arg4 X_arg10 k f_arg12 f_arg13 f_arg15) (strip 1 6).toLoadRect) := rfl

theorem t_a2_6 (h4 : ∀ a, k0_off4 i k a + S1x128x512.size a ≤ S16x128x512.size a) : (trip_k0_t1.sl.v723 (F := F) i arg4 arg10 arg11 arg12 arg14 arg15 arg16 X_arg4 X_arg10 X_arg11 k f_arg12 f_arg14 f_arg15) = stepA (vals arg11.view X_arg11 (k0_off4 i k) h4) (arg16.view.readCov (trip_k0_t1.sl.HW_arg16_8 (F := F) i arg4 arg10 X_arg4 X_arg10 k) (strip 512 6).toLoadRect) (arg12.view.readCov (trip_k0_t1.sl.HW_arg12_14 (F := F) i arg4 arg10 arg12 arg15 arg16 X_arg4 X_arg10 k f_arg12 f_arg15) (strip 1 6).toLoadRect) (arg14.view.readCov (trip_k0_t1.sl.HW_arg14_14 (F := F) i arg4 arg10 arg11 arg12 arg14 arg15 arg16 X_arg4 X_arg10 X_arg11 k f_arg12 f_arg14 f_arg15) (strip 128 6).toLoadRect) := rfl

theorem t_m2_7  : (trip_k0_t1.sl.v666 (F := F) i arg4 arg10 arg12 arg15 arg16 X_arg4 X_arg10 k f_arg12 f_arg15) = stepM (arg16.view.readCov (trip_k0_t1.sl.HW_arg16_8 (F := F) i arg4 arg10 X_arg4 X_arg10 k) (strip 512 7).toLoadRect) (arg12.view.readCov (trip_k0_t1.sl.HW_arg12_15 (F := F) i arg4 arg10 arg12 arg15 arg16 X_arg4 X_arg10 k f_arg12 f_arg15) (strip 1 7).toLoadRect) := rfl

theorem t_l2_7  : (trip_k0_t1.sl.v663 (F := F) i arg4 arg10 arg12 arg13 arg15 arg16 X_arg4 X_arg10 k f_arg12 f_arg13 f_arg15) = stepL (arg16.view.readCov (trip_k0_t1.sl.HW_arg16_8 (F := F) i arg4 arg10 X_arg4 X_arg10 k) (strip 512 7).toLoadRect) (arg12.view.readCov (trip_k0_t1.sl.HW_arg12_15 (F := F) i arg4 arg10 arg12 arg15 arg16 X_arg4 X_arg10 k f_arg12 f_arg15) (strip 1 7).toLoadRect) (arg13.view.readCov (trip_k0_t1.sl.HW_arg13_15 (F := F) i arg4 arg10 arg12 arg13 arg15 arg16 X_arg4 X_arg10 k f_arg12 f_arg13 f_arg15) (strip 1 7).toLoadRect) := rfl

theorem t_a2_7 (h4 : ∀ a, k0_off4 i k a + S1x128x512.size a ≤ S16x128x512.size a) : (k0_pay3 (trip_k0_t1.sl.v491 (F := F) i arg11 X_arg11 k) (trip_k0_t1.sl.v667 (F := F) i arg4 arg10 arg12 arg15 arg16 X_arg4 X_arg10 k f_arg12 f_arg15) (trip_k0_t1.sl.v726 (F := F) i arg4 arg10 arg11 arg12 arg14 arg15 arg16 X_arg4 X_arg10 X_arg11 k f_arg12 f_arg14 f_arg15)) = stepA (vals arg11.view X_arg11 (k0_off4 i k) h4) (arg16.view.readCov (trip_k0_t1.sl.HW_arg16_8 (F := F) i arg4 arg10 X_arg4 X_arg10 k) (strip 512 7).toLoadRect) (arg12.view.readCov (trip_k0_t1.sl.HW_arg12_15 (F := F) i arg4 arg10 arg12 arg15 arg16 X_arg4 X_arg10 k f_arg12 f_arg15) (strip 1 7).toLoadRect) (arg14.view.readCov (trip_k0_t1.sl.HW_arg14_15 (F := F) i arg4 arg10 arg11 arg12 arg14 arg15 arg16 X_arg4 X_arg10 X_arg11 k f_arg12 f_arg14 f_arg15) (strip 128 7).toLoadRect) := rfl

theorem t_M_1  : (trip_k0_t1.sl.HW_arg12_9 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [0] := by
  unfold trip_k0_t1.sl.HW_arg12_9
  rw [t_m2_0]
  rfl

theorem t_M_2  : (trip_k0_t1.sl.HW_arg12_10 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [1, 0] := by
  unfold trip_k0_t1.sl.HW_arg12_10
  rw [t_m2_1, t_M_1]
  rfl

theorem t_M_3  : (trip_k0_t1.sl.HW_arg12_11 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [2, 1, 0] := by
  unfold trip_k0_t1.sl.HW_arg12_11
  rw [t_m2_2, t_M_2]
  rfl

theorem t_M_4  : (trip_k0_t1.sl.HW_arg12_12 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [3, 2, 1, 0] := by
  unfold trip_k0_t1.sl.HW_arg12_12
  rw [t_m2_3, t_M_3]
  rfl

theorem t_M_5  : (trip_k0_t1.sl.HW_arg12_13 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [4, 3, 2, 1, 0] := by
  unfold trip_k0_t1.sl.HW_arg12_13
  rw [t_m2_4, t_M_4]
  rfl

theorem t_M_6  : (trip_k0_t1.sl.HW_arg12_14 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [5, 4, 3, 2, 1, 0] := by
  unfold trip_k0_t1.sl.HW_arg12_14
  rw [t_m2_5, t_M_5]
  rfl

theorem t_M_7  : (trip_k0_t1.sl.HW_arg12_15 (F := F) i arg4 arg10 arg12 arg15 arg16 X_arg4 X_arg10 k f_arg12 f_arg15) = mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) [6, 5, 4, 3, 2, 1, 0] := by
  unfold trip_k0_t1.sl.HW_arg12_15
  rw [t_m2_6, t_M_6]
  rfl

theorem t_L_1  : (trip_k0_t1.sl.HW_arg13_9 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [0] := by
  unfold trip_k0_t1.sl.HW_arg13_9
  rw [t_l2_0]
  rfl

theorem t_L_2  : (trip_k0_t1.sl.HW_arg13_10 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [1, 0] := by
  unfold trip_k0_t1.sl.HW_arg13_10
  rw [t_l2_1, t_M_1, t_L_1]
  rfl

theorem t_L_3  : (trip_k0_t1.sl.HW_arg13_11 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [2, 1, 0] := by
  unfold trip_k0_t1.sl.HW_arg13_11
  rw [t_l2_2, t_M_2, t_L_2]
  rfl

theorem t_L_4  : (trip_k0_t1.sl.HW_arg13_12 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [3, 2, 1, 0] := by
  unfold trip_k0_t1.sl.HW_arg13_12
  rw [t_l2_3, t_M_3, t_L_3]
  rfl

theorem t_L_5  : (trip_k0_t1.sl.HW_arg13_13 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [4, 3, 2, 1, 0] := by
  unfold trip_k0_t1.sl.HW_arg13_13
  rw [t_l2_4, t_M_4, t_L_4]
  rfl

theorem t_L_6  : (trip_k0_t1.sl.HW_arg13_14 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [5, 4, 3, 2, 1, 0] := by
  unfold trip_k0_t1.sl.HW_arg13_14
  rw [t_l2_5, t_M_5, t_L_5]
  rfl

theorem t_L_7  : (trip_k0_t1.sl.HW_arg13_15 (F := F) i arg4 arg10 arg12 arg13 arg15 arg16 X_arg4 X_arg10 k f_arg12 f_arg13 f_arg15) = lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) [6, 5, 4, 3, 2, 1, 0] := by
  unfold trip_k0_t1.sl.HW_arg13_15
  rw [t_l2_6, t_M_6, t_L_6]
  rfl

theorem t_A_1 (h4 : ∀ a, k0_off4 i k a + S1x128x512.size a ≤ S16x128x512.size a) : (trip_k0_t1.sl.HW_arg14_9 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [0] := by
  unfold trip_k0_t1.sl.HW_arg14_9
  rw [t_a2_0 (h4 := h4)]
  rfl

theorem t_A_2 (h4 : ∀ a, k0_off4 i k a + S1x128x512.size a ≤ S16x128x512.size a) : (trip_k0_t1.sl.HW_arg14_10 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [1, 0] := by
  unfold trip_k0_t1.sl.HW_arg14_10
  rw [t_a2_1 (h4 := h4), t_M_1, t_A_1 (h4 := h4)]
  rfl

theorem t_A_3 (h4 : ∀ a, k0_off4 i k a + S1x128x512.size a ≤ S16x128x512.size a) : (trip_k0_t1.sl.HW_arg14_11 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [2, 1, 0] := by
  unfold trip_k0_t1.sl.HW_arg14_11
  rw [t_a2_2 (h4 := h4), t_M_2, t_A_2 (h4 := h4)]
  rfl

theorem t_A_4 (h4 : ∀ a, k0_off4 i k a + S1x128x512.size a ≤ S16x128x512.size a) : (trip_k0_t1.sl.HW_arg14_12 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [3, 2, 1, 0] := by
  unfold trip_k0_t1.sl.HW_arg14_12
  rw [t_a2_3 (h4 := h4), t_M_3, t_A_3 (h4 := h4)]
  rfl

theorem t_A_5 (h4 : ∀ a, k0_off4 i k a + S1x128x512.size a ≤ S16x128x512.size a) : (trip_k0_t1.sl.HW_arg14_13 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [4, 3, 2, 1, 0] := by
  unfold trip_k0_t1.sl.HW_arg14_13
  rw [t_a2_4 (h4 := h4), t_M_4, t_A_4 (h4 := h4)]
  rfl

theorem t_A_6 (h4 : ∀ a, k0_off4 i k a + S1x128x512.size a ≤ S16x128x512.size a) : (trip_k0_t1.sl.HW_arg14_14 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [5, 4, 3, 2, 1, 0] := by
  unfold trip_k0_t1.sl.HW_arg14_14
  rw [t_a2_5 (h4 := h4), t_M_5, t_A_5 (h4 := h4)]
  rfl

theorem t_A_7 (h4 : ∀ a, k0_off4 i k a + S1x128x512.size a ≤ S16x128x512.size a) : (trip_k0_t1.sl.HW_arg14_15 (F := F) i arg4 arg10 arg11 arg12 arg14 arg15 arg16 X_arg4 X_arg10 X_arg11 k f_arg12 f_arg14 f_arg15) = aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) [6, 5, 4, 3, 2, 1, 0] := by
  unfold trip_k0_t1.sl.HW_arg14_15
  rw [t_a2_6 (h4 := h4), t_M_6, t_A_6 (h4 := h4)]
  rfl

end Names

/-- The trip's pieces. -/
theorem tripL_k0_t1_eq (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (k : Fin (k0_t1_loop i).trips) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty)
    (h1 : ∀ a, k0_off1 i k a + S1x512x128.size a ≤ S1x8192x128.size a) (h2 : ∀ a, k0_off2 i k a + S1x128x512.size a ≤ S16x128x512.size a)
    (h3 : ∀ a, k0_off3 i k a + S1x512x128.size a ≤ S1x8192x128.size a) (h4 : ∀ a, k0_off4 i k a + S1x128x512.size a ≤ S16x128x512.size a) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 k f_arg12 f_arg13 f_arg14 f_arg15 f_arg16
      = (mPass arg12.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) rs8, lPass arg12.view arg13.view (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg13_8 (F := F) arg12 arg13 arg15 f_arg12 f_arg13 f_arg15) rs8,
          aPass arg12.view arg14.view (vals arg11.view X_arg11 (k0_off4 i k) h4) (fun r => arg16.view.readCov (trip_k0_t1.sl.HW_arg16_8 (F := F) i arg4 arg10 X_arg4 X_arg10 k) (strip 512 r).toLoadRect) (trip_k0_t1.sl.HW_arg12_8 (F := F) arg12 arg15 f_arg12 f_arg15) (trip_k0_t1.sl.HW_arg14_8 (F := F) i arg11 arg12 arg14 arg15 X_arg11 k f_arg12 f_arg14 f_arg15) rs8,
          fillL (a := 512) (Val := Elt F) (e := .f32) (scoresOf (keys arg4.view X_arg4 (k0_off3 i k) h3) arg10.view X_arg10) [] rs8, (trip_k0_t1.sl.HW_arg16_8 (F := F) i arg4 arg10 X_arg4 X_arg10 k)) := by
  have e : tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 k f_arg12 f_arg13 f_arg14 f_arg15 f_arg16
      = (⟨strip 1 7, (trip_k0_t1.sl.v666 (F := F) i arg4 arg10 arg12 arg15 arg16 X_arg4 X_arg10 k f_arg12 f_arg15)⟩ :: (trip_k0_t1.sl.HW_arg12_15 (F := F) i arg4 arg10 arg12 arg15 arg16 X_arg4 X_arg10 k f_arg12 f_arg15), ⟨strip 1 7, (trip_k0_t1.sl.v663 (F := F) i arg4 arg10 arg12 arg13 arg15 arg16 X_arg4 X_arg10 k f_arg12 f_arg13 f_arg15)⟩ :: (trip_k0_t1.sl.HW_arg13_15 (F := F) i arg4 arg10 arg12 arg13 arg15 arg16 X_arg4 X_arg10 k f_arg12 f_arg13 f_arg15), ⟨strip 128 7, (k0_pay3 (trip_k0_t1.sl.v491 (F := F) i arg11 X_arg11 k) (trip_k0_t1.sl.v667 (F := F) i arg4 arg10 arg12 arg15 arg16 X_arg4 X_arg10 k f_arg12 f_arg15) (trip_k0_t1.sl.v726 (F := F) i arg4 arg10 arg11 arg12 arg14 arg15 arg16 X_arg4 X_arg10 X_arg11 k f_arg12 f_arg14 f_arg15))⟩ :: (trip_k0_t1.sl.HW_arg14_15 (F := F) i arg4 arg10 arg11 arg12 arg14 arg15 arg16 X_arg4 X_arg10 X_arg11 k f_arg12 f_arg14 f_arg15),
        [⟨strip 512 7, (trip_k0_t1.sl.v488 (F := F) i arg4 arg10 X_arg4 X_arg10 k)⟩, ⟨strip 512 6, (trip_k0_t1.sl.v483 (F := F) i arg4 arg10 X_arg4 X_arg10 k)⟩, ⟨strip 512 5, (trip_k0_t1.sl.v478 (F := F) i arg4 arg10 X_arg4 X_arg10 k)⟩, ⟨strip 512 4, (trip_k0_t1.sl.v473 (F := F) i arg4 arg10 X_arg4 X_arg10 k)⟩, ⟨strip 512 3, (trip_k0_t1.sl.v468 (F := F) i arg4 arg10 X_arg4 X_arg10 k)⟩, ⟨strip 512 2, (trip_k0_t1.sl.v463 (F := F) i arg4 arg10 X_arg4 X_arg10 k)⟩, ⟨strip 512 1, (trip_k0_t1.sl.v458 (F := F) i arg4 arg10 X_arg4 X_arg10 k)⟩, ⟨strip 512 0, (trip_k0_t1.sl.v453 (F := F) i arg4 arg10 X_arg4 X_arg10 k)⟩], (trip_k0_t1.sl.HW_arg16_8 (F := F) i arg4 arg10 X_arg4 X_arg10 k)) := by
    unfold tripL_k0_t1 trip_k0_t1
    rfl
  rw [e, t_m2_7, t_l2_7, t_a2_7 (h4 := h4), t_M_7, t_L_7, t_A_7 (h4 := h4), t_sa0 (h3 := h3), t_sa1 (h3 := h3), t_sa2 (h3 := h3), t_sa3 (h3 := h3), t_sa4 (h3 := h3), t_sa5 (h3 := h3), t_sa6 (h3 := h3), t_sa7 (h3 := h3)]
  rfl

end Cert.KernelIdeal.Own

end
-- ==== Proof.LoopV.lean ====
module

public import proofs.«01_k».proof.Proof.Trip

/-! What the loop over the key blocks before the diagonal leaves. -/

@[expose] public section

set_option maxRecDepth 16384
set_option maxHeartbeats 4000000

noncomputable section

namespace Cert.KernelIdeal.Own

open Idealize.ShloMosaic Idealize.ShloMosaic.TcCoe Idealize.ShloMosaic.Tactic
open Cert.KernelIdeal.Gen

attribute [local irreducible] pb_k0_t1

variable {F : FTy → Type} [FloatOps F] [Named F]

/-- Running maximum, running sum and accumulator of a strip. -/
abbrev Strip (F : FTy → Type) [FloatOps F] [Named F] : Type := FVec F S1x256 .f32 × FVec F S1x256 .f32 × FVec F S128x256 .f32

/-- A key block's step on a strip. -/
def blk (s : FVec F S512x256 .f32) (vt : FVec F S128x512 .bf16) (x : Strip F) : Strip F :=
  (stepM s x.1, stepL s x.1 x.2.1, stepA vt s x.1 x.2.2)

/-- Key block `n`. -/
def kN {κ : Kind} {sp : Space} (v : View sig κ sp S1x8192x128 .bf16) (X : v.ty.Contents (Elt F)) (n : ℕ) : FVec F S512x128 .bf16 :=
  if h : ∀ a, (![0, 512 * n, 0] : Fin 3 → ℕ) a + S1x512x128.size a ≤ S1x8192x128.size a then keys v X ![0, 512 * n, 0] h else fun _ => FloatOps.ofBits .bf16 0

/-- Transposed value block `n`. -/
def vN {κ : Kind} {sp : Space} (v : View sig κ sp S16x128x512 .bf16) (X : v.ty.Contents (Elt F)) (n : ℕ) : FVec F S128x512 .bf16 :=
  if h : ∀ a, (![n, 0, 0] : Fin 3 → ℕ) a + S1x128x512.size a ≤ S16x128x512.size a then vals v X ![n, 0, 0] h else fun _ => FloatOps.ofBits .bf16 0

theorem keys_eq {κ : Kind} {sp : Space} (v : View sig κ sp S1x8192x128 .bf16) (X : v.ty.Contents (Elt F)) (off : Fin 3 → ℕ) (h) (n : ℕ) (e : off = ![0, 512 * n, 0]) :
    keys v X off h = kN v X n := by
  subst e; exact (dif_pos h).symm

theorem vals_eq {κ : Kind} {sp : Space} (v : View sig κ sp S16x128x512 .bf16) (X : v.ty.Contents (Elt F)) (off : Fin 3 → ℕ) (h) (n : ℕ) (e : off = ![n, 0, 0]) :
    vals v X off h = vN v X n := by
  subst e; exact (dif_pos h).symm

/-- A strip after `n` blocks. -/
def runs (sc : ℕ → FVec F S512x256 .f32) (vb : ℕ → FVec F S128x512 .bf16) (x : Strip F) : ℕ → Strip F
  | 0 => x
  | n + 1 => blk (sc n) (vb n) (runs sc vb x n)

theorem mem_rs8 (r : Fin 8) : r ∈ rs8 := by fin_cases r <;> decide

theorem cov_fill {sig : RefSig} {κ : Kind} {sp : Space} {a : ℕ} {e : EltTy} {Val : EltTy → Type} [∀ e, Nonempty (Val e)] (v : View sig κ sp ⟨2, ![a, 2048]⟩ e)
    (w : (r : Fin 8) → (strip a r).shape.Idx → Val e) (r : Fin 8) : v.readCov (fillL w [] rs8) (strip a r).toLoadRect = w r :=
  fillL_in v v.junk w [] r rs8 (mem_rs8 r)

theorem nodup_rs8 : (rs8).Nodup := by decide
theorem nodup_rs4 : (rs4).Nodup := by decide

theorem two_m {κ : Kind} {sp : Space} (v : View sig κ sp S1x2048 .f32) (G : v.ty.Contents (Elt F)) (S : Fin 8 → FVec F S512x256 .f32)
    (w : (r : Fin 8) → (strip 1 r).shape.Idx → Elt F .f32) (L : List (View.Piece (Elt F) S1x2048 .f32)) (r : Fin 8) :
    v.readAt (Elt F) (strip 1 r).toLoadRect (v.writes (Elt F) G (mPass v S (fillL (a := 1) w [] rs8) rs8 ++ L)) = stepM (S r) (w r) := by
  rw [View.writes_append, mPass_read _ _ _ _ nodup_rs8, if_pos (mem_rs8 r), cov_fill (a := 1)]

theorem two_l {κ : Kind} {sp : Space} (v z : View sig κ sp S1x2048 .f32) (G : z.ty.Contents (Elt F)) (S : Fin 8 → FVec F S512x256 .f32)
    (w w' : (r : Fin 8) → (strip 1 r).shape.Idx → Elt F .f32) (L : List (View.Piece (Elt F) S1x2048 .f32)) (r : Fin 8) :
    z.readAt (Elt F) (strip 1 r).toLoadRect (z.writes (Elt F) G (lPass v z S (fillL (a := 1) w [] rs8) (fillL (a := 1) w' [] rs8) rs8 ++ L)) = stepL (S r) (w r) (w' r) := by
  rw [View.writes_append, lPass_read _ _ _ _ _ _ nodup_rs8, if_pos (mem_rs8 r), cov_fill (a := 1), cov_fill (a := 1)]

theorem two_a {κ : Kind} {sp : Space} (v : View sig κ sp S1x2048 .f32) (z : View sig κ sp S128x2048 .f32) (G : z.ty.Contents (Elt F)) (vt : FVec F S128x512 .bf16) (S : Fin 8 → FVec F S512x256 .f32)
    (w : (r : Fin 8) → (strip 1 r).shape.Idx → Elt F .f32) (w' : (r : Fin 8) → (strip 128 r).shape.Idx → Elt F .f32) (L : List (View.Piece (Elt F) S128x2048 .f32)) (r : Fin 8) :
    z.readAt (Elt F) (strip 128 r).toLoadRect (z.writes (Elt F) G (aPass v z vt S (fillL (a := 1) w [] rs8) (fillL (a := 128) w' [] rs8) rs8 ++ L)) = stepA vt (S r) (w r) (w' r) := by
  rw [View.writes_append, aPass_read _ _ _ _ _ _ _ nodup_rs8, if_pos (mem_rs8 r), cov_fill (a := 1), cov_fill (a := 128)]

/-- After `k` trips every strip has seen `2 k` key blocks, and the scores of the next are ready. -/
theorem loop_reads (𝒱 : Variants) (c : Dev nD) (bd : Option 𝒱.V) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (X_arg4 : BufTy.Contents (Elt F) arg4.view.ty) (X_arg10 : BufTy.Contents (Elt F) arg10.view.ty) (X_arg11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (I : Fin 8 → Strip F)
    (g12 : ∀ r, arg12.view.readAt (Elt F) (strip 1 r).toLoadRect G12 = (I r).1)
    (g13 : ∀ r, arg13.view.readAt (Elt F) (strip 1 r).toLoadRect G13 = (I r).2.1)
    (g14 : ∀ r, arg14.view.readAt (Elt F) (strip 128 r).toLoadRect G14 = (I r).2.2)
    (g15 : ∀ r, arg15.view.readAt (Elt F) (strip 512 r).toLoadRect G15 = (scoresOf (kN arg4.view X_arg4 0) arg10.view X_arg10 r))
    (k : ℕ) : k ≤ (k0_t1_loop i).trips → ∀ r,
      arg12.view.readAt (Elt F) (strip 1 r).toLoadRect (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G12 G13 G14 G15 G16 k).1) = (runs (fun n => (scoresOf (kN arg4.view X_arg4 n) arg10.view X_arg10 r)) (fun n => vN arg11.view X_arg11 n) (I r) (2 * k)).1
      ∧ arg13.view.readAt (Elt F) (strip 1 r).toLoadRect (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G12 G13 G14 G15 G16 k).2.1) = (runs (fun n => (scoresOf (kN arg4.view X_arg4 n) arg10.view X_arg10 r)) (fun n => vN arg11.view X_arg11 n) (I r) (2 * k)).2.1
      ∧ arg14.view.readAt (Elt F) (strip 128 r).toLoadRect (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G12 G13 G14 G15 G16 k).2.2.1) = (runs (fun n => (scoresOf (kN arg4.view X_arg4 n) arg10.view X_arg10 r)) (fun n => vN arg11.view X_arg11 n) (I r) (2 * k)).2.2
      ∧ arg15.view.readAt (Elt F) (strip 512 r).toLoadRect (arg15.view.writes (Elt F) G15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G12 G13 G14 G15 G16 k).2.2.2.1) = (scoresOf (kN arg4.view X_arg4 ((2 * k))) arg10.view X_arg10 r) := by
  induction k with
  | zero =>
    intro _ r
    rw [pb_k0_t1.eq_1]
    exact ⟨g12 r, g13 r, g14 r, g15 r⟩
  | succ k ih =>
    intro hk
    have ih := ih (by omega)
    have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 X_arg4 X_arg10 X_arg11 G12 G13 G14 G15 G16 ⟨k, hk⟩
    have h1 := k0_off1_inb i ⟨k, hk⟩
    have h2 := k0_off2_inb i ⟨k, hk⟩
    have h3 := k0_off3_inb i ⟨k, hk⟩
    have h4 := k0_off4_inb i ⟨k, hk⟩
    rw [tripL_k0_t1_eq (h1 := h1) (h2 := h2) (h3 := h3) (h4 := h4)] at e
    rw [t_sb (h1 := h1), t_m1, t_l1, t_a1 (h2 := h2)] at e
    have k1 := keys_eq arg4.view X_arg4 _ h1 (2 * k + 1) ((k0_off1_eq _ _).trans (congrArg (fun x => ![0, x, 0]) (by dsimp only; omega)))
    have k3 := keys_eq arg4.view X_arg4 _ h3 (2 * (k + 1)) ((k0_off3_eq _ _).trans (congrArg (fun x => ![0, x, 0]) (by dsimp only; omega)))
    have k2 := vals_eq arg11.view X_arg11 _ h2 (2 * k) (k0_off2_eq _ _)
    have k4 := vals_eq arg11.view X_arg11 _ h4 (2 * k + 1) (k0_off4_eq _ _)
    rw [k1, k2, k3, k4] at e
    intro r
    obtain ⟨i1, i2, i3, i4⟩ := ih r
    refine ⟨?_, ?_, ?_, ?_⟩
    · refine (congrArg (fun L => arg12.view.readAt (Elt F) (strip 1 r).toLoadRect (arg12.view.writes (Elt F) G12 L)) (congrArg Prod.fst e)).trans ?_
      refine (two_m _ _ _ _ _ r).trans ?_
      dsimp only
      rw [cov_fill (a := 512) arg16.view, i1, i4]
      rfl
    · refine (congrArg (fun L => arg13.view.readAt (Elt F) (strip 1 r).toLoadRect (arg13.view.writes (Elt F) G13 L)) (congrArg (fun x => x.2.1) e)).trans ?_
      refine (two_l _ _ _ _ _ _ _ r).trans ?_
      dsimp only
      rw [cov_fill (a := 512) arg16.view, i1, i2, i4]
      rfl
    · refine (congrArg (fun L => arg14.view.readAt (Elt F) (strip 128 r).toLoadRect (arg14.view.writes (Elt F) G14 L)) (congrArg (fun x => x.2.2.1) e)).trans ?_
      refine (two_a _ _ _ _ _ _ _ _ r).trans ?_
      dsimp only
      rw [cov_fill (a := 512) arg16.view, i1, i3, i4]
      rfl
    · refine (congrArg (fun L => arg15.view.readAt (Elt F) (strip 512 r).toLoadRect (arg15.view.writes (Elt F) G15 L)) (congrArg (fun x => x.2.2.2.1) e)).trans ?_
      dsimp only
      rw [View.writes_append]
      exact fillL_in arg15.view _ _ [] r rs8 (mem_rs8 r)

end Cert.KernelIdeal.Own

end
-- ==== Proof.DiagA.lean ====
module

public import proofs.«01_k».proof.Proof.Trip
public import proofs.«01_k».proof.Proof.RunA

/-! What the two diagonal key blocks leave, as passes over strips. -/

@[expose] public section

set_option maxRecDepth 16384
set_option maxHeartbeats 8000000

noncomputable section

namespace Cert.KernelIdeal.Own

open Idealize.ShloMosaic Idealize.ShloMosaic.TcCoe Idealize.ShloMosaic.Tactic
open Idealize.SL Idealize.SL.RA Idealize.SL.Sem
open Cert.KernelIdeal.Gen

attribute [local irreducible] pb_k0_t1

variable {F : FTy → Type} [FloatOps F] [Named F]
variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i) (x0 : Vec F S1x1024x128 .f32) (x1 : Vec F S1x8192x128 .bf16) (x2 : Vec F S1x8192x128 .bf16) (x3 : Vec F S1x1024x128 .f32) (x4 : Vec F S8x128 .f32) (x5 : Vec F S1x128 .f32)

/-- The loop's pieces. -/
abbrev loopA (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (x0 : Vec F S1x1024x128 .f32) (x1 : Vec F S1x8192x128 .bf16) (x2 : Vec F S1x8192x128 .bf16) :=
  pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (harg4.unread x1) (arg10.view.writes (Elt F) arg10.view.junk (kernelRun0_A.sl.HS0_2 (F := F) c arg3 harg3 x0)) (arg11.view.writes (Elt F) arg11.view.junk (kernelRun0_A.sl.HS1_16 (F := F) c arg5 harg5 x2)) (arg12.view.writes (Elt F) arg12.view.junk (kernelRun0_A.sl.HS2_1 (F := F) )) (arg13.view.writes (Elt F) arg13.view.junk (kernelRun0_A.sl.HS3_2 (F := F) )) (arg14.view.writes (Elt F) arg14.view.junk (kernelRun0_A.sl.HS4_2 (F := F) )) (arg15.view.writes (Elt F) arg15.view.junk (kernelRun0_A.sl.HS5_8 (F := F) c arg3 harg3 arg4 harg4 arg10 x0 x1)) arg16.view.junk (Scf.trips (k0_t1_loop i).lb (k0_t1_loop i).ub (k0_t1_loop i).st)

theorem a_s0 (h0 : ∀ a, (![0, 0, 0] : Fin 3 → ℕ) a + S1x512x128.size a ≤ S1x8192x128.size a) : (kernelRun0_A.sl.HS5_8 (F := F) c arg3 harg3 arg4 harg4 arg10 x0 x1) = fillL (a := 512) (Val := Elt F) (e := .f32) (scoresOf (keys arg4.view (harg4.unread x1) ![0, 0, 0] h0) arg10.view (arg10.view.writes (Elt F) arg10.view.junk (kernelRun0_A.sl.HS0_2 (F := F) c arg3 harg3 x0))) [] rs8 := rfl

theorem a_s1 (h9 : ∀ a, k0_off9 i a + S1x512x128.size a ≤ S1x8192x128.size a) : (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = fillL (a := 512) (Val := Elt F) (e := .f32) (scoresOf (keys arg4.view (harg4.unread x1) (k0_off9 i) h9) arg10.view (arg10.view.writes (Elt F) arg10.view.junk (kernelRun0_A.sl.HS0_2 (F := F) c arg3 harg3 x0))) (loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.2 rs4 := rfl

theorem a_m_0  : (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 0, stepM (masked 0#32 (qlo 0) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 0).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 0).toLoadRect)⟩ :: ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) := rfl

theorem a_l_0  : (kernelRun0_A.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 0, stepL (masked 0#32 (qlo 0) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 0).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 0).toLoadRect) (arg13.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) (strip 1 0).toLoadRect)⟩ :: ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) := rfl

theorem a_a_0 (h10 : ∀ a, k0_off10 i a + S1x128x512.size a ≤ S16x128x512.size a) : (kernelRun0_A.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 0, stepA (vals arg11.view (arg11.view.writes (Elt F) arg11.view.junk (kernelRun0_A.sl.HS1_16 (F := F) c arg5 harg5 x2)) (k0_off10 i) h10) (masked 0#32 (qlo 0) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 0).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 0).toLoadRect) (arg14.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) (strip 128 0).toLoadRect)⟩ :: ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) := rfl

theorem a_m_1  : (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 1, stepM (masked 0#32 (qlo 1) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 1).toLoadRect)) (arg12.view.readCov (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 1).toLoadRect)⟩ :: (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_1  : (kernelRun0_A.sl.HS3_2_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 1, stepL (masked 0#32 (qlo 1) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 1).toLoadRect)) (arg12.view.readCov (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 1).toLoadRect) (arg13.view.readCov (kernelRun0_A.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 1).toLoadRect)⟩ :: (kernelRun0_A.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_1 (h10 : ∀ a, k0_off10 i a + S1x128x512.size a ≤ S16x128x512.size a) : (kernelRun0_A.sl.HS4_2_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 1, stepA (vals arg11.view (arg11.view.writes (Elt F) arg11.view.junk (kernelRun0_A.sl.HS1_16 (F := F) c arg5 harg5 x2)) (k0_off10 i) h10) (masked 0#32 (qlo 1) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 1).toLoadRect)) (arg12.view.readCov (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 1).toLoadRect) (arg14.view.readCov (kernelRun0_A.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 1).toLoadRect)⟩ :: (kernelRun0_A.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_2  : (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 2, stepM (masked 0#32 (qlo 2) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 2).toLoadRect)) (arg12.view.readCov (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect)⟩ :: (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_2  : (kernelRun0_A.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 2, stepL (masked 0#32 (qlo 2) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 2).toLoadRect)) (arg12.view.readCov (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect) (arg13.view.readCov (kernelRun0_A.sl.HS3_2_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect)⟩ :: (kernelRun0_A.sl.HS3_2_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_2 (h10 : ∀ a, k0_off10 i a + S1x128x512.size a ≤ S16x128x512.size a) : (kernelRun0_A.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 2, stepA (vals arg11.view (arg11.view.writes (Elt F) arg11.view.junk (kernelRun0_A.sl.HS1_16 (F := F) c arg5 harg5 x2)) (k0_off10 i) h10) (masked 0#32 (qlo 2) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 2).toLoadRect)) (arg12.view.readCov (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect) (arg14.view.readCov (kernelRun0_A.sl.HS4_2_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 2).toLoadRect)⟩ :: (kernelRun0_A.sl.HS4_2_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_3  : (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 3, stepM (masked 0#32 (qlo 3) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 3).toLoadRect)) (arg12.view.readCov (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 3).toLoadRect)⟩ :: (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_3  : (kernelRun0_A.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 3, stepL (masked 0#32 (qlo 3) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 3).toLoadRect)) (arg12.view.readCov (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 3).toLoadRect) (arg13.view.readCov (kernelRun0_A.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 3).toLoadRect)⟩ :: (kernelRun0_A.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_3 (h10 : ∀ a, k0_off10 i a + S1x128x512.size a ≤ S16x128x512.size a) : (kernelRun0_A.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 3, stepA (vals arg11.view (arg11.view.writes (Elt F) arg11.view.junk (kernelRun0_A.sl.HS1_16 (F := F) c arg5 harg5 x2)) (k0_off10 i) h10) (masked 0#32 (qlo 3) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 3).toLoadRect)) (arg12.view.readCov (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 3).toLoadRect) (arg14.view.readCov (kernelRun0_A.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 3).toLoadRect)⟩ :: (kernelRun0_A.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_4  : (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 4, stepM (masked 0#32 (qlo 4) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 4).toLoadRect)) (arg12.view.readCov (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 4).toLoadRect)⟩ :: (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_4  : (kernelRun0_A.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 4, stepL (masked 0#32 (qlo 4) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 4).toLoadRect)) (arg12.view.readCov (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 4).toLoadRect) (arg13.view.readCov (kernelRun0_A.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 4).toLoadRect)⟩ :: (kernelRun0_A.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_4 (h10 : ∀ a, k0_off10 i a + S1x128x512.size a ≤ S16x128x512.size a) : (kernelRun0_A.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 4, stepA (vals arg11.view (arg11.view.writes (Elt F) arg11.view.junk (kernelRun0_A.sl.HS1_16 (F := F) c arg5 harg5 x2)) (k0_off10 i) h10) (masked 0#32 (qlo 4) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 4).toLoadRect)) (arg12.view.readCov (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 4).toLoadRect) (arg14.view.readCov (kernelRun0_A.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 4).toLoadRect)⟩ :: (kernelRun0_A.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_5  : (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 5, stepM (masked 0#32 (qlo 5) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 5).toLoadRect)) (arg12.view.readCov (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 5).toLoadRect)⟩ :: (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_5  : (kernelRun0_A.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 5, stepL (masked 0#32 (qlo 5) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 5).toLoadRect)) (arg12.view.readCov (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 5).toLoadRect) (arg13.view.readCov (kernelRun0_A.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 5).toLoadRect)⟩ :: (kernelRun0_A.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_5 (h10 : ∀ a, k0_off10 i a + S1x128x512.size a ≤ S16x128x512.size a) : (kernelRun0_A.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 5, stepA (vals arg11.view (arg11.view.writes (Elt F) arg11.view.junk (kernelRun0_A.sl.HS1_16 (F := F) c arg5 harg5 x2)) (k0_off10 i) h10) (masked 0#32 (qlo 5) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 5).toLoadRect)) (arg12.view.readCov (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 5).toLoadRect) (arg14.view.readCov (kernelRun0_A.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 5).toLoadRect)⟩ :: (kernelRun0_A.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_6  : (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 6, stepM (masked 0#32 (qlo 6) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 6).toLoadRect)) (arg12.view.readCov (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 6).toLoadRect)⟩ :: (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_6  : (kernelRun0_A.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 6, stepL (masked 0#32 (qlo 6) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 6).toLoadRect)) (arg12.view.readCov (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 6).toLoadRect) (arg13.view.readCov (kernelRun0_A.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 6).toLoadRect)⟩ :: (kernelRun0_A.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_6 (h10 : ∀ a, k0_off10 i a + S1x128x512.size a ≤ S16x128x512.size a) : (kernelRun0_A.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 6, stepA (vals arg11.view (arg11.view.writes (Elt F) arg11.view.junk (kernelRun0_A.sl.HS1_16 (F := F) c arg5 harg5 x2)) (k0_off10 i) h10) (masked 0#32 (qlo 6) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 6).toLoadRect)) (arg12.view.readCov (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 6).toLoadRect) (arg14.view.readCov (kernelRun0_A.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 6).toLoadRect)⟩ :: (kernelRun0_A.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_7  : (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 7, stepM (masked 0#32 (qlo 7) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 7).toLoadRect)) (arg12.view.readCov (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 7).toLoadRect)⟩ :: (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_7  : (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = ⟨strip 1 7, stepL (masked 0#32 (qlo 7) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 7).toLoadRect)) (arg12.view.readCov (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 7).toLoadRect) (arg13.view.readCov (kernelRun0_A.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 7).toLoadRect)⟩ :: (kernelRun0_A.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_7 (h10 : ∀ a, k0_off10 i a + S1x128x512.size a ≤ S16x128x512.size a) : (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 7, stepA (vals arg11.view (arg11.view.writes (Elt F) arg11.view.junk (kernelRun0_A.sl.HS1_16 (F := F) c arg5 harg5 x2)) (k0_off10 i) h10) (masked 0#32 (qlo 7) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 7).toLoadRect)) (arg12.view.readCov (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 7).toLoadRect) (arg14.view.readCov (kernelRun0_A.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 7).toLoadRect)⟩ :: (kernelRun0_A.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_8  : (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 2, stepM (masked 512#32 (qlo 2) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 2).toLoadRect)) (arg12.view.readCov (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect)⟩ :: (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_l_8  : (kernelRun0_A.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 2, stepL (masked 512#32 (qlo 2) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 2).toLoadRect)) (arg12.view.readCov (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect) (arg13.view.readCov (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect)⟩ :: (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) := rfl

theorem a_a_8 (h11 : ∀ a, k0_off11 i a + S1x128x512.size a ≤ S16x128x512.size a) : (kernelRun0_A.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 2, stepA (vals arg11.view (arg11.view.writes (Elt F) arg11.view.junk (kernelRun0_A.sl.HS1_16 (F := F) c arg5 harg5 x2)) (k0_off11 i) h11) (masked 512#32 (qlo 2) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 2).toLoadRect)) (arg12.view.readCov (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 2).toLoadRect) (arg14.view.readCov (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 2).toLoadRect)⟩ :: (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_9  : (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 3, stepM (masked 512#32 (qlo 3) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 3).toLoadRect)) (arg12.view.readCov (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 3).toLoadRect)⟩ :: (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_l_9  : (kernelRun0_A.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 3, stepL (masked 512#32 (qlo 3) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 3).toLoadRect)) (arg12.view.readCov (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 3).toLoadRect) (arg13.view.readCov (kernelRun0_A.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 3).toLoadRect)⟩ :: (kernelRun0_A.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_a_9 (h11 : ∀ a, k0_off11 i a + S1x128x512.size a ≤ S16x128x512.size a) : (kernelRun0_A.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 3, stepA (vals arg11.view (arg11.view.writes (Elt F) arg11.view.junk (kernelRun0_A.sl.HS1_16 (F := F) c arg5 harg5 x2)) (k0_off11 i) h11) (masked 512#32 (qlo 3) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 3).toLoadRect)) (arg12.view.readCov (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 3).toLoadRect) (arg14.view.readCov (kernelRun0_A.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 3).toLoadRect)⟩ :: (kernelRun0_A.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_m_10  : (kernelRun0_A.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 6, stepM (masked 512#32 (qlo 6) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 6).toLoadRect)) (arg12.view.readCov (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 6).toLoadRect)⟩ :: (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_l_10  : (kernelRun0_A.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 1 6, stepL (masked 512#32 (qlo 6) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 6).toLoadRect)) (arg12.view.readCov (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 6).toLoadRect) (arg13.view.readCov (kernelRun0_A.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 6).toLoadRect)⟩ :: (kernelRun0_A.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_a_10 (h11 : ∀ a, k0_off11 i a + S1x128x512.size a ≤ S16x128x512.size a) : (kernelRun0_A.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = ⟨strip 128 6, stepA (vals arg11.view (arg11.view.writes (Elt F) arg11.view.junk (kernelRun0_A.sl.HS1_16 (F := F) c arg5 harg5 x2)) (k0_off11 i) h11) (masked 512#32 (qlo 6) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 6).toLoadRect)) (arg12.view.readCov (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 6).toLoadRect) (arg14.view.readCov (kernelRun0_A.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 6).toLoadRect)⟩ :: (kernelRun0_A.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := rfl

theorem a_M_0  : (kernelRun0_A.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [0] := by
  rw [a_m_0]
  rfl

theorem a_L_0  : (kernelRun0_A.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [0] := by
  rw [a_l_0]
  rfl

theorem a_A_0 (h10 : ∀ a, k0_off10 i a + S1x128x512.size a ≤ S16x128x512.size a) : (kernelRun0_A.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [0] := by
  rw [a_a_0 (h10 := h10)]
  rfl

theorem a_M_1  : (kernelRun0_A.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [1, 0] := by
  rw [a_m_1, a_M_0]
  rfl

theorem a_L_1  : (kernelRun0_A.sl.HS3_2_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [1, 0] := by
  rw [a_l_1, a_M_0, a_L_0]
  rfl

theorem a_A_1 (h10 : ∀ a, k0_off10 i a + S1x128x512.size a ≤ S16x128x512.size a) : (kernelRun0_A.sl.HS4_2_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [1, 0] := by
  rw [a_a_1 (h10 := h10), a_M_0, a_A_0 (h10 := h10)]
  rfl

theorem a_M_2  : (kernelRun0_A.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [2, 1, 0] := by
  rw [a_m_2, a_M_1]
  rfl

theorem a_L_2  : (kernelRun0_A.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [2, 1, 0] := by
  rw [a_l_2, a_M_1, a_L_1]
  rfl

theorem a_A_2 (h10 : ∀ a, k0_off10 i a + S1x128x512.size a ≤ S16x128x512.size a) : (kernelRun0_A.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [2, 1, 0] := by
  rw [a_a_2 (h10 := h10), a_M_1, a_A_1 (h10 := h10)]
  rfl

theorem a_M_3  : (kernelRun0_A.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [3, 2, 1, 0] := by
  rw [a_m_3, a_M_2]
  rfl

theorem a_L_3  : (kernelRun0_A.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [3, 2, 1, 0] := by
  rw [a_l_3, a_M_2, a_L_2]
  rfl

theorem a_A_3 (h10 : ∀ a, k0_off10 i a + S1x128x512.size a ≤ S16x128x512.size a) : (kernelRun0_A.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [3, 2, 1, 0] := by
  rw [a_a_3 (h10 := h10), a_M_2, a_A_2 (h10 := h10)]
  rfl

theorem a_M_4  : (kernelRun0_A.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [4, 3, 2, 1, 0] := by
  rw [a_m_4, a_M_3]
  rfl

theorem a_L_4  : (kernelRun0_A.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [4, 3, 2, 1, 0] := by
  rw [a_l_4, a_M_3, a_L_3]
  rfl

theorem a_A_4 (h10 : ∀ a, k0_off10 i a + S1x128x512.size a ≤ S16x128x512.size a) : (kernelRun0_A.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [4, 3, 2, 1, 0] := by
  rw [a_a_4 (h10 := h10), a_M_3, a_A_3 (h10 := h10)]
  rfl

theorem a_M_5  : (kernelRun0_A.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [5, 4, 3, 2, 1, 0] := by
  rw [a_m_5, a_M_4]
  rfl

theorem a_L_5  : (kernelRun0_A.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [5, 4, 3, 2, 1, 0] := by
  rw [a_l_5, a_M_4, a_L_4]
  rfl

theorem a_A_5 (h10 : ∀ a, k0_off10 i a + S1x128x512.size a ≤ S16x128x512.size a) : (kernelRun0_A.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [5, 4, 3, 2, 1, 0] := by
  rw [a_a_5 (h10 := h10), a_M_4, a_A_4 (h10 := h10)]
  rfl

theorem a_M_6  : (kernelRun0_A.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [6, 5, 4, 3, 2, 1, 0] := by
  rw [a_m_6, a_M_5]
  rfl

theorem a_L_6  : (kernelRun0_A.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [6, 5, 4, 3, 2, 1, 0] := by
  rw [a_l_6, a_M_5, a_L_5]
  rfl

theorem a_A_6 (h10 : ∀ a, k0_off10 i a + S1x128x512.size a ≤ S16x128x512.size a) : (kernelRun0_A.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [6, 5, 4, 3, 2, 1, 0] := by
  rw [a_a_6 (h10 := h10), a_M_5, a_A_5 (h10 := h10)]
  rfl

theorem a_M_7  : (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = mPass arg12.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) [7, 6, 5, 4, 3, 2, 1, 0] := by
  rw [a_m_7, a_M_6]
  rfl

theorem a_L_7  : (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) = lPass arg12.view arg13.view (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) [7, 6, 5, 4, 3, 2, 1, 0] := by
  rw [a_l_7, a_M_6, a_L_6]
  rfl

theorem a_A_7 (h10 : ∀ a, k0_off10 i a + S1x128x512.size a ≤ S16x128x512.size a) : (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off10 i) h10) (fun r => masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) [7, 6, 5, 4, 3, 2, 1, 0] := by
  rw [a_a_7 (h10 := h10), a_M_6, a_A_6 (h10 := h10)]
  rfl

theorem a_M_8  : (kernelRun0_A.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = mPass arg12.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [2] := by
  rw [a_m_8]
  rfl

theorem a_L_8  : (kernelRun0_A.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = lPass arg12.view arg13.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [2] := by
  rw [a_l_8]
  rfl

theorem a_A_8 (h11 : ∀ a, k0_off11 i a + S1x128x512.size a ≤ S16x128x512.size a) : (kernelRun0_A.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off11 i) h11) (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) [2] := by
  rw [a_a_8 (h11 := h11)]
  rfl

theorem a_M_9  : (kernelRun0_A.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = mPass arg12.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [3, 2] := by
  rw [a_m_9, a_M_8]
  rfl

theorem a_L_9  : (kernelRun0_A.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = lPass arg12.view arg13.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [3, 2] := by
  rw [a_l_9, a_M_8, a_L_8]
  rfl

theorem a_A_9 (h11 : ∀ a, k0_off11 i a + S1x128x512.size a ≤ S16x128x512.size a) : (kernelRun0_A.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off11 i) h11) (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) [3, 2] := by
  rw [a_a_9 (h11 := h11), a_M_8, a_A_8 (h11 := h11)]
  rfl

theorem a_M_10  : (kernelRun0_A.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = mPass arg12.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [6, 3, 2] := by
  rw [a_m_10, a_M_9]
  rfl

theorem a_L_10  : (kernelRun0_A.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = lPass arg12.view arg13.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) [6, 3, 2] := by
  rw [a_l_10, a_M_9, a_L_9]
  rfl

theorem a_A_10 (h11 : ∀ a, k0_off11 i a + S1x128x512.size a ≤ S16x128x512.size a) : (kernelRun0_A.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) = aPass arg12.view arg14.view (vals arg11.view (arg11.view.writes (Elt F) arg11.view.junk (kernelRun0_A.sl.HS1_16 (F := F) c arg5 harg5 x2)) (k0_off11 i) h11) (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) [6, 3, 2] := by
  rw [a_a_10 (h11 := h11), a_M_9, a_A_9 (h11 := h11)]
  rfl

/-- The running sum's pieces. -/
theorem a_L : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1 = lPass arg12.view arg13.view (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) rs4 := by
  have e : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1 = ⟨strip 1 7, stepL (masked 512#32 (qlo 7) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 7).toLoadRect)) (arg12.view.readCov (kernelRun0_A.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 7).toLoadRect) (arg13.view.readCov (kernelRun0_A.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 7).toLoadRect)⟩ :: (kernelRun0_A.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := by
    unfold kernelRun0_A; rfl
  rw [e, a_M_10, a_L_10]
  rfl

/-- The accumulator's pieces. -/
theorem a_A (h11 : ∀ a, k0_off11 i a + S1x128x512.size a ≤ S16x128x512.size a) : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.val = aPass arg12.view arg14.view (vals arg11.view (arg11.view.writes (Elt F) arg11.view.junk (kernelRun0_A.sl.HS1_16 (F := F) c arg5 harg5 x2)) (k0_off11 i) h11) (fun r => masked 512#32 (qlo r) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect)) (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) rs4 := by
  have e : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.val = ⟨strip 128 7, stepA (vals arg11.view (arg11.view.writes (Elt F) arg11.view.junk (kernelRun0_A.sl.HS1_16 (F := F) c arg5 harg5 x2)) (k0_off11 i) h11) (masked 512#32 (qlo 7) (arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 7).toLoadRect)) (arg12.view.readCov (kernelRun0_A.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 1 7).toLoadRect) (arg14.view.readCov (kernelRun0_A.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 128 7).toLoadRect)⟩ :: (kernelRun0_A.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) := by
    unfold kernelRun0_A; rfl
  rw [e, a_M_10, a_A_10 (h11 := h11)]
  rfl

/-- The value blocks' pieces. -/
theorem a_V : (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.1 = (kernelRun0_A.sl.HS1_16 (F := F) c arg5 harg5 x2) := by
  unfold kernelRun0_A; rfl

end Cert.KernelIdeal.Own

end
-- ==== Proof.DiagB.lean ====
module

public import proofs.«01_k».proof.Proof.Trip
public import proofs.«01_k».proof.Proof.RunB

/-! What the two diagonal key blocks leave, as passes over strips. -/

@[expose] public section

set_option maxRecDepth 16384
set_option maxHeartbeats 8000000

noncomputable section

namespace Cert.KernelIdeal.Own

open Idealize.ShloMosaic Idealize.ShloMosaic.TcCoe Idealize.ShloMosaic.Tactic
open Idealize.SL Idealize.SL.RA Idealize.SL.Sem
open Cert.KernelIdeal.Gen

attribute [local irreducible] pb_k0_t1

variable {F : FTy → Type} [FloatOps F] [Named F]
variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i) (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32)

/-- The loop's pieces. -/
abbrev loopB (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (x0 : Vec F S1x1024x128 .f32) (x1 : Vec F S1x8192x128 .bf16) (xs1 : Vec F S16x128x512 .bf16) :=
  pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (harg4.unread x1) (arg10.view.writes (Elt F) arg10.view.junk (kernelRun0_B.sl.HS0_2 (F := F) c arg3 harg3 x0)) (harg11.unread xs1) (arg12.view.writes (Elt F) arg12.view.junk (kernelRun0_B.sl.HS2_1 (F := F) )) (arg13.view.writes (Elt F) arg13.view.junk (kernelRun0_B.sl.HS3_1 (F := F) )) (arg14.view.writes (Elt F) arg14.view.junk (kernelRun0_B.sl.HS4_1 (F := F) )) (arg15.view.writes (Elt F) arg15.view.junk (kernelRun0_B.sl.HS5_8 (F := F) c arg3 harg3 arg4 harg4 arg10 x0 x1)) arg16.view.junk (Scf.trips (k0_t1_loop i).lb (k0_t1_loop i).ub (k0_t1_loop i).st)

theorem b_s0 (h0 : ∀ a, (![0, 0, 0] : Fin 3 → ℕ) a + S1x512x128.size a ≤ S1x8192x128.size a) : (kernelRun0_B.sl.HS5_8 (F := F) c arg3 harg3 arg4 harg4 arg10 x0 x1) = fillL (a := 512) (Val := Elt F) (e := .f32) (scoresOf (keys arg4.view (harg4.unread x1) ![0, 0, 0] h0) arg10.view (arg10.view.writes (Elt F) arg10.view.junk (kernelRun0_B.sl.HS0_2 (F := F) c arg3 harg3 x0))) [] rs8 := rfl

theorem b_s1 (h9 : ∀ a, k0_off9 i a + S1x512x128.size a ≤ S1x8192x128.size a) : (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = fillL (a := 512) (Val := Elt F) (e := .f32) (scoresOf (keys arg4.view (harg4.unread x1) (k0_off9 i) h9) arg10.view (arg10.view.writes (Elt F) arg10.view.junk (kernelRun0_B.sl.HS0_2 (F := F) c arg3 harg3 x0))) (loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.2 rs4 := rfl

theorem b_m_0  : (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 0, stepM (masked 0#32 (qlo 0) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 0).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 0).toLoadRect)⟩ :: ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) := rfl

theorem b_l_0  : (kernelRun0_B.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 0, stepL (masked 0#32 (qlo 0) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 0).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 0).toLoadRect) (arg13.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) (strip 1 0).toLoadRect)⟩ :: ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) := rfl

theorem b_a_0 (h10 : ∀ a, k0_off10 i a + S1x128x512.size a ≤ S16x128x512.size a) : (kernelRun0_B.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 0, stepA (vals arg11.view (harg11.unread xs1) (k0_off10 i) h10) (masked 0#32 (qlo 0) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 0).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 0).toLoadRect) (arg14.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) (strip 128 0).toLoadRect)⟩ :: ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) := rfl

theorem b_m_1  : (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 1, stepM (masked 0#32 (qlo 1) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 1).toLoadRect)) (arg12.view.readCov (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 1).toLoadRect)⟩ :: (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_1  : (kernelRun0_B.sl.HS3_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 1, stepL (masked 0#32 (qlo 1) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 1).toLoadRect)) (arg12.view.readCov (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 1).toLoadRect) (arg13.view.readCov (kernelRun0_B.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 1).toLoadRect)⟩ :: (kernelRun0_B.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_1 (h10 : ∀ a, k0_off10 i a + S1x128x512.size a ≤ S16x128x512.size a) : (kernelRun0_B.sl.HS4_2 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 1, stepA (vals arg11.view (harg11.unread xs1) (k0_off10 i) h10) (masked 0#32 (qlo 1) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 1).toLoadRect)) (arg12.view.readCov (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 1).toLoadRect) (arg14.view.readCov (kernelRun0_B.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 1).toLoadRect)⟩ :: (kernelRun0_B.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_2  : (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 2, stepM (masked 0#32 (qlo 2) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 2).toLoadRect)) (arg12.view.readCov (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect)⟩ :: (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_2  : (kernelRun0_B.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 2, stepL (masked 0#32 (qlo 2) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 2).toLoadRect)) (arg12.view.readCov (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect) (arg13.view.readCov (kernelRun0_B.sl.HS3_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect)⟩ :: (kernelRun0_B.sl.HS3_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_2 (h10 : ∀ a, k0_off10 i a + S1x128x512.size a ≤ S16x128x512.size a) : (kernelRun0_B.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 2, stepA (vals arg11.view (harg11.unread xs1) (k0_off10 i) h10) (masked 0#32 (qlo 2) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 2).toLoadRect)) (arg12.view.readCov (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect) (arg14.view.readCov (kernelRun0_B.sl.HS4_2 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 2).toLoadRect)⟩ :: (kernelRun0_B.sl.HS4_2 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_3  : (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 3, stepM (masked 0#32 (qlo 3) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 3).toLoadRect)) (arg12.view.readCov (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 3).toLoadRect)⟩ :: (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_3  : (kernelRun0_B.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 3, stepL (masked 0#32 (qlo 3) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 3).toLoadRect)) (arg12.view.readCov (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 3).toLoadRect) (arg13.view.readCov (kernelRun0_B.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 3).toLoadRect)⟩ :: (kernelRun0_B.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_3 (h10 : ∀ a, k0_off10 i a + S1x128x512.size a ≤ S16x128x512.size a) : (kernelRun0_B.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 3, stepA (vals arg11.view (harg11.unread xs1) (k0_off10 i) h10) (masked 0#32 (qlo 3) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 3).toLoadRect)) (arg12.view.readCov (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 3).toLoadRect) (arg14.view.readCov (kernelRun0_B.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 3).toLoadRect)⟩ :: (kernelRun0_B.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_4  : (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 4, stepM (masked 0#32 (qlo 4) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 4).toLoadRect)) (arg12.view.readCov (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 4).toLoadRect)⟩ :: (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_4  : (kernelRun0_B.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 4, stepL (masked 0#32 (qlo 4) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 4).toLoadRect)) (arg12.view.readCov (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 4).toLoadRect) (arg13.view.readCov (kernelRun0_B.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 4).toLoadRect)⟩ :: (kernelRun0_B.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_4 (h10 : ∀ a, k0_off10 i a + S1x128x512.size a ≤ S16x128x512.size a) : (kernelRun0_B.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 4, stepA (vals arg11.view (harg11.unread xs1) (k0_off10 i) h10) (masked 0#32 (qlo 4) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 4).toLoadRect)) (arg12.view.readCov (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 4).toLoadRect) (arg14.view.readCov (kernelRun0_B.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 4).toLoadRect)⟩ :: (kernelRun0_B.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_5  : (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 5, stepM (masked 0#32 (qlo 5) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 5).toLoadRect)) (arg12.view.readCov (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 5).toLoadRect)⟩ :: (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_5  : (kernelRun0_B.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 5, stepL (masked 0#32 (qlo 5) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 5).toLoadRect)) (arg12.view.readCov (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 5).toLoadRect) (arg13.view.readCov (kernelRun0_B.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 5).toLoadRect)⟩ :: (kernelRun0_B.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_5 (h10 : ∀ a, k0_off10 i a + S1x128x512.size a ≤ S16x128x512.size a) : (kernelRun0_B.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 5, stepA (vals arg11.view (harg11.unread xs1) (k0_off10 i) h10) (masked 0#32 (qlo 5) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 5).toLoadRect)) (arg12.view.readCov (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 5).toLoadRect) (arg14.view.readCov (kernelRun0_B.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 5).toLoadRect)⟩ :: (kernelRun0_B.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_6  : (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 6, stepM (masked 0#32 (qlo 6) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 6).toLoadRect)) (arg12.view.readCov (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 6).toLoadRect)⟩ :: (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_6  : (kernelRun0_B.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 6, stepL (masked 0#32 (qlo 6) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 6).toLoadRect)) (arg12.view.readCov (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 6).toLoadRect) (arg13.view.readCov (kernelRun0_B.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 6).toLoadRect)⟩ :: (kernelRun0_B.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_6 (h10 : ∀ a, k0_off10 i a + S1x128x512.size a ≤ S16x128x512.size a) : (kernelRun0_B.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 6, stepA (vals arg11.view (harg11.unread xs1) (k0_off10 i) h10) (masked 0#32 (qlo 6) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 6).toLoadRect)) (arg12.view.readCov (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 6).toLoadRect) (arg14.view.readCov (kernelRun0_B.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 6).toLoadRect)⟩ :: (kernelRun0_B.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_7  : (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 7, stepM (masked 0#32 (qlo 7) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 7).toLoadRect)) (arg12.view.readCov (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 7).toLoadRect)⟩ :: (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_7  : (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = ⟨strip 1 7, stepL (masked 0#32 (qlo 7) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 7).toLoadRect)) (arg12.view.readCov (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 7).toLoadRect) (arg13.view.readCov (kernelRun0_B.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 7).toLoadRect)⟩ :: (kernelRun0_B.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_7 (h10 : ∀ a, k0_off10 i a + S1x128x512.size a ≤ S16x128x512.size a) : (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 7, stepA (vals arg11.view (harg11.unread xs1) (k0_off10 i) h10) (masked 0#32 (qlo 7) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 7).toLoadRect)) (arg12.view.readCov (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 7).toLoadRect) (arg14.view.readCov (kernelRun0_B.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 7).toLoadRect)⟩ :: (kernelRun0_B.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_8  : (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 2, stepM (masked 512#32 (qlo 2) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 2).toLoadRect)) (arg12.view.readCov (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect)⟩ :: (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_l_8  : (kernelRun0_B.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 2, stepL (masked 512#32 (qlo 2) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 2).toLoadRect)) (arg12.view.readCov (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect) (arg13.view.readCov (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect)⟩ :: (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) := rfl

theorem b_a_8 (h11 : ∀ a, k0_off11 i a + S1x128x512.size a ≤ S16x128x512.size a) : (kernelRun0_B.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 2, stepA (vals arg11.view (harg11.unread xs1) (k0_off11 i) h11) (masked 512#32 (qlo 2) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 2).toLoadRect)) (arg12.view.readCov (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 2).toLoadRect) (arg14.view.readCov (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 2).toLoadRect)⟩ :: (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_9  : (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 3, stepM (masked 512#32 (qlo 3) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 3).toLoadRect)) (arg12.view.readCov (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 3).toLoadRect)⟩ :: (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_l_9  : (kernelRun0_B.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 3, stepL (masked 512#32 (qlo 3) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 3).toLoadRect)) (arg12.view.readCov (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 3).toLoadRect) (arg13.view.readCov (kernelRun0_B.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 3).toLoadRect)⟩ :: (kernelRun0_B.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_a_9 (h11 : ∀ a, k0_off11 i a + S1x128x512.size a ≤ S16x128x512.size a) : (kernelRun0_B.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 3, stepA (vals arg11.view (harg11.unread xs1) (k0_off11 i) h11) (masked 512#32 (qlo 3) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 3).toLoadRect)) (arg12.view.readCov (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 3).toLoadRect) (arg14.view.readCov (kernelRun0_B.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 3).toLoadRect)⟩ :: (kernelRun0_B.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_m_10  : (kernelRun0_B.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 6, stepM (masked 512#32 (qlo 6) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 6).toLoadRect)) (arg12.view.readCov (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 6).toLoadRect)⟩ :: (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_l_10  : (kernelRun0_B.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 1 6, stepL (masked 512#32 (qlo 6) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 6).toLoadRect)) (arg12.view.readCov (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 6).toLoadRect) (arg13.view.readCov (kernelRun0_B.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 6).toLoadRect)⟩ :: (kernelRun0_B.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_a_10 (h11 : ∀ a, k0_off11 i a + S1x128x512.size a ≤ S16x128x512.size a) : (kernelRun0_B.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = ⟨strip 128 6, stepA (vals arg11.view (harg11.unread xs1) (k0_off11 i) h11) (masked 512#32 (qlo 6) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 6).toLoadRect)) (arg12.view.readCov (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 6).toLoadRect) (arg14.view.readCov (kernelRun0_B.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 6).toLoadRect)⟩ :: (kernelRun0_B.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := rfl

theorem b_M_0  : (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [0] := by
  rw [b_m_0]
  rfl

theorem b_L_0  : (kernelRun0_B.sl.HS3_1_1 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [0] := by
  rw [b_l_0]
  rfl

theorem b_A_0 (h10 : ∀ a, k0_off10 i a + S1x128x512.size a ≤ S16x128x512.size a) : (kernelRun0_B.sl.HS4_1_1 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [0] := by
  rw [b_a_0 (h10 := h10)]
  rfl

theorem b_M_1  : (kernelRun0_B.sl.HS2_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [1, 0] := by
  rw [b_m_1, b_M_0]
  rfl

theorem b_L_1  : (kernelRun0_B.sl.HS3_2 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [1, 0] := by
  rw [b_l_1, b_M_0, b_L_0]
  rfl

theorem b_A_1 (h10 : ∀ a, k0_off10 i a + S1x128x512.size a ≤ S16x128x512.size a) : (kernelRun0_B.sl.HS4_2 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [1, 0] := by
  rw [b_a_1 (h10 := h10), b_M_0, b_A_0 (h10 := h10)]
  rfl

theorem b_M_2  : (kernelRun0_B.sl.HS2_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [2, 1, 0] := by
  rw [b_m_2, b_M_1]
  rfl

theorem b_L_2  : (kernelRun0_B.sl.HS3_3 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [2, 1, 0] := by
  rw [b_l_2, b_M_1, b_L_1]
  rfl

theorem b_A_2 (h10 : ∀ a, k0_off10 i a + S1x128x512.size a ≤ S16x128x512.size a) : (kernelRun0_B.sl.HS4_3 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [2, 1, 0] := by
  rw [b_a_2 (h10 := h10), b_M_1, b_A_1 (h10 := h10)]
  rfl

theorem b_M_3  : (kernelRun0_B.sl.HS2_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [3, 2, 1, 0] := by
  rw [b_m_3, b_M_2]
  rfl

theorem b_L_3  : (kernelRun0_B.sl.HS3_4 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [3, 2, 1, 0] := by
  rw [b_l_3, b_M_2, b_L_2]
  rfl

theorem b_A_3 (h10 : ∀ a, k0_off10 i a + S1x128x512.size a ≤ S16x128x512.size a) : (kernelRun0_B.sl.HS4_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [3, 2, 1, 0] := by
  rw [b_a_3 (h10 := h10), b_M_2, b_A_2 (h10 := h10)]
  rfl

theorem b_M_4  : (kernelRun0_B.sl.HS2_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [4, 3, 2, 1, 0] := by
  rw [b_m_4, b_M_3]
  rfl

theorem b_L_4  : (kernelRun0_B.sl.HS3_5 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [4, 3, 2, 1, 0] := by
  rw [b_l_4, b_M_3, b_L_3]
  rfl

theorem b_A_4 (h10 : ∀ a, k0_off10 i a + S1x128x512.size a ≤ S16x128x512.size a) : (kernelRun0_B.sl.HS4_5 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [4, 3, 2, 1, 0] := by
  rw [b_a_4 (h10 := h10), b_M_3, b_A_3 (h10 := h10)]
  rfl

theorem b_M_5  : (kernelRun0_B.sl.HS2_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [5, 4, 3, 2, 1, 0] := by
  rw [b_m_5, b_M_4]
  rfl

theorem b_L_5  : (kernelRun0_B.sl.HS3_6 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [5, 4, 3, 2, 1, 0] := by
  rw [b_l_5, b_M_4, b_L_4]
  rfl

theorem b_A_5 (h10 : ∀ a, k0_off10 i a + S1x128x512.size a ≤ S16x128x512.size a) : (kernelRun0_B.sl.HS4_6 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [5, 4, 3, 2, 1, 0] := by
  rw [b_a_5 (h10 := h10), b_M_4, b_A_4 (h10 := h10)]
  rfl

theorem b_M_6  : (kernelRun0_B.sl.HS2_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [6, 5, 4, 3, 2, 1, 0] := by
  rw [b_m_6, b_M_5]
  rfl

theorem b_L_6  : (kernelRun0_B.sl.HS3_7 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [6, 5, 4, 3, 2, 1, 0] := by
  rw [b_l_6, b_M_5, b_L_5]
  rfl

theorem b_A_6 (h10 : ∀ a, k0_off10 i a + S1x128x512.size a ≤ S16x128x512.size a) : (kernelRun0_B.sl.HS4_7 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [6, 5, 4, 3, 2, 1, 0] := by
  rw [b_a_6 (h10 := h10), b_M_5, b_A_5 (h10 := h10)]
  rfl

theorem b_M_7  : (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = mPass arg12.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) [7, 6, 5, 4, 3, 2, 1, 0] := by
  rw [b_m_7, b_M_6]
  rfl

theorem b_L_7  : (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) = lPass arg12.view arg13.view (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) [7, 6, 5, 4, 3, 2, 1, 0] := by
  rw [b_l_7, b_M_6, b_L_6]
  rfl

theorem b_A_7 (h10 : ∀ a, k0_off10 i a + S1x128x512.size a ≤ S16x128x512.size a) : (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off10 i) h10) (fun r => masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) [7, 6, 5, 4, 3, 2, 1, 0] := by
  rw [b_a_7 (h10 := h10), b_M_6, b_A_6 (h10 := h10)]
  rfl

theorem b_M_8  : (kernelRun0_B.sl.HS2_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = mPass arg12.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [2] := by
  rw [b_m_8]
  rfl

theorem b_L_8  : (kernelRun0_B.sl.HS3_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = lPass arg12.view arg13.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [2] := by
  rw [b_l_8]
  rfl

theorem b_A_8 (h11 : ∀ a, k0_off11 i a + S1x128x512.size a ≤ S16x128x512.size a) : (kernelRun0_B.sl.HS4_9 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off11 i) h11) (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) [2] := by
  rw [b_a_8 (h11 := h11)]
  rfl

theorem b_M_9  : (kernelRun0_B.sl.HS2_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = mPass arg12.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [3, 2] := by
  rw [b_m_9, b_M_8]
  rfl

theorem b_L_9  : (kernelRun0_B.sl.HS3_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = lPass arg12.view arg13.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [3, 2] := by
  rw [b_l_9, b_M_8, b_L_8]
  rfl

theorem b_A_9 (h11 : ∀ a, k0_off11 i a + S1x128x512.size a ≤ S16x128x512.size a) : (kernelRun0_B.sl.HS4_10 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off11 i) h11) (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) [3, 2] := by
  rw [b_a_9 (h11 := h11), b_M_8, b_A_8 (h11 := h11)]
  rfl

theorem b_M_10  : (kernelRun0_B.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = mPass arg12.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [6, 3, 2] := by
  rw [b_m_10, b_M_9]
  rfl

theorem b_L_10  : (kernelRun0_B.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = lPass arg12.view arg13.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) [6, 3, 2] := by
  rw [b_l_10, b_M_9, b_L_9]
  rfl

theorem b_A_10 (h11 : ∀ a, k0_off11 i a + S1x128x512.size a ≤ S16x128x512.size a) : (kernelRun0_B.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) = aPass arg12.view arg14.view (vals arg11.view (harg11.unread xs1) (k0_off11 i) h11) (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) [6, 3, 2] := by
  rw [b_a_10 (h11 := h11), b_M_9, b_A_9 (h11 := h11)]
  rfl

/-- The running sum's pieces. -/
theorem b_L : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1 = lPass arg12.view arg13.view (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) rs4 := by
  have e : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1 = ⟨strip 1 7, stepL (masked 512#32 (qlo 7) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 7).toLoadRect)) (arg12.view.readCov (kernelRun0_B.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 7).toLoadRect) (arg13.view.readCov (kernelRun0_B.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 7).toLoadRect)⟩ :: (kernelRun0_B.sl.HS3_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := by
    unfold kernelRun0_B; rfl
  rw [e, b_M_10, b_L_10]
  rfl

/-- The accumulator's pieces. -/
theorem b_A (h11 : ∀ a, k0_off11 i a + S1x128x512.size a ≤ S16x128x512.size a) : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.val = aPass arg12.view arg14.view (vals arg11.view (harg11.unread xs1) (k0_off11 i) h11) (fun r => masked 512#32 (qlo r) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect)) (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) rs4 := by
  have e : (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.val = ⟨strip 128 7, stepA (vals arg11.view (harg11.unread xs1) (k0_off11 i) h11) (masked 512#32 (qlo 7) (arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 7).toLoadRect)) (arg12.view.readCov (kernelRun0_B.sl.HS2_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 1 7).toLoadRect) (arg14.view.readCov (kernelRun0_B.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 128 7).toLoadRect)⟩ :: (kernelRun0_B.sl.HS4_11 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) := by
    unfold kernelRun0_B; rfl
  rw [e, b_M_10, b_A_10 (h11 := h11)]
  rfl

end Cert.KernelIdeal.Own

end
-- ==== Proof.Point.lean ====
module

public import proofs.«01_k».proof.Proof.LoopV
public import proofs.«01_k».proof.Proof.DiagA
public import proofs.«01_k».proof.Proof.DiagB

/-! What one grid point leaves in the running sum and the accumulator, strip by strip. -/

@[expose] public section

set_option maxRecDepth 16384
set_option maxHeartbeats 4000000

noncomputable section

namespace Cert.KernelIdeal.Own

open Idealize.ShloMosaic Idealize.ShloMosaic.TcCoe Idealize.ShloMosaic.Tactic
open Cert.KernelIdeal.Gen

attribute [local irreducible] pb_k0_t1

variable {F : FTy → Type} [FloatOps F] [Named F]

/-- A strip after the first diagonal block. -/
def fin1 (sc : ℕ → FVec F S512x256 .f32) (vb : ℕ → FVec F S128x512 .bf16) (x : Strip F) (q : ℕ) (r : Fin 8) : Strip F :=
  blk (masked 0#32 (qlo r) (sc (2 * q))) (vb (2 * q)) (runs sc vb x (2 * q))

/-- A strip after both diagonal blocks. -/
def fin (sc : ℕ → FVec F S512x256 .f32) (vb : ℕ → FVec F S128x512 .bf16) (x : Strip F) (q : ℕ) (r : Fin 8) : Strip F :=
  if r ∈ rs4 then blk (masked 512#32 (qlo r) (sc (2 * q + 1))) (vb (2 * q + 1)) (fin1 sc vb x q r) else fin1 sc vb x q r

section CaseA

variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i) (x0 : Vec F S1x1024x128 .f32) (x1 : Vec F S1x8192x128 .bf16) (x2 : Vec F S1x8192x128 .bf16) (x3 : Vec F S1x1024x128 .f32) (x4 : Vec F S8x128 .f32) (x5 : Vec F S1x128 .f32)

theorem a_loop (hlt : (i 2).val < 8) (r : Fin 8) :
    arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 r).toLoadRect = (runs (fun n => scoresOf (kN arg4.view (harg4.unread x1) n) arg10.view (arg10.view.writes (Elt F) arg10.view.junk (kernelRun0_A.sl.HS0_2 (F := F) c arg3 harg3 x0)) r) (fun n => vN arg11.view (arg11.view.writes (Elt F) arg11.view.junk (kernelRun0_A.sl.HS1_16 (F := F) c arg5 harg5 x2)) n) ((fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) r) (2 * (i 2).val)).1
      ∧ arg13.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) (strip 1 r).toLoadRect = (runs (fun n => scoresOf (kN arg4.view (harg4.unread x1) n) arg10.view (arg10.view.writes (Elt F) arg10.view.junk (kernelRun0_A.sl.HS0_2 (F := F) c arg3 harg3 x0)) r) (fun n => vN arg11.view (arg11.view.writes (Elt F) arg11.view.junk (kernelRun0_A.sl.HS1_16 (F := F) c arg5 harg5 x2)) n) ((fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) r) (2 * (i 2).val)).2.1
      ∧ arg14.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) (strip 128 r).toLoadRect = (runs (fun n => scoresOf (kN arg4.view (harg4.unread x1) n) arg10.view (arg10.view.writes (Elt F) arg10.view.junk (kernelRun0_A.sl.HS0_2 (F := F) c arg3 harg3 x0)) r) (fun n => vN arg11.view (arg11.view.writes (Elt F) arg11.view.junk (kernelRun0_A.sl.HS1_16 (F := F) c arg5 harg5 x2)) n) ((fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) r) (2 * (i 2).val)).2.2
      ∧ arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect = scoresOf (kN arg4.view (harg4.unread x1) (2 * (i 2).val)) arg10.view (arg10.view.writes (Elt F) arg10.view.junk (kernelRun0_A.sl.HS0_2 (F := F) c arg3 harg3 x0)) r := by
  have h0 : ∀ a, (![0, 0, 0] : Fin 3 → ℕ) a + S1x512x128.size a ≤ S1x8192x128.size a := by decide
  have g15 : ∀ r, arg15.view.readAt (Elt F) (strip 512 r).toLoadRect (arg15.view.writes (Elt F) arg15.view.junk (kernelRun0_A.sl.HS5_8 (F := F) c arg3 harg3 arg4 harg4 arg10 x0 x1)) = scoresOf (kN arg4.view (harg4.unread x1) 0) arg10.view (arg10.view.writes (Elt F) arg10.view.junk (kernelRun0_A.sl.HS0_2 (F := F) c arg3 harg3 x0)) r := by
    intro r
    rw [a_s0 (h0 := h0), keys_eq _ _ _ h0 0 rfl]
    exact fillL_in (a := 512) arg15.view _ _ [] r rs8 (mem_rs8 r)
  have := loop_reads (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (harg4.unread x1) (arg10.view.writes (Elt F) arg10.view.junk (kernelRun0_A.sl.HS0_2 (F := F) c arg3 harg3 x0)) (arg11.view.writes (Elt F) arg11.view.junk (kernelRun0_A.sl.HS1_16 (F := F) c arg5 harg5 x2)) (arg12.view.writes (Elt F) arg12.view.junk (kernelRun0_A.sl.HS2_1 (F := F) )) (arg13.view.writes (Elt F) arg13.view.junk (kernelRun0_A.sl.HS3_2 (F := F) )) (arg14.view.writes (Elt F) arg14.view.junk (kernelRun0_A.sl.HS4_2 (F := F) )) (arg15.view.writes (Elt F) arg15.view.junk (kernelRun0_A.sl.HS5_8 (F := F) c arg3 harg3 arg4 harg4 arg10 x0 x1)) arg16.view.junk (fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) (fun _ => rfl) (fun _ => rfl) (fun _ => rfl) g15 (k0_t1_loop i).trips le_rfl r
  have ht : (k0_t1_loop i).trips = (i 2).val := (trips_k0_t1 i).trans (if_pos hlt)
  obtain ⟨e1, e2, e3, e4⟩ := this
  have w12 := View.writes_append (Val := Elt F) arg12.view arg12.view.junk (loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 (kernelRun0_A.sl.HS2_1 (F := F) )
  have w13 := View.writes_append (Val := Elt F) arg13.view arg13.view.junk (loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 (kernelRun0_A.sl.HS3_2 (F := F) )
  have w14 := View.writes_append (Val := Elt F) arg14.view arg14.view.junk (loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 (kernelRun0_A.sl.HS4_2 (F := F) )
  have w15 := View.writes_append (Val := Elt F) arg15.view arg15.view.junk (loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 (kernelRun0_A.sl.HS5_8 (F := F) c arg3 harg3 arg4 harg4 arg10 x0 x1)
  refine ⟨(congrArg (arg12.view.readAt (Elt F) (strip 1 r).toLoadRect) w12).trans (e1.trans ?_), (congrArg (arg13.view.readAt (Elt F) (strip 1 r).toLoadRect) w13).trans (e2.trans ?_), (congrArg (arg14.view.readAt (Elt F) (strip 128 r).toLoadRect) w14).trans (e3.trans ?_), (congrArg (arg15.view.readAt (Elt F) (strip 512 r).toLoadRect) w15).trans (e4.trans ?_)⟩ <;> rw [ht]

theorem a_next (hk : k0_cond2 i = 1#1) (r : Fin 8) (hr : r ∈ rs4) :
    arg16.view.readCov (kernelRun0_A.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2) (strip 512 r).toLoadRect = scoresOf (kN arg4.view (harg4.unread x1) (2 * (i 2).val + 1)) arg10.view (arg10.view.writes (Elt F) arg10.view.junk (kernelRun0_A.sl.HS0_2 (F := F) c arg3 harg3 x0)) r := by
  have h9 := k0_off9_inb i hk
  rw [a_s1 (h9 := h9), keys_eq _ _ _ h9 (2 * (i 2).val + 1) ((k0_off9_eq _).trans (congrArg (fun x => ![0, x, 0]) (by omega)))]
  exact fillL_in (a := 512) arg16.view _ _ _ r rs4 hr

theorem a_fin (hk : k0_cond2 i = 1#1) (hlt : (i 2).val < 8) (f13 : arg13.view.ty.Contents (Elt F)) (f14 : arg14.view.ty.Contents (Elt F)) (r : Fin 8) :
    arg13.view.readAt (Elt F) (strip 1 r).toLoadRect (arg13.view.writes (Elt F) f13 (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1) = (fin (fun n => scoresOf (kN arg4.view (harg4.unread x1) n) arg10.view (arg10.view.writes (Elt F) arg10.view.junk (kernelRun0_A.sl.HS0_2 (F := F) c arg3 harg3 x0)) r) (fun n => vN arg11.view (arg11.view.writes (Elt F) arg11.view.junk (kernelRun0_A.sl.HS1_16 (F := F) c arg5 harg5 x2)) n) ((fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) r) (i 2).val r).2.1
      ∧ arg14.view.readAt (Elt F) (strip 128 r).toLoadRect (arg14.view.writes (Elt F) f14 (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.val) = (fin (fun n => scoresOf (kN arg4.view (harg4.unread x1) n) arg10.view (arg10.view.writes (Elt F) arg10.view.junk (kernelRun0_A.sl.HS0_2 (F := F) c arg3 harg3 x0)) r) (fun n => vN arg11.view (arg11.view.writes (Elt F) arg11.view.junk (kernelRun0_A.sl.HS1_16 (F := F) c arg5 harg5 x2)) n) ((fun r => (arg12.view.readAt (Elt F) (strip 1 r).toLoadRect (arg12.view.writes (Elt F) arg12.view.junk (kernelRun0_A.sl.HS2_1 (F := F) )), arg13.view.readAt (Elt F) (strip 1 r).toLoadRect (arg13.view.writes (Elt F) arg13.view.junk (kernelRun0_A.sl.HS3_2 (F := F) )), arg14.view.readAt (Elt F) (strip 128 r).toLoadRect (arg14.view.writes (Elt F) arg14.view.junk (kernelRun0_A.sl.HS4_2 (F := F) )))) r) (i 2).val r).2.2 := by
  have h10 := k0_off10_inb i hk
  have h11 := k0_off11_inb i hk
  have v0 := vals_eq arg11.view (arg11.view.writes (Elt F) arg11.view.junk (kernelRun0_A.sl.HS1_16 (F := F) c arg5 harg5 x2)) _ h10 (2 * (i 2).val) (k0_off10_eq i)
  have v1 := vals_eq arg11.view (arg11.view.writes (Elt F) arg11.view.junk (kernelRun0_A.sl.HS1_16 (F := F) c arg5 harg5 x2)) _ h11 (2 * (i 2).val + 1) (k0_off11_eq i)
  obtain ⟨q1, q2, q3, q4⟩ := a_loop c i arg3 harg3 arg4 harg4 arg5 harg5 arg6 harg6 arg7 harg7 arg8 harg8 arg9 harg9 arg10 harg10 arg11 harg11 arg12 harg12 arg13 harg13 arg14 harg14 arg15 harg15 arg16 harg16 x0 x1 x2 hlt r
  have n := a_next c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2 hk r
  have m7 : ∀ r, arg12.view.readCov (kernelRun0_A.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (strip 1 r).toLoadRect = stepM (masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 r).toLoadRect) := fun r => by
    rw [a_M_7]
    exact (mPass_cov arg12.view _ _ rs8 nodup_rs8 r).trans (if_pos (mem_rs8 r))
  have l7 : ∀ f, arg13.view.readAt (Elt F) (strip 1 r).toLoadRect (arg13.view.writes (Elt F) f (kernelRun0_A.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2)) = stepL (masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 r).toLoadRect) (arg13.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ (kernelRun0_A.sl.HS3_2 (F := F) )) (strip 1 r).toLoadRect) := fun f => by
    rw [a_L_7]
    exact (lPass_read arg12.view arg13.view _ _ _ rs8 nodup_rs8 f r).trans (if_pos (mem_rs8 r))
  have a7 : ∀ f, arg14.view.readAt (Elt F) (strip 128 r).toLoadRect (arg14.view.writes (Elt F) f (kernelRun0_A.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 x2)) = stepA (vN arg11.view (arg11.view.writes (Elt F) arg11.view.junk (kernelRun0_A.sl.HS1_16 (F := F) c arg5 harg5 x2)) (2 * (i 2).val)) (masked 0#32 (qlo r) (arg15.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.2.1 ++ (kernelRun0_A.sl.HS5_8 (F := F) c arg3 harg3 arg4 harg4 arg10 x0 x1)) (strip 512 r).toLoadRect)) (arg12.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ (kernelRun0_A.sl.HS2_1 (F := F) )) (strip 1 r).toLoadRect) (arg14.view.readCov ((loopA (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2.1 ++ (kernelRun0_A.sl.HS4_2 (F := F) )) (strip 128 r).toLoadRect) := fun f => by
    rw [a_A_7 (h10 := h10), v0]
    exact (aPass_read arg12.view arg14.view _ _ _ _ rs8 nodup_rs8 f r).trans (if_pos (mem_rs8 r))
  have m7 := m7 r
  rw [q1, q4] at m7
  rw [q1, q2, q4] at l7
  rw [q1, q3, q4] at a7
  constructor
  · rw [a_L]
    refine (lPass_read arg12.view arg13.view _ _ _ rs4 nodup_rs4 f13 r).trans ?_
    by_cases hr : r ∈ rs4
    · rw [if_pos hr, fin, if_pos hr, m7, n hr]
      exact congrArg (stepL _ _) (l7 _)
    · rw [if_neg hr, fin, if_neg hr]
      exact l7 _
  · rw [a_A (h11 := h11), v1]
    refine (aPass_read arg12.view arg14.view _ _ _ _ rs4 nodup_rs4 f14 r).trans ?_
    by_cases hr : r ∈ rs4
    · rw [if_pos hr, fin, if_pos hr, m7, n hr]
      exact congrArg (stepA _ _ _) (a7 _)
    · rw [if_neg hr, fin, if_neg hr]
      exact a7 _

end CaseA

section CaseB

variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i) (x0 : Vec F S1x1024x128 .f32) (x1 : Vec F S1x8192x128 .bf16) (x2 : Vec F S1x8192x128 .bf16) (x3 : Vec F S1x1024x128 .f32) (x4 : Vec F S8x128 .f32) (x5 : Vec F S1x128 .f32) (xs1 : Vec F S16x128x512 .bf16) (xs3 : Vec F S1x2048 .f32) (xs4 : Vec F S128x2048 .f32)

theorem b_loop (hlt : (i 2).val < 8) (r : Fin 8) :
    arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 r).toLoadRect = (runs (fun n => scoresOf (kN arg4.view (harg4.unread x1) n) arg10.view (arg10.view.writes (Elt F) arg10.view.junk (kernelRun0_B.sl.HS0_2 (F := F) c arg3 harg3 x0)) r) (fun n => vN arg11.view (harg11.unread xs1) n) ((fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) r) (2 * (i 2).val)).1
      ∧ arg13.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) (strip 1 r).toLoadRect = (runs (fun n => scoresOf (kN arg4.view (harg4.unread x1) n) arg10.view (arg10.view.writes (Elt F) arg10.view.junk (kernelRun0_B.sl.HS0_2 (F := F) c arg3 harg3 x0)) r) (fun n => vN arg11.view (harg11.unread xs1) n) ((fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) r) (2 * (i 2).val)).2.1
      ∧ arg14.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) (strip 128 r).toLoadRect = (runs (fun n => scoresOf (kN arg4.view (harg4.unread x1) n) arg10.view (arg10.view.writes (Elt F) arg10.view.junk (kernelRun0_B.sl.HS0_2 (F := F) c arg3 harg3 x0)) r) (fun n => vN arg11.view (harg11.unread xs1) n) ((fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) r) (2 * (i 2).val)).2.2
      ∧ arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect = scoresOf (kN arg4.view (harg4.unread x1) (2 * (i 2).val)) arg10.view (arg10.view.writes (Elt F) arg10.view.junk (kernelRun0_B.sl.HS0_2 (F := F) c arg3 harg3 x0)) r := by
  have h0 : ∀ a, (![0, 0, 0] : Fin 3 → ℕ) a + S1x512x128.size a ≤ S1x8192x128.size a := by decide
  have g15 : ∀ r, arg15.view.readAt (Elt F) (strip 512 r).toLoadRect (arg15.view.writes (Elt F) arg15.view.junk (kernelRun0_B.sl.HS5_8 (F := F) c arg3 harg3 arg4 harg4 arg10 x0 x1)) = scoresOf (kN arg4.view (harg4.unread x1) 0) arg10.view (arg10.view.writes (Elt F) arg10.view.junk (kernelRun0_B.sl.HS0_2 (F := F) c arg3 harg3 x0)) r := by
    intro r
    rw [b_s0 (h0 := h0), keys_eq _ _ _ h0 0 rfl]
    exact fillL_in (a := 512) arg15.view _ _ [] r rs8 (mem_rs8 r)
  have := loop_reads (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 (harg4.unread x1) (arg10.view.writes (Elt F) arg10.view.junk (kernelRun0_B.sl.HS0_2 (F := F) c arg3 harg3 x0)) (harg11.unread xs1) (arg12.view.writes (Elt F) arg12.view.junk (kernelRun0_B.sl.HS2_1 (F := F) )) (arg13.view.writes (Elt F) arg13.view.junk (kernelRun0_B.sl.HS3_1 (F := F) )) (arg14.view.writes (Elt F) arg14.view.junk (kernelRun0_B.sl.HS4_1 (F := F) )) (arg15.view.writes (Elt F) arg15.view.junk (kernelRun0_B.sl.HS5_8 (F := F) c arg3 harg3 arg4 harg4 arg10 x0 x1)) arg16.view.junk (fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) (fun _ => rfl) (fun _ => rfl) (fun _ => rfl) g15 (k0_t1_loop i).trips le_rfl r
  have ht : (k0_t1_loop i).trips = (i 2).val := (trips_k0_t1 i).trans (if_pos hlt)
  obtain ⟨e1, e2, e3, e4⟩ := this
  have w12 := View.writes_append (Val := Elt F) arg12.view arg12.view.junk (loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 (kernelRun0_B.sl.HS2_1 (F := F) )
  have w13 := View.writes_append (Val := Elt F) arg13.view arg13.view.junk (loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 (kernelRun0_B.sl.HS3_1 (F := F) )
  have w14 := View.writes_append (Val := Elt F) arg14.view arg14.view.junk (loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 (kernelRun0_B.sl.HS4_1 (F := F) )
  have w15 := View.writes_append (Val := Elt F) arg15.view arg15.view.junk (loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 (kernelRun0_B.sl.HS5_8 (F := F) c arg3 harg3 arg4 harg4 arg10 x0 x1)
  refine ⟨(congrArg (arg12.view.readAt (Elt F) (strip 1 r).toLoadRect) w12).trans (e1.trans ?_), (congrArg (arg13.view.readAt (Elt F) (strip 1 r).toLoadRect) w13).trans (e2.trans ?_), (congrArg (arg14.view.readAt (Elt F) (strip 128 r).toLoadRect) w14).trans (e3.trans ?_), (congrArg (arg15.view.readAt (Elt F) (strip 512 r).toLoadRect) w15).trans (e4.trans ?_)⟩ <;> rw [ht]

theorem b_next (hk : k0_cond2 i = 1#1) (r : Fin 8) (hr : r ∈ rs4) :
    arg16.view.readCov (kernelRun0_B.sl.HS6_4 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1) (strip 512 r).toLoadRect = scoresOf (kN arg4.view (harg4.unread x1) (2 * (i 2).val + 1)) arg10.view (arg10.view.writes (Elt F) arg10.view.junk (kernelRun0_B.sl.HS0_2 (F := F) c arg3 harg3 x0)) r := by
  have h9 := k0_off9_inb i hk
  rw [b_s1 (h9 := h9), keys_eq _ _ _ h9 (2 * (i 2).val + 1) ((k0_off9_eq _).trans (congrArg (fun x => ![0, x, 0]) (by omega)))]
  exact fillL_in (a := 512) arg16.view _ _ _ r rs4 hr

theorem b_fin (hk : k0_cond2 i = 1#1) (hlt : (i 2).val < 8) (f13 : arg13.view.ty.Contents (Elt F)) (f14 : arg14.view.ty.Contents (Elt F)) (r : Fin 8) :
    arg13.view.readAt (Elt F) (strip 1 r).toLoadRect (arg13.view.writes (Elt F) f13 (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1) = (fin (fun n => scoresOf (kN arg4.view (harg4.unread x1) n) arg10.view (arg10.view.writes (Elt F) arg10.view.junk (kernelRun0_B.sl.HS0_2 (F := F) c arg3 harg3 x0)) r) (fun n => vN arg11.view (harg11.unread xs1) n) ((fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) r) (i 2).val r).2.1
      ∧ arg14.view.readAt (Elt F) (strip 128 r).toLoadRect (arg14.view.writes (Elt F) f14 (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.val) = (fin (fun n => scoresOf (kN arg4.view (harg4.unread x1) n) arg10.view (arg10.view.writes (Elt F) arg10.view.junk (kernelRun0_B.sl.HS0_2 (F := F) c arg3 harg3 x0)) r) (fun n => vN arg11.view (harg11.unread xs1) n) ((fun r => (arg12.view.readAt (Elt F) (strip 1 r).toLoadRect (arg12.view.writes (Elt F) arg12.view.junk (kernelRun0_B.sl.HS2_1 (F := F) )), arg13.view.readAt (Elt F) (strip 1 r).toLoadRect (arg13.view.writes (Elt F) arg13.view.junk (kernelRun0_B.sl.HS3_1 (F := F) )), arg14.view.readAt (Elt F) (strip 128 r).toLoadRect (arg14.view.writes (Elt F) arg14.view.junk (kernelRun0_B.sl.HS4_1 (F := F) )))) r) (i 2).val r).2.2 := by
  have h10 := k0_off10_inb i hk
  have h11 := k0_off11_inb i hk
  have v0 := vals_eq arg11.view (harg11.unread xs1) _ h10 (2 * (i 2).val) (k0_off10_eq i)
  have v1 := vals_eq arg11.view (harg11.unread xs1) _ h11 (2 * (i 2).val + 1) (k0_off11_eq i)
  obtain ⟨q1, q2, q3, q4⟩ := b_loop c i arg3 harg3 arg4 harg4 arg5 harg5 arg6 harg6 arg7 harg7 arg8 harg8 arg9 harg9 arg10 harg10 arg11 harg11 arg12 harg12 arg13 harg13 arg14 harg14 arg15 harg15 arg16 harg16 x0 x1 xs1 hlt r
  have n := b_next c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1 hk r
  have m7 : ∀ r, arg12.view.readCov (kernelRun0_B.sl.HS2_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1) (strip 1 r).toLoadRect = stepM (masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 r).toLoadRect) := fun r => by
    rw [b_M_7]
    exact (mPass_cov arg12.view _ _ rs8 nodup_rs8 r).trans (if_pos (mem_rs8 r))
  have l7 : ∀ f, arg13.view.readAt (Elt F) (strip 1 r).toLoadRect (arg13.view.writes (Elt F) f (kernelRun0_B.sl.HS3_8 (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1)) = stepL (masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 r).toLoadRect) (arg13.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.1 ++ (kernelRun0_B.sl.HS3_1 (F := F) )) (strip 1 r).toLoadRect) := fun f => by
    rw [b_L_7]
    exact (lPass_read arg12.view arg13.view _ _ _ rs8 nodup_rs8 f r).trans (if_pos (mem_rs8 r))
  have a7 : ∀ f, arg14.view.readAt (Elt F) (strip 128 r).toLoadRect (arg14.view.writes (Elt F) f (kernelRun0_B.sl.HS4_8 (F := F) c i arg3 harg3 arg4 harg4 arg5 harg5 arg6 harg6 arg7 harg7 arg8 harg8 arg9 harg9 arg10 harg10 arg11 harg11 arg12 harg12 arg13 harg13 arg14 harg14 arg15 harg15 arg16 harg16 hc1 x0 x1 xs1)) = stepA (vN arg11.view (harg11.unread xs1) (2 * (i 2).val)) (masked 0#32 (qlo r) (arg15.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.2.1 ++ (kernelRun0_B.sl.HS5_8 (F := F) c arg3 harg3 arg4 harg4 arg10 x0 x1)) (strip 512 r).toLoadRect)) (arg12.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).1 ++ (kernelRun0_B.sl.HS2_1 (F := F) )) (strip 1 r).toLoadRect) (arg14.view.readCov ((loopB (F := F) c i arg3 harg3 arg4 harg4 arg5 harg5 arg6 harg6 arg7 harg7 arg8 harg8 arg9 harg9 arg10 harg10 arg11 harg11 arg12 harg12 arg13 harg13 arg14 harg14 arg15 harg15 arg16 harg16 x0 x1 xs1).2.2.1 ++ (kernelRun0_B.sl.HS4_1 (F := F) )) (strip 128 r).toLoadRect) := fun f => by
    rw [b_A_7 (h10 := h10), v0]
    exact (aPass_read arg12.view arg14.view _ _ _ _ rs8 nodup_rs8 f r).trans (if_pos (mem_rs8 r))
  have m7 := m7 r
  rw [q1, q4] at m7
  rw [q1, q2, q4] at l7
  rw [q1, q3, q4] at a7
  constructor
  · rw [b_L]
    refine (lPass_read arg12.view arg13.view _ _ _ rs4 nodup_rs4 f13 r).trans ?_
    by_cases hr : r ∈ rs4
    · rw [if_pos hr, fin, if_pos hr, m7, n hr]
      exact congrArg (stepL _ _) (l7 _)
    · rw [if_neg hr, fin, if_neg hr]
      exact l7 _
  · rw [b_A (h11 := h11), v1]
    refine (aPass_read arg12.view arg14.view _ _ _ _ rs4 nodup_rs4 f14 r).trans ?_
    by_cases hr : r ∈ rs4
    · rw [if_pos hr, fin, if_pos hr, m7, n hr]
      exact congrArg (stepA _ _ _) (a7 _)
    · rw [if_neg hr, fin, if_neg hr]
      exact a7 _

end CaseB

end Cert.KernelIdeal.Own

end
-- ==== Proof.Softmax.lean ====
/- The running softmax over the extended reals: what one block of scores does to a column's maximum, sum and
   accumulator, and what the quotient at the end is. Nothing here mentions a program. -/
module

public import Idealize.ShloMosaic.PureOps.Ideal.Laws
public import Mathlib.Analysis.SpecialFunctions.Pow.Real

@[expose] public section

noncomputable section

namespace Cert.Attn
open Idealize.ShloMosaic

/-- The weight of a base-two score: zero where it is masked. -/
def wt (w : EReal) : ℝ := (Ideal.exp2 w).toReal

/-- The weight of a natural score: zero where it is masked. -/
def we (w : EReal) : ℝ := (Ideal.exp w).toReal

theorem wt_bot : wt ⊥ = 0 := rfl
theorem we_bot : we ⊥ = 0 := rfl
theorem wt_coe (r : ℝ) : wt (r : EReal) = (2 : ℝ) ^ r := rfl
theorem we_coe (r : ℝ) : we (r : EReal) = Real.exp r := rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_sub (w : EReal) (hw : w ≠ ⊤) (M : ℝ) : Ideal.exp2 (w - (M : EReal)) = ((wt w * (2 : ℝ) ^ (-M) : ℝ) : EReal) := by
  induction w with
  | bot => rw [EReal.bot_sub, wt_bot, zero_mul]; rfl
  | top => exact absurd rfl hw
  | coe r =>
    rw [← EReal.coe_sub, wt_coe, ← Real.rpow_add two_pos, ← sub_eq_add_neg]; rfl

theorem exp_sub (w : EReal) (hw : w ≠ ⊤) (M : ℝ) : Ideal.exp (w - (M : EReal)) = ((we w * Real.exp (-M) : ℝ) : EReal) := by
  induction w with
  | bot => rw [EReal.bot_sub, we_bot, zero_mul]; rfl
  | top => exact absurd rfl hw
  | coe r =>
    rw [← EReal.coe_sub, we_coe, ← Real.exp_add, ← sub_eq_add_neg]; rfl

/-- The maximum of finitely many scores below `⊤`, one of them above `⊥`, is a real number. -/
theorem max_real {n : ℕ} (m : EReal) (s : Fin n → EReal) (hm : m ≠ ⊤) (hs : ∀ i, s i ≠ ⊤) (hr : m ≠ ⊥ ∨ ∃ i, s i ≠ ⊥) :
    ∃ M : ℝ, max m (Finset.univ.fold max ⊥ s) = (M : EReal) := by
  have hb : max m (Finset.univ.fold max ⊥ s) ≠ ⊥ := by
    rcases hr with h | ⟨i, h⟩
    · exact fun e => h (le_bot_iff.mp (e ▸ le_max_left m _))
    · refine fun e => h (le_bot_iff.mp (e ▸ le_trans ?_ (le_max_right m _)))
      exact (Finset.le_fold_max (s i)).mpr (Or.inr ⟨i, Finset.mem_univ i, le_rfl⟩)
  have ht : max m (Finset.univ.fold max ⊥ s) ≠ ⊤ := by
    refine (max_lt (lt_top_iff_ne_top.mpr hm) ((Finset.fold_max_lt ⊤).mpr ⟨bot_lt_top, fun i _ => ?_⟩)).ne
    exact lt_top_iff_ne_top.mpr (hs i)
  exact ⟨_, (EReal.coe_toReal ht hb).symm⟩

/-- A column of the running softmax over keys of total weight `Λ` and weighted values `A`: either nothing has been seen,
    or sum and accumulator are those totals scaled by the running maximum. -/
def Col {E : Type} (Λ : ℝ) (A : E → ℝ) (m l : EReal) (a : E → EReal) : Prop :=
  (Λ = 0 ∧ (∀ e, A e = 0) ∧ m = ⊥ ∧ l = 0 ∧ ∀ e, a e = 0) ∨
    ∃ M : ℝ, m = M ∧ l = ((Λ * (2 : ℝ) ^ (-M) : ℝ) : EReal) ∧ ∀ e, a e = ((A e * (2 : ℝ) ^ (-M) : ℝ) : EReal)

theorem Col.start {E : Type} : Col (E := E) 0 (fun _ => 0) ⊥ 0 (fun _ => 0) := Or.inl ⟨rfl, fun _ => rfl, rfl, rfl, fun _ => rfl⟩

theorem Col.ne_top {E : Type} {Λ : ℝ} {A : E → ℝ} {m l : EReal} {a : E → EReal} (h : Col Λ A m l a) : m ≠ ⊤ := by
  rcases h with ⟨_, _, rfl, _⟩ | ⟨M, rfl, _⟩
  · exact bot_ne_top
  · exact EReal.coe_ne_top M

/-- One block of scores folded in. -/
theorem Col.step {E : Type} {n : ℕ} {Λ : ℝ} {A : E → ℝ} {m l : EReal} {a : E → EReal} (h : Col Λ A m l a)
    (s : Fin n → EReal) (v : Fin n → E → ℝ) (hs : ∀ i, s i ≠ ⊤) (hr : m ≠ ⊥ ∨ ∃ i, s i ≠ ⊥)
    (m' : EReal) (hm' : m' = max m (Finset.univ.fold max ⊥ s)) :
    Col (Λ + ∑ i, wt (s i)) (fun e => A e + ∑ i, wt (s i) * v i e) m'
      (Ideal.exp2 (m - m') * l + ∑ i, Ideal.exp2 (s i - m'))
      (fun e => Ideal.exp2 (m - m') * a e + ∑ i, (v i e : EReal) * Ideal.exp2 (s i - m')) ∧ m' ≠ ⊥ := by
  obtain ⟨M', hM'⟩ := max_real m s h.ne_top hs hr
  rw [hM'] at hm'
  subst hm'
  refine ⟨Or.inr ⟨M', rfl, ?_, fun e => ?_⟩, EReal.coe_ne_bot _⟩
  · simp only [exp2_sub _ (hs _), exp2_sub _ h.ne_top]
    rw [← coe_sum, ← Finset.sum_mul]
    rcases h with ⟨rfl, _, rfl, rfl, _⟩ | ⟨M, rfl, rfl, _⟩
    · simp
    · rw [← EReal.coe_mul, ← EReal.coe_add, wt_coe]
      congr 1
      have h2 : (2 : ℝ) ^ M * (2 : ℝ) ^ (-M) = 1 := by rw [← Real.rpow_add two_pos]; simp
      linear_combination Λ * (2 : ℝ) ^ (-M') * h2
  · simp only [exp2_sub _ (hs _), exp2_sub _ h.ne_top]
    have e2 : (∑ i, (v i e : EReal) * ((wt (s i) * (2 : ℝ) ^ (-M') : ℝ) : EReal))
        = (((∑ i, wt (s i) * v i e) * (2 : ℝ) ^ (-M') : ℝ) : EReal) := by
      rw [Finset.sum_mul, coe_sum]
      refine Finset.sum_congr rfl fun i _ => ?_
      rw [← EReal.coe_mul]; congr 1; ring
    rw [e2]
    rcases h with ⟨_, hA, rfl, _, ha⟩ | ⟨M, rfl, _, ha⟩
    · rw [ha, hA]; simp
    · rw [ha, ← EReal.coe_mul, ← EReal.coe_add, wt_coe]
      congr 1
      have h2 : (2 : ℝ) ^ M * (2 : ℝ) ^ (-M) = 1 := by rw [← Real.rpow_add two_pos]; simp
      linear_combination A e * (2 : ℝ) ^ (-M') * h2

theorem one_div_coe (r : ℝ) (hr : r ≠ 0) : Ideal.div 1 (r : EReal) = ((r⁻¹ : ℝ) : EReal) := by
  unfold Ideal.div
  rw [if_neg (by exact_mod_cast hr), one_mul, EReal.coe_inv]

theorem div_coe (x r : ℝ) (hr : r ≠ 0) : Ideal.div (x : EReal) (r : EReal) = ((x / r : ℝ) : EReal) := by
  unfold Ideal.div
  rw [if_neg (by exact_mod_cast hr), ← EReal.coe_inv, ← EReal.coe_mul, div_eq_mul_inv]

/-- The quotient at the end: the weighted values over the total weight. -/
theorem Col.quotient {E : Type} {Λ : ℝ} {A : E → ℝ} {m l : EReal} {a : E → EReal} (h : Col Λ A m l a) (hΛ : Λ ≠ 0) (e : E) :
    a e * Ideal.div 1 l = ((A e / Λ : ℝ) : EReal) := by
  rcases h with ⟨h0, _⟩ | ⟨M, _, rfl, ha⟩
  · exact absurd h0 hΛ
  · have hM : (2 : ℝ) ^ (-M) ≠ 0 := (Real.rpow_pos_of_pos two_pos _).ne'
    rw [ha, one_div_coe _ (mul_ne_zero hΛ hM), ← EReal.coe_mul]
    congr 1
    field_simp

theorem we_nonneg (w : EReal) : 0 ≤ we w := by
  induction w with
  | bot => exact le_rfl
  | top => exact le_rfl
  | coe r => exact (Real.exp_pos r).le

theorem we_pos {w : EReal} (h : w ≠ ⊥) (h' : w ≠ ⊤) : 0 < we w := by
  induction w with
  | bot => exact absurd rfl h
  | top => exact absurd rfl h'
  | coe r => exact Real.exp_pos r

/-- A row of plain softmax: each weight over the row's total weight. -/
theorem softmax_row {n : ℕ} (x : Fin n → EReal) (hx : ∀ i, x i ≠ ⊤) (hr : ∃ i, x i ≠ ⊥) (j : Fin n) (m : EReal)
    (hm : m = max ⊥ (Finset.univ.fold max ⊥ x)) :
    Ideal.div (Ideal.exp (x j - m)) (∑ i, Ideal.exp (x i - m)) = ((we (x j) / ∑ i, we (x i) : ℝ) : EReal) := by
  obtain ⟨M, hM⟩ := max_real ⊥ x bot_ne_top hx (Or.inr hr)
  rw [hM] at hm
  subst hm
  have hpos : 0 < ∑ i, we (x i) := by
    obtain ⟨i, hi⟩ := hr
    exact Finset.sum_pos' (fun i _ => we_nonneg _) ⟨i, Finset.mem_univ i, we_pos hi (hx i)⟩
  have hM0 : Real.exp (-M) ≠ 0 := (Real.exp_pos _).ne'
  simp only [exp_sub _ (hx _)]
  rw [← coe_sum, ← Finset.sum_mul, div_coe _ _ (mul_ne_zero hpos.ne' hM0)]
  congr 1
  field_simp

end Cert.Attn
-- ==== Proof.Column.lean ====
module

public import proofs.«01_k».proof.Proof.Point
public import proofs.«01_k».proof.Proof.Softmax
public import Idealize.ShloMosaic.Lib.MatmulPlain
public import Idealize.ShloMosaic.Lib.Pipeline.Value

/-! The steps read column by column over the extended reals. -/

@[expose] public section

set_option maxRecDepth 16384
set_option maxHeartbeats 1000000

noncomputable section

namespace Cert.KernelIdeal.Own

open Idealize.ShloMosaic Idealize.ShloMosaic.TcCoe Idealize.ShloMosaic.Tactic
open Cert.KernelIdeal.Gen Cert.Attn
open Idealize.ShloMosaic.ValueIdx

variable [Named Ideal]

theorem ninf_f32 : Ideal.ofBits .f32 0xFF800000#32 = ⊥ := by simp [Ideal.ofBits, Ideal.ieee]

/-- A row stored as a block of one row. -/
theorem row_up (v : FVec Ideal S256 .f32) (h : S256.ShapeCasts S1x256) (j : Fin 256) : shapeCast S1x256 v h (ix2 0 j) = v (ix1 j) :=
  (shapeCast_addUnit_apply (n := 1) ![256] v h (ix2 0 j)).trans (congrArg v (funext fun a => match a with | ⟨0, _⟩ => rfl))

theorem lift_col (h : S512x256.Reduces [0] S256) (j : Fin 256) (k : Fin 512) : h.lift (ix1 j) k = ix2 k j := by
  refine Shape.idx_ext₂ ?_ ?_
  · rfl
  · rfl

theorem colMax_at (s : FVec Ideal S512x256 .f32) (m : FVec Ideal S1x256 .f32) (j : Fin 256) :
    colMax s m (ix2 0 j) = max (m (ix2 0 j)) (Finset.univ.fold max ⊥ fun k : Fin 512 => s (ix2 k j)) := by
  refine congrArg (max (m (ix2 0 j))) ?_
  rw [row_up]
  refine (Ideal.multiReduction_maximumf_single s _ _ _ _ (ix1 j)).trans ?_
  refine (congrArg (fun z => Finset.fold max z _ _) ninf_f32).trans ?_
  exact congrArg (fun f => Finset.fold max ⊥ f Finset.univ) (funext fun k => congrArg s (lift_col _ j k))

theorem stepM_at (s : FVec Ideal S512x256 .f32) (m : FVec Ideal S1x256 .f32) : stepM s m = colMax s m := shapeCast_self _ _

theorem row_down (v : FVec Ideal S1x256 .f32) (h : S1x256.Broadcasts S512x256) (k : Fin 512) (j : Fin 256) : broadcastTo S512x256 v h (ix2 k j) = v (ix2 0 j) :=
  broadcastTo_apply v h (ix2 k j) (ix2 0 j) (fun a => match a with | ⟨0, _⟩ => rfl | ⟨1, _⟩ => rfl)

theorem row_down' (v : FVec Ideal S1x256 .f32) (h : S1x256.Broadcasts S128x256) (k : Fin 128) (j : Fin 256) : broadcastTo S128x256 v h (ix2 k j) = v (ix2 0 j) :=
  broadcastTo_apply v h (ix2 k j) (ix2 0 j) (fun a => match a with | ⟨0, _⟩ => rfl | ⟨1, _⟩ => rfl)

theorem stepP_at (s : FVec Ideal S512x256 .f32) (m : FVec Ideal S1x256 .f32) (k : Fin 512) (j : Fin 256) :
    stepP s m (ix2 k j) = Ideal.exp2 (s (ix2 k j) - colMax s m (ix2 0 j)) :=
  congrArg (fun x => Ideal.exp2 (s (ix2 k j) - x)) (row_down _ _ k j)

theorem stepL_at (s : FVec Ideal S512x256 .f32) (m l : FVec Ideal S1x256 .f32) (j : Fin 256) :
    stepL s m l (ix2 0 j) = Ideal.exp2 (m (ix2 0 j) - colMax s m (ix2 0 j)) * l (ix2 0 j)
      + ∑ k : Fin 512, Ideal.exp2 (s (ix2 k j) - colMax s m (ix2 0 j)) := by
  unfold stepL
  rw [shapeCast_self]
  refine congrArg (Ideal.exp2 (m (ix2 0 j) - colMax s m (ix2 0 j)) * l (ix2 0 j) + ·) ?_
  rw [row_up]
  refine (Ideal.multiReduction_add_single (stepP s m) _ _ _ _ (ix1 j)).trans ?_
  exact Finset.sum_congr rfl fun k _ => (congrArg (stepP s m) (lift_col _ j k)).trans (stepP_at s m k j)

theorem stepA_at (vt : FVec Ideal S128x512 .bf16) (s : FVec Ideal S512x256 .f32) (m : FVec Ideal S1x256 .f32) (a : FVec Ideal S128x256 .f32) (e : Fin 128) (j : Fin 256) :
    stepA vt s m a (ix2 e j) = Ideal.exp2 (m (ix2 0 j) - colMax s m (ix2 0 j)) * a (ix2 e j)
      + ∑ k : Fin 512, vt (ix2 e k) * Ideal.exp2 (s (ix2 k j) - colMax s m (ix2 0 j)) := by
  unfold stepA
  rw [shapeCast_self]
  refine congrArg₂ (· + ·) (congrArg (· * a (ix2 e j)) (row_down' _ _ e j)) ?_
  refine (Ideal.matmul_plain_apply none vt (truncf .bf16 (stepP s m) bitsLt_bf16_f32) _ e j).trans ?_
  rw [show constant (F := Ideal) S128x256 .f32 0x00000000#32 (ix2 e j) = 0 from Ideal.ofBits_zero_f32, zero_add]
  exact Finset.sum_congr rfl fun k _ => congrArg (vt (ix2 e k) * ·) (stepP_at s m k j)

theorem scores_at (kb : FVec Ideal S512x128 .bf16) (q : FVec Ideal S128x256 .bf16) (k : Fin 512) (j : Fin 256) :
    scores kb q (ix2 k j) = ∑ d : Fin 128, kb (ix2 k d) * q (ix2 d j) := by
  unfold scores
  rw [shapeCast_self]
  refine (Ideal.matmul_plain_apply none kb q _ k j).trans ?_
  rw [show constant (F := Ideal) S512x256 .f32 0x00000000#32 (ix2 k j) = 0 from Ideal.ofBits_zero_f32, zero_add]

/-- The mask reads the key's and the query's positions. -/
theorem sle_nat (a b c d : ℕ) (ha : a < 4096) (hb : b < 4096) (hc : c < 4096) (hd : d < 4096) :
    (BitVec.ofNat 32 a + BitVec.ofNat 32 b).sle (BitVec.ofNat 32 c + BitVec.ofNat 32 d) = decide (a + b ≤ c + d) := by
  rw [← BitVec.ofNat_add, ← BitVec.ofNat_add]
  have h1 : (BitVec.ofNat 32 (a + b)).toInt = ((a + b : ℕ) : Int) := by rw [BitVec.toInt_ofNat']; rw [Int.bmod_eq_of_le] <;> push_cast <;> omega
  have h2 : (BitVec.ofNat 32 (c + d)).toInt = ((c + d : ℕ) : Int) := by rw [BitVec.toInt_ofNat']; rw [Int.bmod_eq_of_le] <;> push_cast <;> omega
  rw [BitVec.sle, h1, h2]
  exact decide_eq_decide.mpr (by exact_mod_cast Iff.rfl)

theorem masked_at (off : ℕ) (ho : off < 4096) (r : Fin 8) (s : FVec Ideal S512x256 .f32) (k : Fin 512) (j : Fin 256) :
    masked (BitVec.ofNat 32 off) (qlo r) s (ix2 k j) = if k.val + off ≤ j.val + 256 * (r.val % 4) then s (ix2 k j) else ⊥ := by
  unfold masked select Scalar.select cmpi IntOp.cmpi addi
  have e1 : iota .tc S512x256 32 [0] iota_S512x256_d0_w32 (ix2 k j) = BitVec.ofNat 32 k.val := iota_single_apply _ _ _ _ _ _
  have e2 : iota .tc S512x256 32 [1] iota_S512x256_d1_w32 (ix2 k j) = BitVec.ofNat 32 j.val := iota_single_apply _ _ _ _ _ _
  have e3 := sle_nat k.val off j.val (256 * (r.val % 4)) (by omega) ho (by omega) (by omega)
  have e4 : broadcast S512x256 (Scalar.ofBits (F := Ideal) .f32 0xFF800000#32) (ix2 k j) = ⊥ := ninf_f32
  rw [e4]
  show (if BitVec.ofBool ((iota .tc S512x256 32 [0] iota_S512x256_d0_w32 (ix2 k j) + BitVec.ofNat 32 off).sle (iota .tc S512x256 32 [1] iota_S512x256_d1_w32 (ix2 k j) + BitVec.ofNat 32 (256 * (r.val % 4)))) = 1 then _ else _) = _
  rw [e1, e2, e3]
  by_cases h : k.val + off ≤ j.val + 256 * (r.val % 4)
  · rw [if_pos h, decide_eq_true h]; rfl
  · rw [if_neg h, decide_eq_false h]; rfl

/-- A column of a strip as a running softmax. -/
def ColAt (x : Strip Ideal) (j : Fin 256) (Λ : ℝ) (A : Fin 128 → ℝ) : Prop :=
  Col Λ A (x.1 (ix2 0 j)) (x.2.1 (ix2 0 j)) (fun e => x.2.2 (ix2 e j))

theorem blk_col {x : Strip Ideal} {j : Fin 256} {Λ : ℝ} {A : Fin 128 → ℝ} (h : ColAt x j Λ A) (s : FVec Ideal S512x256 .f32) (vt : FVec Ideal S128x512 .bf16)
    (V : Fin 512 → Fin 128 → ℝ) (hv : ∀ k e, vt (ix2 e k) = (V k e : EReal)) (hs : ∀ k, s (ix2 k j) ≠ ⊤)
    (hr : x.1 (ix2 0 j) ≠ ⊥ ∨ ∃ k, s (ix2 k j) ≠ ⊥) :
    ColAt (blk s vt x) j (Λ + ∑ k, wt (s (ix2 k j))) (fun e => A e + ∑ k, wt (s (ix2 k j)) * V k e) ∧ (blk s vt x).1 (ix2 0 j) ≠ ⊥ := by
  have := Col.step h (fun k => s (ix2 k j)) V hs hr (colMax s x.1 (ix2 0 j)) (colMax_at s x.1 j)
  unfold ColAt blk
  dsimp only
  rw [stepM_at, stepL_at, funext fun e => stepA_at vt s x.1 x.2.2 e j]
  simp only [hv]
  exact this

end Cert.KernelIdeal.Own

end
-- ==== Proof.Final.lean ====
module

public import proofs.«01_k».proof.Proof.Column

/-! A column after all the key blocks it can see. -/

@[expose] public section

set_option maxRecDepth 16384
set_option maxHeartbeats 1000000

noncomputable section

namespace Cert.KernelIdeal.Own

open Idealize.ShloMosaic Idealize.ShloMosaic.TcCoe Idealize.ShloMosaic.Tactic
open Cert.KernelIdeal.Gen Cert.Attn
open Idealize.ShloMosaic.ValueIdx

variable [Named Ideal]

/-- The score of key `512 n + k` for the query at `p`: none for a later key. -/
def causal (sc : ℕ → FVec Ideal S512x256 .f32) (j : Fin 256) (p n : ℕ) (k : Fin 512) : EReal :=
  if 512 * n + k.val ≤ p then sc n (ix2 k j) else ⊥

theorem causal_ne_top {sc : ℕ → FVec Ideal S512x256 .f32} {j : Fin 256} {p n : ℕ} (hs : ∀ k, ∃ s : ℝ, sc n (ix2 k j) = (s : EReal)) (k : Fin 512) :
    causal sc j p n k ≠ ⊤ := by
  unfold causal
  split
  · obtain ⟨s, hs⟩ := hs k; rw [hs]; exact EReal.coe_ne_top s
  · exact bot_ne_top

section
variable (sc : ℕ → FVec Ideal S512x256 .f32) (vb : ℕ → FVec Ideal S128x512 .bf16) (x : Strip Ideal) (q : ℕ) (hq : q < 8) (r : Fin 8) (j : Fin 256)
  (h0 : ColAt x j 0 (fun _ => 0)) (V : ℕ → Fin 512 → Fin 128 → ℝ) (hv : ∀ n < 16, ∀ k e, vb n (ix2 e k) = (V n k e : EReal))
  (hs : ∀ n < 16, ∀ k, ∃ s : ℝ, sc n (ix2 k j) = (s : EReal))

/-- The query's position. -/
abbrev pos (q : ℕ) (r : Fin 8) (j : Fin 256) : ℕ := 1024 * q + (256 * (r.val % 4) + j.val)

include hq h0 hv hs in
theorem runs_col (N : ℕ) (hN : N ≤ 2 * q) :
    ColAt (runs sc vb x N) j (∑ n ∈ Finset.range N, ∑ k, wt (causal sc j (pos q r j) n k))
        (fun e => ∑ n ∈ Finset.range N, ∑ k, wt (causal sc j (pos q r j) n k) * V n k e)
      ∧ (N = 0 ∨ (runs sc vb x N).1 (ix2 0 j) ≠ ⊥) := by
  induction N with
  | zero => exact ⟨by simp only [Finset.range_zero, Finset.sum_empty]; exact h0, .inl rfl⟩
  | succ N ih =>
    obtain ⟨i1, i2⟩ := ih (by omega)
    have hc : ∀ k : Fin 512, causal sc j (pos q r j) N k = sc N (ix2 k j) := fun k => if_pos (by unfold pos; omega)
    have st := blk_col i1 (sc N) (vb N) (V N) (hv N (by omega)) (fun k => by rw [← hc]; exact causal_ne_top (hs N (by omega)) k)
      (.inr ⟨0, by obtain ⟨s, e⟩ := hs N (by omega) 0; rw [e]; exact EReal.coe_ne_bot s⟩)
    refine ⟨?_, .inr st.2⟩
    have := st.1
    simp only [Finset.sum_range_succ, hc]
    exact this

include hq h0 hv hs in
theorem fin1_col :
    ColAt (fin1 sc vb x q r) j (∑ n ∈ Finset.range (2 * q + 1), ∑ k, wt (causal sc j (pos q r j) n k))
        (fun e => ∑ n ∈ Finset.range (2 * q + 1), ∑ k, wt (causal sc j (pos q r j) n k) * V n k e)
      ∧ (fin1 sc vb x q r).1 (ix2 0 j) ≠ ⊥ := by
  obtain ⟨i1, i2⟩ := runs_col sc vb x q hq r j h0 V hv hs (2 * q) le_rfl
  have hc : ∀ k : Fin 512, causal sc j (pos q r j) (2 * q) k = masked 0#32 (qlo r) (sc (2 * q)) (ix2 k j) := fun k => by
    refine Eq.trans ?_ (masked_at 0 (by omega) r _ k j).symm
    unfold causal pos
    exact if_congr (by omega) rfl rfl
  have st := blk_col i1 (masked 0#32 (qlo r) (sc (2 * q))) (vb (2 * q)) (V (2 * q)) (hv _ (by omega))
    (fun k => by rw [← hc]; exact causal_ne_top (hs _ (by omega)) k)
    (.inr ⟨0, by
      rw [← hc]; unfold causal pos
      rw [if_pos (by show 512 * (2 * q) + 0 ≤ _; omega)]
      obtain ⟨s, e⟩ := hs (2 * q) (by omega) 0; rw [e]; exact EReal.coe_ne_bot s⟩)
  refine ⟨?_, st.2⟩
  have := st.1
  simp only [Finset.sum_range_succ, hc]
  exact this

include hq h0 hv hs in
theorem fin_col :
    ColAt (fin sc vb x q r) j (∑ n ∈ Finset.range 16, ∑ k, wt (causal sc j (pos q r j) n k))
        (fun e => ∑ n ∈ Finset.range 16, ∑ k, wt (causal sc j (pos q r j) n k) * V n k e) := by
  obtain ⟨i1, i2⟩ := fin1_col sc vb x q hq r j h0 V hv hs
  have hj := j.isLt
  have hr := r.isLt
  have late : ∀ n, 2 * q + 2 ≤ n → ∀ k : Fin 512, wt (causal sc j (pos q r j) n k) = 0 := fun n hn k => by
    unfold causal pos
    rw [if_neg (by omega)]; exact wt_bot
  have sub : Finset.range (2 * q + 2) ⊆ Finset.range 16 := fun n hn => Finset.mem_range.mpr (by have := Finset.mem_range.mp hn; omega)
  rw [← Finset.sum_subset sub fun n _ hn => Finset.sum_eq_zero fun k _ => late n (by simpa using hn) k,
    funext fun e => (Finset.sum_subset (f := fun n => ∑ k, wt (causal sc j (pos q r j) n k) * V n k e) sub fun n _ hn => Finset.sum_eq_zero fun k _ => by rw [late n (by simpa using hn) k, zero_mul]).symm]
  have hc : ∀ k : Fin 512, causal sc j (pos q r j) (2 * q + 1) k = masked 512#32 (qlo r) (sc (2 * q + 1)) (ix2 k j) := fun k => by
    refine Eq.trans ?_ (masked_at 512 (by omega) r _ k j).symm
    unfold causal pos
    exact if_congr (by omega) rfl rfl
  unfold fin
  by_cases hm : r ∈ rs4
  · rw [if_pos hm]
    have st := blk_col i1 (masked 512#32 (qlo r) (sc (2 * q + 1))) (vb (2 * q + 1)) (V (2 * q + 1)) (hv _ (by omega))
      (fun k => by rw [← hc]; exact causal_ne_top (hs _ (by omega)) k) (.inl i2)
    have := st.1
    simp only [Finset.sum_range_succ _ (2 * q + 1), hc]
    exact this
  · rw [if_neg hm]
    have h4 : r.val % 4 < 2 := by
      revert hm; fin_cases r <;> decide
    have z : ∀ k : Fin 512, wt (causal sc j (pos q r j) (2 * q + 1) k) = 0 := fun k => by
      unfold causal pos
      rw [if_neg (by omega)]; exact wt_bot
    have e : ∀ f : Fin 512 → ℝ, ∑ k, wt (causal sc j (pos q r j) (2 * q + 1) k) * f k = 0 := fun f => Finset.sum_eq_zero fun k _ => by rw [z k, zero_mul]
    simp only [Finset.sum_range_succ _ (2 * q + 1), e, Finset.sum_eq_zero fun k _ => z k, add_zero]
    exact i1
end

end Cert.KernelIdeal.Own

end
-- ==== Proof.Reads.lean ====
module

public import proofs.«01_k».proof.Proof.Final

/-! What the stages read: the scaled queries, the key blocks, the transposed value blocks, and the starting values. -/

@[expose] public section

set_option maxRecDepth 16384
set_option maxHeartbeats 1000000

noncomputable section

namespace Cert.KernelIdeal.Own

open Idealize.ShloMosaic Idealize.ShloMosaic.TcCoe Idealize.ShloMosaic.Tactic
open Cert.KernelIdeal.Gen Cert.Attn
open Idealize.ShloMosaic.ValueIdx

attribute [local irreducible] pb_k0_t1

/-- The scale folded into the queries. -/
def qs : EReal := Named.named (F := Ideal) (φ := .f32) κ "q_scale" 0x3E38AA3B#32

/-- The scaled queries: the first half of the columns keeps the first 64 features, the second half the others. -/
def qcol (x : S1x1024x128.Idx → EReal) (d : Fin 128) (C : Fin 2048) : EReal :=
  if (d.val < 64 ↔ C.val < 1024) then x (ix3 0 ⟨C.val % 1024, Nat.mod_lt _ (by norm_num)⟩ d) * qs else 0

/-- A column of the strips. -/
def col (r : Fin 8) (j : Fin 256) : Fin 2048 := ⟨256 * r.val + j.val, by omega⟩

theorem pay421_at (Y : S1x1024x128.Idx → EReal) (d : Fin 128) (q : Fin 1024) : k0_pay421 (F := Ideal) Y (ix2 d q) = Y (ix3 0 q d) * qs := by
  unfold k0_pay421
  refine (transpose_apply [1, 0] _ transposes_S1024x128_p1_0_S128x1024 (ix2 d q) (ix2 q d) ?_).trans ?_
  · intro a; match a with
    | ⟨0, _⟩ => rfl
    | ⟨1, _⟩ => rfl
  · refine congrArg (· * qs) ?_
    exact (shapeCast_dropUnit_apply (n := 2) ![1024, 128] Y shapeCasts_S1x1024x128_S1024x128 (ix2 q d)).trans (congrArg Y (funext fun a => match a with | ⟨0, _⟩ => rfl | ⟨1, _⟩ => rfl | ⟨2, _⟩ => rfl))

theorem slt_row (d : Fin 128) : (BitVec.ofNat 32 d.val).slt 64#32 = decide (d.val < 64) := by
  have h := d.isLt
  rw [BitVec.slt_eq_decide]
  refine decide_eq_decide.mpr ?_
  rw [BitVec.toInt_ofNat', BitVec.toInt_ofNat']
  simp only [Int.bmod]
  norm_num
  omega

theorem sle_row (d : Fin 128) : (64#32).sle (BitVec.ofNat 32 d.val) = decide (64 ≤ d.val) := by
  have h := d.isLt
  rw [BitVec.sle_eq_decide]
  refine decide_eq_decide.mpr ?_
  rw [BitVec.toInt_ofNat', BitVec.toInt_ofNat']
  simp only [Int.bmod]
  norm_num
  omega

theorem zero_f32 : Scalar.ofBits (F := Ideal) .f32 0x00000000#32 = 0 := Ideal.ofBits_zero_f32

theorem pay422_at (Y : S1x1024x128.Idx → EReal) (d : Fin 128) (q : Fin 1024) : k0_pay422 (F := Ideal) Y (ix2 d q) = if d.val < 64 then Y (ix3 0 q d) * qs else 0 := by
  unfold k0_pay422
  rw [shapeCast_self]
  have e1 : iota .tc S128x1024 32 [0] iota_S128x1024_d0_w32 (ix2 d q) = BitVec.ofNat 32 d.val := iota_single_apply _ _ _ _ _ _
  show (if BitVec.ofBool ((iota .tc S128x1024 32 [0] iota_S128x1024_d0_w32 (ix2 d q)).slt 64#32) = 1 then k0_pay421 (F := Ideal) Y (ix2 d q) else Scalar.ofBits (F := Ideal) .f32 0x00000000#32) = _
  rw [e1, slt_row, pay421_at, zero_f32]
  by_cases h : d.val < 64
  · rw [if_pos h, decide_eq_true h]; rfl
  · rw [if_neg h, decide_eq_false h]; rfl

theorem pay423_at (Y : S1x1024x128.Idx → EReal) (d : Fin 128) (q : Fin 1024) : k0_pay423 (F := Ideal) Y (ix2 d q) = if 64 ≤ d.val then Y (ix3 0 q d) * qs else 0 := by
  unfold k0_pay423
  rw [shapeCast_self]
  have e1 : iota .tc S128x1024 32 [0] iota_S128x1024_d0_w32 (ix2 d q) = BitVec.ofNat 32 d.val := iota_single_apply _ _ _ _ _ _
  show (if BitVec.ofBool ((64#32).sle (iota .tc S128x1024 32 [0] iota_S128x1024_d0_w32 (ix2 d q))) = 1 then k0_pay421 (F := Ideal) Y (ix2 d q) else Scalar.ofBits (F := Ideal) .f32 0x00000000#32) = _
  rw [e1, sle_row, pay421_at, zero_f32]
  by_cases h : 64 ≤ d.val
  · rw [if_pos h, decide_eq_true h]; rfl
  · rw [if_neg h, decide_eq_false h]; rfl

theorem strip_idx {a : ℕ} (r : Fin 8) (d : Fin a) (j : Fin 256) : (strip a r).toLoadRect.idx (ix2 d j) = ix2 d (col r j) :=
  funext fun x => Fin.ext (match x with | ⟨0, _⟩ => (show 0 + 1 * d.val = d.val by omega) | ⟨1, _⟩ => (show 256 * r.val + 1 * j.val = 256 * r.val + j.val by omega))

theorem qst_at {κ' : Kind} {sp : Space} (v : View sig κ' sp S128x2048 .bf16) (f : v.ty.Contents (Elt Ideal)) (Y : S1x1024x128.Idx → EReal) (r : Fin 8) (d : Fin 128) (j : Fin 256) :
    v.readAt (Elt Ideal) (strip 128 r).toLoadRect (v.writes (Elt Ideal) f [⟨Rect.unit ![0, 1024] S128x1024.size inb_S128x2048_S128x1024_0_1024, k0_pay423 (F := Ideal) Y⟩,
      ⟨Rect.unit ![0, 0] S128x1024.size inb_S128x2048_S128x1024_0_0, k0_pay422 (F := Ideal) Y⟩]) (ix2 d j) = qcol Y d (col r j) := by
  rw [View.readAt_apply, strip_idx]
  have hc : (col r j).val = 256 * r.val + j.val := rfl
  by_cases h : (col r j).val < 1024
  · rw [View.read_writes_cons_unit_of_not_mem v f inb_S128x2048_S128x1024_0_1024 _ _ _ rfl 1 (Or.inl h)]
    rw [View.read_writes_cons_unit_of_mem v f inb_S128x2048_S128x1024_0_0 _ _ _ (ix2 d ⟨(col r j).val, h⟩) rfl (fun a => match a with | ⟨0, _⟩ => (Nat.zero_add _).symm | ⟨1, _⟩ => (Nat.zero_add _).symm)]
    refine (pay422_at Y d _).trans ?_
    unfold qcol
    have e : (⟨(col r j).val, h⟩ : Fin 1024) = ⟨(col r j).val % 1024, Nat.mod_lt _ (by norm_num)⟩ := Fin.ext (Nat.mod_eq_of_lt h).symm
    rw [e]
    by_cases hd : d.val < 64
    · rw [if_pos hd, if_pos (iff_of_true hd h)]
    · rw [if_neg hd, if_neg (fun i => hd (i.mpr h))]
  · have hlt := (col r j).isLt
    have h2 : (col r j).val - 1024 < 1024 := by omega
    rw [View.read_writes_cons_unit_of_mem v f inb_S128x2048_S128x1024_0_1024 _ _ _ (ix2 d ⟨(col r j).val - 1024, h2⟩) rfl (fun a => match a with | ⟨0, _⟩ => (Nat.zero_add _).symm | ⟨1, _⟩ => (show (col r j).val = 1024 + ((col r j).val - 1024) by omega))]
    refine (pay423_at Y d _).trans ?_
    unfold qcol
    have e : (⟨(col r j).val - 1024, h2⟩ : Fin 1024) = ⟨(col r j).val % 1024, Nat.mod_lt _ (by norm_num)⟩ := Fin.ext (show (col r j).val - 1024 = (col r j).val % 1024 by omega)
    rw [e]
    by_cases hd : d.val < 64
    · rw [if_neg (by omega), if_neg (fun i => h (i.mp hd))]
    · rw [if_pos (by omega), if_pos (iff_of_false hd h)]

/-- A whole load of a held block is the block. -/
theorem whole3 {κ' : Kind} {sp : Space} (m : Memref sig κ' sp S1x1024x128 .f32) (h : m.IsWhole) (x : S1x1024x128.Idx → EReal) :
    View.readAt (Elt Ideal) m.view (Rect.unit ![0, 0, 0] S1x1024x128.size inb_S1x1024x128_S1x1024x128_0_0_0).toLoadRect (h.unread x) = x := by
  funext j
  rw [View.readAt_apply, h.read_unread]
  exact congrArg x (funext fun a => Fin.ext (match a with | ⟨0, _⟩ => (show 0 + 1 * _ = _ by omega) | ⟨1, _⟩ => (show 0 + 1 * _ = _ by omega) | ⟨2, _⟩ => (show 0 + 1 * _ = _ by omega)))

theorem kN_at {κ' : Kind} {sp : Space} (m : Memref sig κ' sp S1x8192x128 .bf16) (h : m.IsWhole) (x : S1x8192x128.Idx → EReal) (n : ℕ) (hn : n < 16) (k : Fin 512) (d : Fin 128) :
    kN (F := Ideal) m.view (h.unread x) n (ix2 k d) = x (ix3 0 ⟨512 * n + k.val, by omega⟩ d) := by
  have hb : ∀ a, (![0, 512 * n, 0] : Fin 3 → ℕ) a + S1x512x128.size a ≤ S1x8192x128.size a := fun a => match a with
    | ⟨0, _⟩ => (show 0 + 1 ≤ 1 by omega) | ⟨1, _⟩ => (show 512 * n + 512 ≤ 8192 by omega) | ⟨2, _⟩ => (show 0 + 128 ≤ 128 by omega)
  unfold kN
  rw [dif_pos hb]
  unfold keys
  refine (shapeCast_dropUnit_apply (n := 2) ![512, 128] _ shapeCasts_S1x512x128_S512x128 (ix2 k d)).trans ?_
  rw [View.readAt_apply, h.read_unread]
  exact congrArg x (funext fun a => Fin.ext (match a with | ⟨0, _⟩ => rfl | ⟨1, _⟩ => (show 512 * n + 1 * k.val = _ by show _ = 512 * n + k.val; omega) | ⟨2, _⟩ => (show 0 + 1 * d.val = d.val by omega)))

theorem vN_at {κ' : Kind} {sp : Space} (v : View sig κ' sp S16x128x512 .bf16) (X : v.ty.Contents (Elt Ideal)) (n : ℕ) (hn : n < 16) (e : Fin 128) (k : Fin 512) :
    vN (F := Ideal) v X n (ix2 e k) = v.read (Elt Ideal) X (ix3 ⟨n, hn⟩ e k) := by
  have hb : ∀ a, (![n, 0, 0] : Fin 3 → ℕ) a + S1x128x512.size a ≤ S16x128x512.size a := fun a => match a with
    | ⟨0, _⟩ => (show n + 1 ≤ 16 by omega) | ⟨1, _⟩ => (show 0 + 128 ≤ 128 by omega) | ⟨2, _⟩ => (show 0 + 512 ≤ 512 by omega)
  unfold vN
  rw [dif_pos hb]
  unfold vals
  refine (shapeCast_dropUnit_apply (n := 2) ![128, 512] _ shapeCasts_S1x128x512_S128x512 (ix2 e k)).trans ?_
  rw [View.readAt_apply]
  exact congrArg (v.read (Elt Ideal) X) (funext fun a => Fin.ext (match a with | ⟨0, _⟩ => rfl | ⟨1, _⟩ => (show 0 + 1 * e.val = e.val by omega) | ⟨2, _⟩ => (show 0 + 1 * k.val = k.val by omega)))

/-- A value block transposed. -/
theorem pay8_at (Y : S1x512x128.Idx → EReal) (z : Fin 1) (e : Fin 128) (k : Fin 512) : k0_pay8 (F := Ideal) Y (ix3 z e k) = Y (ix3 0 k e) := by
  unfold k0_pay8
  refine (shapeCast_addUnit_apply (n := 2) ![128, 512] _ shapeCasts_S128x512_S1x128x512 (ix3 z e k)).trans ?_
  show transpose S128x512 [1, 0] (extf (F := Ideal) FTy.f32 (shapeCast S512x128 Y shapeCasts_S1x512x128_S512x128) bitsLt_bf16_f32) transposes_S512x128_p1_0_S128x512 _ = _
  refine (transpose_apply [1, 0] _ transposes_S512x128_p1_0_S128x512 _ (ix2 k e) ?_).trans ?_
  · intro a; match a with
    | ⟨0, _⟩ => rfl
    | ⟨1, _⟩ => rfl
  · exact (shapeCast_dropUnit_apply (n := 2) ![512, 128] Y shapeCasts_S1x512x128_S512x128 (ix2 k e)).trans (congrArg Y (funext fun a => match a with | ⟨0, _⟩ => rfl | ⟨1, _⟩ => rfl | ⟨2, _⟩ => rfl))

theorem slab_in (n : Fin 16) : ∀ a, (![n.val, 0, 0] : Fin 3 → ℕ) a + S1x128x512.size a ≤ S16x128x512.size a := fun a => match a with
    | ⟨0, _⟩ => (show n.val + 1 ≤ 16 by omega) | ⟨1, _⟩ => (show 0 + 128 ≤ 128 by omega) | ⟨2, _⟩ => (show 0 + 512 ≤ 512 by omega)

theorem rows_in (n : Fin 16) : ∀ a, (![0, 512 * n.val, 0] : Fin 3 → ℕ) a + S1x512x128.size a ≤ S1x8192x128.size a := fun a => match a with
    | ⟨0, _⟩ => (show 0 + 1 ≤ 1 by omega) | ⟨1, _⟩ => (show 512 * n.val + 512 ≤ 8192 by omega) | ⟨2, _⟩ => (show 0 + 128 ≤ 128 by omega)

/-- The stores of the transposed value blocks. -/
def slabs (w : Fin 16 → S1x128x512.Idx → EReal) : List (Fin 16) → List (View.Piece (Elt Ideal) S16x128x512 .bf16)
  | [] => []
  | n :: ns => ⟨Rect.unit ![n.val, 0, 0] S1x128x512.size (slab_in n), w n⟩ :: slabs w ns

theorem slabs_at {κ' : Kind} {sp : Space} (v : View sig κ' sp S16x128x512 .bf16) (f : v.ty.Contents (Elt Ideal)) (w : Fin 16 → S1x128x512.Idx → EReal) (n : Fin 16) (e : Fin 128) (k : Fin 512) :
    ∀ ns : List (Fin 16), n ∈ ns → v.read (Elt Ideal) (v.writes (Elt Ideal) f (slabs w ns)) (ix3 n e k) = w n (ix3 0 e k)
  | n' :: ns, hm => by
    unfold slabs
    by_cases h : n = n'
    · subst h
      exact View.read_writes_cons_unit_of_mem v f (slab_in n) _ _ _ (ix3 0 e k) rfl (fun a => match a with | ⟨0, _⟩ => rfl | ⟨1, _⟩ => (Nat.zero_add _).symm | ⟨2, _⟩ => (Nat.zero_add _).symm)
    · have hv : n.val ≠ n'.val := fun e => h (Fin.ext e)
      rw [View.read_writes_cons_unit_of_not_mem v f (slab_in n') _ _ _ rfl 0 (show n.val < n'.val ∨ n'.val + 1 ≤ n.val by omega)]
      exact slabs_at v f w n e k ns (by simpa [h] using hm)

theorem slabs_eq (c : Dev nD) (m : Memref sig .tc .vmem S1x8192x128 .bf16) (h : m.IsWhole) (x : S1x8192x128.Idx → EReal) :
    kernelRun0_A.sl.HS1_16 (F := Ideal) c m h x = slabs (fun n => k0_pay8 (F := Ideal) (View.readAt (Elt Ideal) m.view (Rect.unit (s := S1x8192x128) ![0, 512 * n.val, 0] S1x512x128.size (rows_in n)).toLoadRect (h.unread x)))
      [15, 14, 13, 12, 11, 10, 9, 8, 7, 6, 5, 4, 3, 2, 1, 0] := rfl

/-- The transposed values as the first point of a head leaves them. -/
theorem vt_at {κ' : Kind} {sp : Space} (v : View sig κ' sp S16x128x512 .bf16) (f : v.ty.Contents (Elt Ideal)) (c : Dev nD) (m : Memref sig .tc .vmem S1x8192x128 .bf16) (h : m.IsWhole) (x : S1x8192x128.Idx → EReal)
    (n : Fin 16) (e : Fin 128) (k : Fin 512) :
    v.read (Elt Ideal) (v.writes (Elt Ideal) f (kernelRun0_A.sl.HS1_16 (F := Ideal) c m h x)) (ix3 n e k) = x (ix3 0 ⟨512 * n.val + k.val, by omega⟩ e) := by
  rw [slabs_eq, slabs_at v f _ n e k _ (by fin_cases n <;> decide), pay8_at, View.readAt_apply, h.read_unread]
  exact congrArg x (funext fun a => Fin.ext (match a with | ⟨0, _⟩ => rfl | ⟨1, _⟩ => (show 512 * n.val + 1 * k.val = _ by show _ = 512 * n.val + k.val; omega) | ⟨2, _⟩ => (show 0 + 1 * e.val = e.val by omega)))

/-- A whole store read back along a strip. -/
theorem whole_strip {κ' : Kind} {sp : Space} {a : ℕ} {e : EltTy} (v : View sig κ' sp ⟨2, ![a, 2048]⟩ e) (f : v.ty.Contents (Elt Ideal)) (inb : ∀ x, (![0, 0] : Fin 2 → ℕ) x + (![a, 2048] : Fin 2 → ℕ) x ≤ (![a, 2048] : Fin 2 → ℕ) x)
    (w : (⟨2, ![a, 2048]⟩ : Shape).Idx → Elt Ideal e) (L : List (View.Piece (Elt Ideal) ⟨2, ![a, 2048]⟩ e)) (r : Fin 8) (d : Fin a) (j : Fin 256) :
    v.readAt (Elt Ideal) (strip a r).toLoadRect (v.writes (Elt Ideal) f ((⟨Rect.unit ![0, 0] ![a, 2048] inb, w⟩ : View.Piece (Elt Ideal) ⟨2, ![a, 2048]⟩ e) :: L)) (ix2 d j) = w (ix2 d (col r j)) := by
  rw [View.readAt_apply, strip_idx]
  exact View.read_writes_cons_unit_of_mem v f inb _ _ _ (ix2 d (col r j)) rfl (fun a => match a with | ⟨0, _⟩ => (Nat.zero_add _).symm | ⟨1, _⟩ => (Nat.zero_add _).symm)

theorem pay427_at (i) : k0_pay427 (F := Ideal) i = ⊥ := by unfold k0_pay427; rw [shapeCast_self]; exact ninf_f32
theorem pay428_at (i) : k0_pay428 (F := Ideal) i = 0 := by unfold k0_pay428; rw [shapeCast_self]; exact zero_f32
theorem pay429_at (i) : k0_pay429 (F := Ideal) i = 0 := by unfold k0_pay429; rw [shapeCast_self]; exact zero_f32

end Cert.KernelIdeal.Own
-- ==== Proof.Cells.lean ====
module

public import proofs.«01_k».proof.Proof.Reads

/-! The sums and accumulators a point leaves, column by column, as sums over all the keys. -/

@[expose] public section

set_option maxRecDepth 16384
set_option maxHeartbeats 1000000

noncomputable section

namespace Cert.KernelIdeal.Own

open Idealize.ShloMosaic Idealize.ShloMosaic.TcCoe Idealize.ShloMosaic.Tactic
open Cert.KernelIdeal.Gen Cert.Attn
open Idealize.ShloMosaic.ValueIdx

attribute [local irreducible] pb_k0_t1

theorem qs_real : qs = (((8 * Real.log 2)⁻¹ : ℝ) : EReal) := rfl

/-- Sums over blocks of equal length are one sum. -/
theorem sum_blocks (N M : ℕ) (f : ℕ → ℝ) : ∑ n ∈ Finset.range N, ∑ k : Fin M, f (M * n + k.val) = ∑ i ∈ Finset.range (M * N), f i := by
  induction N with
  | zero => simp
  | succ N ih =>
    rw [Finset.sum_range_succ, ih, Nat.mul_succ, Finset.sum_range_add, Fin.sum_univ_eq_sum_range (fun k => f (M * N + k))]

/-- The score of a key in a column. -/
def sc8 (x0 : S1x1024x128.Idx → EReal) (x1 : S1x8192x128.Idx → EReal) (C : Fin 2048) (y : Fin 8192) : EReal :=
  ∑ d : Fin 128, x1 (ix3 0 y d) * qcol x0 d C

/-- The score of a key that the column's query may see. -/
def cz (q : ℕ) (x0 : S1x1024x128.Idx → EReal) (x1 : S1x8192x128.Idx → EReal) (C : Fin 2048) (y : Fin 8192) : EReal :=
  if y.val ≤ 1024 * q + C.val % 1024 then sc8 x0 x1 C y else ⊥

/-- The sum and the accumulator of a column. -/
def ColRes (q : ℕ) (x0 : S1x1024x128.Idx → EReal) (x1 : S1x8192x128.Idx → EReal) (V : Fin 8192 → Fin 128 → ℝ) (C : Fin 2048) (l : EReal) (a : Fin 128 → EReal) : Prop :=
  ∃ M, Col (∑ y, wt (cz q x0 x1 C y)) (fun e => ∑ y, wt (cz q x0 x1 C y) * V y e) M l a

theorem real_sum {ι : Type} (s : Finset ι) (f : ι → EReal) (h : ∀ i ∈ s, ∃ r : ℝ, f i = r) : ∃ r : ℝ, ∑ i ∈ s, f i = r := by
  induction s using Finset.cons_induction with
  | empty => exact ⟨0, by simp⟩
  | cons i s hi ih =>
    obtain ⟨a, ha⟩ := h i (Finset.mem_cons_self i s)
    obtain ⟨b, hb⟩ := ih fun j hj => h j (Finset.mem_cons.mpr (Or.inr hj))
    exact ⟨a + b, by rw [Finset.sum_cons, ha, hb, EReal.coe_add]⟩

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem qcol_real (x0 : S1x1024x128.Idx → EReal) (h0 : ∀ i, ∃ s : ℝ, x0 i = s) (d : Fin 128) (C : Fin 2048) : ∃ s : ℝ, qcol x0 d C = s := by
  unfold qcol
  split
  · exact real_mul (h0 _) ⟨_, qs_real⟩
  · exact ⟨0, rfl⟩

theorem sc8_real (x0 : S1x1024x128.Idx → EReal) (x1 : S1x8192x128.Idx → EReal) (h0 : ∀ i, ∃ s : ℝ, x0 i = s) (h1 : ∀ i, ∃ s : ℝ, x1 i = s) (C : Fin 2048) (y : Fin 8192) :
    ∃ s : ℝ, sc8 x0 x1 C y = s :=
  real_sum _ _ fun d _ => real_mul (h1 _) (qcol_real x0 h0 d C)

theorem core (sc : ℕ → FVec Ideal S512x256 .f32) (vb : ℕ → FVec Ideal S128x512 .bf16) (x : Strip Ideal) (q : ℕ) (hq : q < 8) (r : Fin 8) (j : Fin 256)
    (i1 : x.1 (ix2 0 j) = ⊥) (i2 : x.2.1 (ix2 0 j) = 0) (i3 : ∀ e, x.2.2 (ix2 e j) = 0)
    (x0 : S1x1024x128.Idx → EReal) (x1 : S1x8192x128.Idx → EReal) (h0 : ∀ i, ∃ s : ℝ, x0 i = s) (h1 : ∀ i, ∃ s : ℝ, x1 i = s)
    (V : Fin 8192 → Fin 128 → ℝ)
    (hs : ∀ n, (hn : n < 16) → ∀ k : Fin 512, sc n (ix2 k j) = sc8 x0 x1 (col r j) ⟨512 * n + k.val, by omega⟩)
    (hv : ∀ n, (hn : n < 16) → ∀ (k : Fin 512) e, vb n (ix2 e k) = V ⟨512 * n + k.val, by omega⟩ e) :
    ColRes q x0 x1 V (col r j) ((fin sc vb x q r).2.1 (ix2 0 j)) (fun e => (fin sc vb x q r).2.2 (ix2 e j)) := by
  have hj := j.isLt
  have hr := r.isLt
  have hz : ColAt x j 0 (fun _ => 0) := by
    unfold ColAt
    rw [i1, i2, funext i3]
    exact Col.start
  have main := fin_col sc vb x q hq r j hz (fun n k e => if h : n < 16 then V ⟨512 * n + k.val, by omega⟩ e else 0)
    (fun n hn k e => by rw [hv n hn k e, dif_pos hn])
    (fun n hn k => by rw [hs n hn k]; exact sc8_real x0 x1 h0 h1 _ _)
  have hp : pos q r j = 1024 * q + (col r j).val % 1024 := by
    have : (col r j).val = 256 * r.val + j.val := rfl
    unfold pos; omega
  have hc : ∀ n, (hn : n < 16) → ∀ k : Fin 512, causal sc j (pos q r j) n k = cz q x0 x1 (col r j) ⟨512 * n + k.val, by omega⟩ := fun n hn k => by
    unfold causal cz
    rw [hp, hs n hn k]
  have sums : ∀ g : Fin 8192 → ℝ, ∀ f : ℕ → Fin 512 → ℝ, (∀ n, (hn : n < 16) → ∀ k : Fin 512, f n k = g ⟨512 * n + k.val, by omega⟩) →
      ∑ n ∈ Finset.range 16, ∑ k, f n k = ∑ y, g y := fun g f hf => by
    have h := sum_blocks 16 512 (fun i => if h : i < 8192 then g ⟨i, h⟩ else 0)
    rw [← Fin.sum_univ_eq_sum_range (fun i => if h : i < 8192 then g ⟨i, h⟩ else 0)] at h
    refine Eq.trans (Finset.sum_congr rfl fun n hn => Finset.sum_congr rfl fun k _ => ?_) (h.trans (Finset.sum_congr rfl fun y _ => dif_pos y.isLt))
    have hn := Finset.mem_range.mp hn
    rw [hf n hn k, dif_pos (show 512 * n + k.val < 8192 by omega)]
  refine ⟨(fin sc vb x q r).1 (ix2 0 j), ?_⟩
  unfold ColAt at main
  rw [sums (fun y => wt (cz q x0 x1 (col r j) y)) _ (fun n hn k => by rw [hc n hn k])] at main
  have eA : (fun e => ∑ n ∈ Finset.range 16, ∑ k : Fin 512, wt (causal sc j (pos q r j) n k) * (if h : n < 16 then V ⟨512 * n + k.val, by omega⟩ e else 0))
      = fun e => ∑ y, wt (cz q x0 x1 (col r j) y) * V y e := funext fun e =>
    sums (fun y => wt (cz q x0 x1 (col r j) y) * V y e) _ (fun n hn k => by rw [hc n hn k, dif_pos hn])
  exact eA ▸ main

theorem scoresOf_at {κ' κ'' : Kind} {sp sp' : Space} (m : Memref sig κ' sp S1x8192x128 .bf16) (h : m.IsWhole) (x1 : S1x8192x128.Idx → EReal)
    (v : View sig κ'' sp' S128x2048 .bf16) (f : v.ty.Contents (Elt Ideal)) (x0 : S1x1024x128.Idx → EReal) (r : Fin 8) (n : ℕ) (hn : n < 16) (k : Fin 512) (j : Fin 256)
    (hf : ∀ d, v.readAt (Elt Ideal) (strip 128 r).toLoadRect f (ix2 d j) = qcol x0 d (col r j)) :
    scoresOf (F := Ideal) (kN m.view (h.unread x1) n) v f r (ix2 k j) = sc8 x0 x1 (col r j) ⟨512 * n + k.val, by omega⟩ := by
  unfold scoresOf
  refine (scores_at _ _ k j).trans ?_
  exact Finset.sum_congr rfl fun d _ => congrArg₂ (· * ·) (kN_at m h x1 n hn k d) (hf d)

theorem queries_A (c : Dev nD) (m : Memref sig .tc .vmem S1x1024x128 .f32) (h : m.IsWhole) (x0 : S1x1024x128.Idx → EReal)
    {κ'' : Kind} {sp' : Space} (v : View sig κ'' sp' S128x2048 .bf16) (f : v.ty.Contents (Elt Ideal)) (r : Fin 8) (d : Fin 128) (j : Fin 256) :
    v.readAt (Elt Ideal) (strip 128 r).toLoadRect (v.writes (Elt Ideal) f (kernelRun0_A.sl.HS0_2 (F := Ideal) c m h x0)) (ix2 d j) = qcol x0 d (col r j) := by
  refine Eq.trans ?_ (qst_at v f x0 r d j)
  unfold kernelRun0_A.sl.HS0_2
  rw [whole3 m h x0]

theorem queries_B (c : Dev nD) (m : Memref sig .tc .vmem S1x1024x128 .f32) (h : m.IsWhole) (x0 : S1x1024x128.Idx → EReal)
    {κ'' : Kind} {sp' : Space} (v : View sig κ'' sp' S128x2048 .bf16) (f : v.ty.Contents (Elt Ideal)) (r : Fin 8) (d : Fin 128) (j : Fin 256) :
    v.readAt (Elt Ideal) (strip 128 r).toLoadRect (v.writes (Elt Ideal) f (kernelRun0_B.sl.HS0_2 (F := Ideal) c m h x0)) (ix2 d j) = qcol x0 d (col r j) := by
  refine Eq.trans ?_ (qst_at v f x0 r d j)
  unfold kernelRun0_B.sl.HS0_2
  rw [whole3 m h x0]

/-- Every column lies in a strip. -/
theorem col_of (C : Fin 2048) : ∃ r j, C = col r j :=
  ⟨⟨C.val / 256, by omega⟩, ⟨C.val % 256, Nat.mod_lt _ (by norm_num)⟩, Fin.ext (Nat.div_add_mod C.val 256).symm⟩

section AA

variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i) (x0 : Vec Ideal S1x1024x128 .f32) (x1 : Vec Ideal S1x8192x128 .bf16) (x2 : Vec Ideal S1x8192x128 .bf16) (x3 : Vec Ideal S1x1024x128 .f32) (x4 : Vec Ideal S8x128 .f32) (x5 : Vec Ideal S1x128 .f32)

theorem a_col (hk : k0_cond2 i = 1#1) (hlt : (i 2).val < 8) (f13 : arg13.view.ty.Contents (Elt Ideal)) (f14 : arg14.view.ty.Contents (Elt Ideal))
    (h0 : ∀ i, ∃ s : ℝ, x0 i = s) (h1 : ∀ i, ∃ s : ℝ, x1 i = s) (V : Fin 8192 → Fin 128 → ℝ) (hV : ∀ (y : Fin 8192) e, x2 (ix3 0 y e) = V y e) (C : Fin 2048) :
    ColRes (i 2).val x0 x1 V C (arg13.view.read (Elt Ideal) (arg13.view.writes (Elt Ideal) f13 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1) (ix2 0 C))
      (fun e => arg14.view.read (Elt Ideal) (arg14.view.writes (Elt Ideal) f14 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.val) (ix2 e C)) := by
  obtain ⟨r, j, rfl⟩ := col_of C
  obtain ⟨e1, e2⟩ := a_fin (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 hk hlt f13 f14 r
  have g1 : arg13.view.read (Elt Ideal) (arg13.view.writes (Elt Ideal) f13 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.1) (ix2 0 (col r j)) = _ :=
    (congrArg _ (strip_idx (a := 1) r 0 j).symm).trans (congrFun e1 (ix2 0 j))
  have g2 : (fun e => arg14.view.read (Elt Ideal) (arg14.view.writes (Elt Ideal) f14 (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5).2.2.2.val) (ix2 e (col r j))) = _ :=
    funext fun e => (congrArg _ (strip_idx (a := 128) r e j).symm).trans (congrFun e2 (ix2 e j))
  rw [g1, g2]
  refine core _ _ _ _ hlt r j ?_ ?_ ?_ x0 x1 h0 h1 V ?_ ?_
  · exact (whole_strip arg12.view _ _ _ _ r 0 j).trans (pay427_at _)
  · exact (whole_strip arg13.view _ _ _ _ r 0 j).trans (pay428_at _)
  · exact fun e => (whole_strip arg14.view _ _ _ _ r e j).trans (pay429_at _)
  · exact fun n hn k => scoresOf_at arg4 harg4 x1 arg10.view _ x0 r n hn k j (fun d => queries_A c arg3 harg3 x0 arg10.view _ r d j)
  · exact fun n hn k e => (vN_at arg11.view _ n hn e k).trans ((vt_at arg11.view _ c arg5 harg5 x2 ⟨n, hn⟩ e k).trans (hV _ e))

end AA

section BB

variable (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i) (x0 : Vec Ideal S1x1024x128 .f32) (x1 : Vec Ideal S1x8192x128 .bf16) (x2 : Vec Ideal S1x8192x128 .bf16) (x3 : Vec Ideal S1x1024x128 .f32) (x4 : Vec Ideal S8x128 .f32) (x5 : Vec Ideal S1x128 .f32) (xs1 : Vec Ideal S16x128x512 .bf16) (xs3 : Vec Ideal S1x2048 .f32) (xs4 : Vec Ideal S128x2048 .f32)

theorem b_col (hk : k0_cond2 i = 1#1) (hlt : (i 2).val < 8) (f13 : arg13.view.ty.Contents (Elt Ideal)) (f14 : arg14.view.ty.Contents (Elt Ideal))
    (h0 : ∀ i, ∃ s : ℝ, x0 i = s) (h1 : ∀ i, ∃ s : ℝ, x1 i = s) (V : Fin 8192 → Fin 128 → ℝ) (hV : ∀ (n : Fin 16) e (k : Fin 512), xs1 (ix3 n e k) = V ⟨512 * n.val + k.val, by omega⟩ e) (C : Fin 2048) :
    ColRes (i 2).val x0 x1 V C (arg13.view.read (Elt Ideal) (arg13.view.writes (Elt Ideal) f13 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1) (ix2 0 C))
      (fun e => arg14.view.read (Elt Ideal) (arg14.view.writes (Elt Ideal) f14 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.val) (ix2 e C)) := by
  obtain ⟨r, j, rfl⟩ := col_of C
  obtain ⟨e1, e2⟩ := b_fin (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4 hk hlt f13 f14 r
  have g1 : arg13.view.read (Elt Ideal) (arg13.view.writes (Elt Ideal) f13 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.1) (ix2 0 (col r j)) = _ :=
    (congrArg _ (strip_idx (a := 1) r 0 j).symm).trans (congrFun e1 (ix2 0 j))
  have g2 : (fun e => arg14.view.read (Elt Ideal) (arg14.view.writes (Elt Ideal) f14 (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).2.2.2.val) (ix2 e (col r j))) = _ :=
    funext fun e => (congrArg _ (strip_idx (a := 128) r e j).symm).trans (congrFun e2 (ix2 e j))
  rw [g1, g2]
  refine core _ _ _ _ hlt r j ?_ ?_ ?_ x0 x1 h0 h1 V ?_ ?_
  · exact (whole_strip arg12.view _ _ _ _ r 0 j).trans (pay427_at _)
  · exact (whole_strip arg13.view _ _ _ _ r 0 j).trans (pay428_at _)
  · exact fun e => (whole_strip arg14.view _ _ _ _ r e j).trans (pay429_at _)
  · exact fun n hn k => scoresOf_at arg4 harg4 x1 arg10.view _ x0 r n hn k j (fun d => queries_B c arg3 harg3 x0 arg10.view _ r d j)
  · exact fun n hn k e => (vN_at arg11.view _ n hn e k).trans ((congrFun (harg11.read_unread xs1) _).trans (hV ⟨n, hn⟩ e k))

end BB

end Cert.KernelIdeal.Own
-- ==== Proof.Epi.lean ====
module

public import proofs.«01_k».proof.Proof.Cells
public import proofs.«01_k».proof.Proof.RunC
public import Idealize.ShloMosaic.Lib.IdealHost

/-! The output block a point stores, from the sums and accumulators of the block before. -/

@[expose] public section

set_option maxRecDepth 16384
set_option maxHeartbeats 1000000

noncomputable section

namespace Cert.KernelIdeal.Own

open Idealize.ShloMosaic Idealize.ShloMosaic.TcCoe Idealize.ShloMosaic.Tactic
open Cert.KernelIdeal.Gen Cert.Attn
open Idealize.ShloMosaic.ValueIdx

attribute [local irreducible] pb_k0_t1

/-- The normed, weighted and gated value. -/
def epi (od : Fin 128 → EReal) (e : Fin 128) (w li z : EReal) : EReal :=
  od e * Ideal.rsqrt (Ideal.div (∑ x, od x * od x) (Ideal.ofBits .f32 0x43000000#32) + Ideal.ofBits .f32 0x3727C5AC#32) * w
    * (Ideal.ofBits .f32 0x3F800000#32 - li) * (z * Ideal.logistic z)

/-- The factor of the second attention. -/
def lamOf (x4 : S8x128.Idx → EReal) : EReal :=
  Ideal.exp (∑ d, x4 (ix2 0 d) * x4 (ix2 1 d)) - Ideal.exp (∑ d, x4 (ix2 2 d) * x4 (ix2 3 d)) + x4 (ix2 4 0)

/-- The difference of the two attentions of a query. -/
def odOf (x4 : S8x128.Idx → EReal) (xs3 : S1x2048.Idx → EReal) (xs4 : S128x2048.Idx → EReal) (q : Fin 1024) (e : Fin 128) : EReal :=
  xs4 (ix2 e ⟨q.val, by omega⟩) * Ideal.div 1 (xs3 (ix2 0 ⟨q.val, by omega⟩))
    - lamOf x4 * (xs4 (ix2 e ⟨1024 + q.val, by omega⟩) * Ideal.div 1 (xs3 (ix2 0 ⟨1024 + q.val, by omega⟩)))

theorem one_word : Ideal.ofBits .f32 0x3F800000#32 = 1 := Ideal.ofBits_one_f32

theorem pay424_at (a : S128x2048.Idx → EReal) (l : S1x2048.Idx → EReal) (e : Fin 128) (C : Fin 2048) :
    k0_pay424 (F := Ideal) a l (ix2 e C) = a (ix2 e C) * Ideal.div 1 (l (ix2 0 C)) := by
  refine congrArg (a (ix2 e C) * ·) ?_
  refine (broadcastTo_apply _ broadcasts_S1x2048_S128x2048 (ix2 e C) (ix2 0 C) (fun a => match a with | ⟨0, _⟩ => rfl | ⟨1, _⟩ => rfl)).trans ?_
  exact congrArg (Ideal.div · (l (ix2 0 C))) one_word

theorem pay426_at (v : S1024x128.Idx → EReal) (z : S1x1024x128.Idx → EReal) (q : Fin 1024) (e : Fin 128) :
    k0_pay426 (F := Ideal) v z (ix3 0 q e) = v (ix2 q e) * (z (ix3 0 q e) * Ideal.logistic (z (ix3 0 q e))) := by
  unfold k0_pay426
  refine (shapeCast_addUnit_apply (n := 2) ![1024, 128] _ shapeCasts_S1024x128_S1x1024x128 (ix3 0 q e)).trans ?_
  have e1 : shapeCast S1024x128 z shapeCasts_S1x1024x128_S1024x128 (ix2 q e) = z (ix3 0 q e) :=
    (shapeCast_dropUnit_apply (n := 2) ![1024, 128] z shapeCasts_S1x1024x128_S1024x128 (ix2 q e)).trans (congrArg z (funext fun a => match a with | ⟨0, _⟩ => rfl | ⟨1, _⟩ => rfl | ⟨2, _⟩ => rfl))
  have e2 : (fun a : Fin 2 => (ix3 (n0 := 1) (n1 := 1024) (n2 := 128) 0 q e) a.succ) = ix2 q e := funext fun a => match a with | ⟨0, _⟩ => rfl | ⟨1, _⟩ => rfl
  show v (fun a : Fin 2 => (ix3 (n0 := 1) (n1 := 1024) (n2 := 128) 0 q e) a.succ) * (shapeCast S1024x128 z shapeCasts_S1x1024x128_S1024x128 (fun a : Fin 2 => (ix3 (n0 := 1) (n1 := 1024) (n2 := 128) 0 q e) a.succ) * Ideal.logistic (shapeCast S1024x128 z shapeCasts_S1x1024x128_S1024x128 (fun a : Fin 2 => (ix3 (n0 := 1) (n1 := 1024) (n2 := 128) 0 q e) a.succ))) = _
  rw [e2, e1]

/-- The sum of the products of two rows. -/
theorem rowsum_at (a b : S1x128.Idx → EReal) :
    exp (F := Ideal) (shapeCast S1x1 (multiReduction (F := Ideal) (φ := .f32) .add [1] S1 (mulf (F := Ideal) (φ := .f32) (shapeCast S1x128 a shapeCasts_S1x128_S1x128) (shapeCast S1x128 b shapeCasts_S1x128_S1x128)) 0x00000000#32 reduces_S1x128_S1 (.inl rfl) rfl) shapeCasts_S1_S1x1) (ix2 0 0)
      = Ideal.exp (∑ d, a (ix2 0 d) * b (ix2 0 d)) := by
  refine congrArg Ideal.exp ?_
  rw [shapeCast_self, shapeCast_self]
  refine (shapeCast_addUnit_apply (n := 1) ![1] _ shapeCasts_S1_S1x1 (ix2 0 0)).trans ?_
  refine (Ideal.multiReduction_add_single _ _ _ _ _ _).trans ?_
  exact Finset.sum_congr rfl fun d _ => congrArg (fun i => a i * b i) (Shape.idx_ext₂ rfl rfl)

theorem one_in (v : S1x1.Idx → EReal) (q : Fin 1024) (e : Fin 128) : broadcastTo S1024x128 v broadcasts_S1x1_S1024x128 (ix2 q e) = v (ix2 0 0) :=
  broadcastTo_apply v _ (ix2 q e) (ix2 0 0) (fun a => match a with | ⟨0, _⟩ => rfl | ⟨1, _⟩ => rfl)

theorem one_in' (v : S1x1.Idx → EReal) (q : Fin 128) (e : Fin 1024) : broadcastTo S128x1024 v broadcasts_S1x1_S128x1024 (ix2 q e) = v (ix2 0 0) :=
  broadcastTo_apply v _ (ix2 q e) (ix2 0 0) (fun a => match a with | ⟨0, _⟩ => rfl | ⟨1, _⟩ => rfl)

theorem half_lo (v : S128x2048.Idx → EReal) (e : Fin 128) (q : Fin 1024) : extractStridedSlice S128x1024 ![0, 0] v slices_S128x2048_o0_0_S128x1024 (ix2 e q) = v (ix2 e ⟨q.val, by omega⟩) :=
  congrArg v (Shape.idx_ext₂ (Nat.zero_add _) (Nat.zero_add _))

theorem half_hi (v : S128x2048.Idx → EReal) (e : Fin 128) (q : Fin 1024) : extractStridedSlice S128x1024 ![0, 1024] v slices_S128x2048_o0_1024_S128x1024 (ix2 e q) = v (ix2 e ⟨1024 + q.val, by omega⟩) :=
  congrArg v (Shape.idx_ext₂ (Nat.zero_add _) rfl)

theorem col_out (v : S1024x1.Idx → EReal) (q : Fin 1024) (e : Fin 128) : broadcastTo S1024x128 v broadcasts_S1024x1_S1024x128 (ix2 q e) = v (ix2 q 0) :=
  broadcastTo_apply v _ (ix2 q e) (ix2 q 0) (fun a => match a with | ⟨0, _⟩ => rfl | ⟨1, _⟩ => rfl)

/-- The mean of the squares of a row, shifted. -/
theorem norm_at (o : S1024x128.Idx → EReal) (q : Fin 1024) (e : Fin 128) :
    broadcastTo S1024x128 (rsqrt (F := Ideal) (φ := .f32) (addf (F := Ideal) (divf (F := Ideal) (shapeCast S1024x1 (multiReduction (F := Ideal) (φ := .f32) .add [1] S1024 (mulf (F := Ideal) (φ := .f32) o o) 0x00000000#32 reduces_S1024x128_S1024 (.inl rfl) rfl) shapeCasts_S1024_S1024x1)
      (broadcast S1024x1 (Scalar.ofBits (F := Ideal) .f32 0x43000000#32))) (broadcast S1024x1 (Scalar.ofBits (F := Ideal) .f32 0x3727C5AC#32)))) broadcasts_S1024x1_S1024x128 (ix2 q e)
      = Ideal.rsqrt (Ideal.div (∑ x, o (ix2 q x) * o (ix2 q x)) (Ideal.ofBits .f32 0x43000000#32) + Ideal.ofBits .f32 0x3727C5AC#32) := by
  refine (col_out _ q e).trans ?_
  refine congrArg (fun s => Ideal.rsqrt (Ideal.div s (Ideal.ofBits .f32 0x43000000#32) + Ideal.ofBits .f32 0x3727C5AC#32)) ?_
  refine (shapeCast_apply _ shapeCasts_S1024_S1024x1 (ix2 q 0) (ix1 q) ?_).trans ?_
  · simp [Shape.rowMajor_val_two, Shape.rowMajor_val_one, ix1, ix2]
  refine (Ideal.multiReduction_add_single _ _ _ _ _ _).trans ?_
  exact Finset.sum_congr rfl fun d _ => congrArg (fun i => o i * o i) (Shape.idx_ext₂ rfl rfl)

theorem pay425_at (v : S128x2048.Idx → EReal) (a0 a1 a2 a3 : S1x128.Idx → EReal) (li : S1x1.Idx → EReal) (w : S1x128.Idx → EReal) (lam : EReal)
    (hl : lam = Ideal.exp (∑ d, a0 (ix2 0 d) * a1 (ix2 0 d)) - Ideal.exp (∑ d, a2 (ix2 0 d) * a3 (ix2 0 d)) + li (ix2 0 0)) (od : Fin 1024 → Fin 128 → EReal)
    (ho : ∀ q e, od q e = v (ix2 e ⟨q.val, by omega⟩) - lam * v (ix2 e ⟨1024 + q.val, by omega⟩)) (q : Fin 1024) (e : Fin 128) :
    k0_pay425 (F := Ideal) v a0 a1 a2 a3 li w (ix2 q e)
      = od q e * Ideal.rsqrt (Ideal.div (∑ x, od q x * od q x) (Ideal.ofBits .f32 0x43000000#32) + Ideal.ofBits .f32 0x3727C5AC#32) * w (ix2 0 e)
    * (Ideal.ofBits .f32 0x3F800000#32 - li (ix2 0 0)) := by
  unfold k0_pay425
  rw [shapeCast_self li, shapeCast_self w]
  dsimp only
  generalize hL : addf (F := Ideal) (φ := .f32) (subf _ _) li = L
  have eL : L (ix2 0 0) = lam := by
    rw [← hL, hl]
    refine congrArg₂ (fun x y => x - y + li (ix2 0 0)) ?_ ?_
    · exact rowsum_at a0 a1
    · exact rowsum_at a2 a3
  generalize hO : transpose S1024x128 [1, 0] _ transposes_S128x1024_p1_0_S1024x128 = O
  have eO : ∀ q e, O (ix2 q e) = od q e := fun q e => by
    rw [← hO, ho]
    refine (transpose_apply [1, 0] _ transposes_S128x1024_p1_0_S1024x128 (ix2 q e) (ix2 e q) ?_).trans ?_
    · intro a; match a with
      | ⟨0, _⟩ => rfl
      | ⟨1, _⟩ => rfl
    · exact congrArg₂ (· - ·) (half_lo v e q) (congrArg₂ (· * ·) ((one_in' L e q).trans eL) (half_hi v e q))
  refine congrArg₂ (· * ·) (congrArg₂ (· * ·) (congrArg₂ (· * ·) (eO q e) ((norm_at O q e).trans ?_)) ?_) ?_
  · exact congrArg (fun s => Ideal.rsqrt (Ideal.div s (Ideal.ofBits .f32 0x43000000#32) + Ideal.ofBits .f32 0x3727C5AC#32)) (Finset.sum_congr rfl fun x _ => by rw [eO])
  · exact broadcastTo_apply w _ (ix2 q e) (ix2 0 e) (fun a => match a with | ⟨0, _⟩ => rfl | ⟨1, _⟩ => rfl)
  · exact one_in _ q e

/-- A row of the held parameters. -/
theorem row8 {κ' : Kind} {sp : Space} (m : Memref sig κ' sp S8x128 .f32) (h : m.IsWhole) (x : S8x128.Idx → EReal) (n : Fin 8) (inb : ∀ a, (![n.val, 0] : Fin 2 → ℕ) a + S1x128.size a ≤ S8x128.size a) (d : Fin 128) :
    View.readAt (Elt Ideal) m.view (Rect.unit (s := S8x128) ![n.val, 0] S1x128.size inb).toLoadRect (h.unread x) (ix2 0 d) = x (ix2 n d) := by
  rw [View.readAt_apply, h.read_unread]
  exact congrArg x (funext fun a => Fin.ext (match a with | ⟨0, _⟩ => rfl | ⟨1, _⟩ => (show 0 + 1 * d.val = d.val by omega)))

theorem whole2 {κ' : Kind} {sp : Space} {a b : ℕ} {e : EltTy} (m : Memref sig κ' sp ⟨2, ![a, b]⟩ e) (h : m.IsWhole) (x : (⟨2, ![a, b]⟩ : Shape).Idx → Elt Ideal e)
    (inb : ∀ x, (![0, 0] : Fin 2 → ℕ) x + (![a, b] : Fin 2 → ℕ) x ≤ (![a, b] : Fin 2 → ℕ) x) :
    View.readAt (Elt Ideal) m.view (Rect.unit (s := ⟨2, ![a, b]⟩) ![0, 0] ![a, b] inb).toLoadRect (h.unread x) = x := by
  funext j
  rw [View.readAt_apply, h.read_unread]
  exact congrArg x (funext fun y => Fin.ext (match y with | ⟨0, _⟩ => (show 0 + 1 * _ = _ by omega) | ⟨1, _⟩ => (show 0 + 1 * _ = _ by omega)))

theorem out_B (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : cond0_1 i)
    (x0 : Vec Ideal S1x1024x128 .f32) (x1 : Vec Ideal S1x8192x128 .bf16) (x2 : Vec Ideal S1x8192x128 .bf16) (x3 : Vec Ideal S1x1024x128 .f32) (x4 : Vec Ideal S8x128 .f32) (x5 : Vec Ideal S1x128 .f32) (xs1 : Vec Ideal S16x128x512 .bf16) (xs3 : Vec Ideal S1x2048 .f32) (xs4 : Vec Ideal S128x2048 .f32) {κ' : Kind} {sp : Space} (v : View sig κ' sp S1x1024x128 .bf16) (f : v.ty.Contents (Elt Ideal)) (q : Fin 1024) (e : Fin 128) :
    v.read (Elt Ideal) (v.writes (Elt Ideal) f (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1) (ix3 0 q e)
      = epi (odOf x4 xs3 xs4 q) e (x5 (ix2 0 e)) (x4 (ix2 4 0)) (x3 (ix3 0 q e)) := by
  have e0 : (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1 = kernelRun0_B.sl.H6_1 (F := Ideal) c arg6 harg6 arg7 harg7 arg8 harg8 arg13 harg13 arg14 harg14 x3 x4 x5 xs3 xs4 := by
    unfold kernelRun0_B; rfl
  rw [e0]
  unfold kernelRun0_B.sl.H6_1
  refine (View.read_writes_cons_unit_of_mem v f inb_S1x1024x128_S1x1024x128_0_0_0 _ _ _ (ix3 0 q e) rfl (fun a => match a with | ⟨0, _⟩ => rfl | ⟨1, _⟩ => (Nat.zero_add _).symm | ⟨2, _⟩ => (Nat.zero_add _).symm)).trans ?_
  rw [whole3 arg6 harg6 x3, pay426_at]
  refine congrArg (· * (x3 (ix3 0 q e) * Ideal.logistic (x3 (ix3 0 q e)))) ?_
  unfold kernelRun0_B.sl.r_1 kernelRun0_B.sl.r
  rw [whole2 (a := 1) (b := 128) arg8 harg8 x5, whole2 (a := 128) (b := 2048) arg14 harg14 xs4, whole2 (a := 1) (b := 2048) arg13 harg13 xs3]
  have e4 : View.readAt (Elt Ideal) arg7.view (Rect.unit (s := S8x128) ![4, 0] S1x1.size inb_S8x128_S1x1_4_0).toLoadRect (harg7.unread x4) (ix2 0 0) = x4 (ix2 4 0) := by
    rw [View.readAt_apply, harg7.read_unread]
    exact congrArg x4 (funext fun a => Fin.ext (match a with | ⟨0, _⟩ => rfl | ⟨1, _⟩ => rfl))
  refine (pay425_at _ _ _ _ _ _ _ (lamOf x4) ?_ (odOf x4 xs3 xs4) ?_ q e).trans ?_
  · rw [e4]
    refine congrArg₂ (fun s t => Ideal.exp s - Ideal.exp t + x4 (ix2 4 0)) ?_ ?_
    · exact Finset.sum_congr rfl fun d _ => (congrArg₂ (· * ·) (row8 arg7 harg7 x4 0 _ d) (row8 arg7 harg7 x4 1 _ d)).symm
    · exact Finset.sum_congr rfl fun d _ => (congrArg₂ (· * ·) (row8 arg7 harg7 x4 2 _ d) (row8 arg7 harg7 x4 3 _ d)).symm
  · exact fun q e => (congrArg₂ (fun s t => s - lamOf x4 * t) (pay424_at xs4 xs3 e _) (pay424_at xs4 xs3 e _)).symm
  · rw [e4]

theorem out_C (c : Dev nD) (i : grid0.Coords) (arg3 : Memref sig .tc .vmem S1x1024x128 .f32) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1024x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x1024x128 .bf16) (harg9 : arg9.IsWhole) (arg10 : Memref sig .tc .vmem S128x2048 .bf16) (harg10 : arg10.IsWhole) (arg11 : Memref sig .tc .vmem S16x128x512 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S128x2048 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i)
    (x0 : Vec Ideal S1x1024x128 .f32) (x1 : Vec Ideal S1x8192x128 .bf16) (x2 : Vec Ideal S1x8192x128 .bf16) (x3 : Vec Ideal S1x1024x128 .f32) (x4 : Vec Ideal S8x128 .f32) (x5 : Vec Ideal S1x128 .f32) (xs1 : Vec Ideal S16x128x512 .bf16) (xs3 : Vec Ideal S1x2048 .f32) (xs4 : Vec Ideal S128x2048 .f32) {κ' : Kind} {sp : Space} (v : View sig κ' sp S1x1024x128 .bf16) (f : v.ty.Contents (Elt Ideal)) (q : Fin 1024) (e : Fin 128) :
    v.read (Elt Ideal) (v.writes (Elt Ideal) f (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1) (ix3 0 q e)
      = epi (odOf x4 xs3 xs4 q) e (x5 (ix2 0 e)) (x4 (ix2 4 0)) (x3 (ix3 0 q e)) := by
  have e0 : (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs1 xs3 xs4).1 = kernelRun0_C.sl.H6_1 (F := Ideal) c arg6 harg6 arg7 harg7 arg8 harg8 arg13 harg13 arg14 harg14 x3 x4 x5 xs3 xs4 := by
    unfold kernelRun0_C; rfl
  rw [e0]
  unfold kernelRun0_C.sl.H6_1
  refine (View.read_writes_cons_unit_of_mem v f inb_S1x1024x128_S1x1024x128_0_0_0 _ _ _ (ix3 0 q e) rfl (fun a => match a with | ⟨0, _⟩ => rfl | ⟨1, _⟩ => (Nat.zero_add _).symm | ⟨2, _⟩ => (Nat.zero_add _).symm)).trans ?_
  rw [whole3 arg6 harg6 x3, pay426_at]
  refine congrArg (· * (x3 (ix3 0 q e) * Ideal.logistic (x3 (ix3 0 q e)))) ?_
  unfold kernelRun0_C.sl.r_1 kernelRun0_C.sl.r
  rw [whole2 (a := 1) (b := 128) arg8 harg8 x5, whole2 (a := 128) (b := 2048) arg14 harg14 xs4, whole2 (a := 1) (b := 2048) arg13 harg13 xs3]
  have e4 : View.readAt (Elt Ideal) arg7.view (Rect.unit (s := S8x128) ![4, 0] S1x1.size inb_S8x128_S1x1_4_0).toLoadRect (harg7.unread x4) (ix2 0 0) = x4 (ix2 4 0) := by
    rw [View.readAt_apply, harg7.read_unread]
    exact congrArg x4 (funext fun a => Fin.ext (match a with | ⟨0, _⟩ => rfl | ⟨1, _⟩ => rfl))
  refine (pay425_at _ _ _ _ _ _ _ (lamOf x4) ?_ (odOf x4 xs3 xs4) ?_ q e).trans ?_
  · rw [e4]
    refine congrArg₂ (fun s t => Ideal.exp s - Ideal.exp t + x4 (ix2 4 0)) ?_ ?_
    · exact Finset.sum_congr rfl fun d _ => (congrArg₂ (· * ·) (row8 arg7 harg7 x4 0 _ d) (row8 arg7 harg7 x4 1 _ d)).symm
    · exact Finset.sum_congr rfl fun d _ => (congrArg₂ (· * ·) (row8 arg7 harg7 x4 2 _ d) (row8 arg7 harg7 x4 3 _ d)).symm
  · exact fun q e => (congrArg₂ (fun s t => s - lamOf x4 * t) (pay424_at xs4 xs3 e _) (pay424_at xs4 xs3 e _)).symm
  · rw [e4]

end Cert.KernelIdeal.Own
-- ==== Proof.Host.lean ====
module

public import proofs.«01_k».proof.Proof.Epi
public import proofs.«01_k».proof.Proof.Value
public import Idealize.ShloMosaic.Lib.KernelVsHost
public import Idealize.ShloMosaic.Lib.StableHlo.Run

/-! What the launch finds in the arrays that host operations prepare. -/

@[expose] public section

set_option maxRecDepth 16384
set_option maxHeartbeats 4000000

noncomputable section

namespace Cert.KernelIdeal.Own

open Idealize.ShloMosaic Idealize.ShloMosaic.TcCoe Idealize.ShloMosaic.Tactic Idealize.ShloMosaic.StableHlo
open Cert.KernelIdeal.Gen Cert.Attn
open Idealize.ShloMosaic.ValueIdx

attribute [local irreducible] pb_k0_t1

variable (m : (ℓ : Loc nD τ sig) → Buf (Elt Ideal) ℓ) (c : Dev nD)

theorem V_v13 : V (F := Ideal) m c main_v13 = m ((c : Thread nD τ).loc main_arg1) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append,
    TRef.binary, TRef.nullary, TRef.ternary, TRef.unary, TRef.toBuf, TRef.ofBuf, cast_eq]
  after_results_simp <;> rfl

theorem V_v14 : V (F := Ideal) m c main_v14 = m ((c : Thread nD τ).loc main_arg2) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append,
    TRef.binary, TRef.nullary, TRef.ternary, TRef.unary, TRef.toBuf, TRef.ofBuf, cast_eq]
  after_results_simp <;> rfl

theorem V_v12 : V (F := Ideal) m c main_v12 = shapeCast S1x128 (m ((c : Thread nD τ).loc main_arg8)) shapeCasts_S128_S1x128 := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append,
    TRef.binary, TRef.nullary, TRef.ternary, TRef.unary, TRef.toBuf, TRef.ofBuf, cast_eq]
  after_results_simp <;> rfl

/-- A vector of 64 padded to a row of 128. -/
def padRow (v : S64.Idx → EReal) : S1x128.Idx → EReal :=
  pad S1x128 ![0, 0] ![0, 64] ![0, 0] (shapeCast S1x64 v shapeCasts_S64_S1x64) (sitofp (F := Ideal) .f32 (constantI S_ 32 0#32)) pads_S1x64_S1x128_000_0640 h_S_

/-- The block of parameters. -/
def lamBlk (a b d e : S64.Idx → EReal) (li : S1.Idx → EReal) : S8x128.Idx → EReal :=
  concatenate S8x128 0 [⟨S1x128, padRow a⟩, ⟨S1x128, padRow b⟩, ⟨S1x128, padRow d⟩, ⟨S1x128, padRow e⟩,
    ⟨S1x128, broadcastInDim S1x128 ![] bcast_S_S1x128 (shapeCast S_ li shapeCasts_S1_S_)⟩,
    ⟨S3x128, broadcastInDim S3x128 ![] bcast_S_S3x128 (constant (F := Ideal) S_ .f32 0x00000000#32)⟩] concatenates_S1x128_S1x128_S1x128_S1x128_S1x128_S3x128_S8x128_d0

theorem V_v11 : V (F := Ideal) m c main_v11 = lamBlk (m ((c : Thread nD τ).loc main_arg4)) (m ((c : Thread nD τ).loc main_arg5)) (m ((c : Thread nD τ).loc main_arg6)) (m ((c : Thread nD τ).loc main_arg7))
    (m ((c : Thread nD τ).loc main_arg9)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append,
    TRef.binary, TRef.nullary, TRef.ternary, TRef.unary, TRef.toBuf, TRef.ofBuf, cast_eq]
  after_results_simp <;> rfl

theorem padRow_lt (v : S64.Idx → EReal) (d : Fin 64) : padRow v (ix2 0 ⟨d.val, by omega⟩) = v (ix1 d) := by
  unfold padRow
  refine (pad_apply_of_inside _ _ _ _ _ _ _ _ (ix2 0 d) (fun a => match a with | ⟨0, _⟩ => rfl | ⟨1, _⟩ => (show d.val = 0 + d.val * (0 + 1) by omega))).trans ?_
  exact (shapeCast_addUnit_apply (n := 1) ![64] v shapeCasts_S64_S1x64 (ix2 0 d)).trans (congrArg v (funext fun a => match a with | ⟨0, _⟩ => rfl))

theorem padRow_ge (v : S64.Idx → EReal) (d : Fin 128) (h : 64 ≤ d.val) : padRow v (ix2 0 d) = 0 := by
  unfold padRow
  refine (pad_apply_of_not_inside _ _ _ _ _ _ _ _ 1 ?_).trans ?_
  · show ¬(0 ≤ d.val ∧ (d.val - 0) % (0 + 1) = 0 ∧ (d.val - 0) / (0 + 1) < 64)
    omega
  · show (((0#32 : BitVec 32).toInt : ℝ) : EReal) = 0
    simp

theorem padRow_sum (v w : S64.Idx → EReal) : ∑ d, padRow v (ix2 0 d) * padRow w (ix2 0 d) = ∑ d : Fin 64, v (ix1 d) * w (ix1 d) := by
  have h := Fin.sum_univ_add (a := 64) (b := 64) (fun d : Fin 128 => padRow v (ix2 0 d) * padRow w (ix2 0 d))
  refine h.trans ?_
  have z : ∑ d : Fin 64, padRow v (ix2 0 (Fin.natAdd 64 d)) * padRow w (ix2 0 (Fin.natAdd 64 d)) = 0 :=
    Finset.sum_eq_zero fun d _ => by rw [padRow_ge v _ (Nat.le_add_right 64 d.val), zero_mul]
  rw [z, add_zero]
  exact Finset.sum_congr rfl fun d _ => congrArg₂ (· * ·) (padRow_lt v d) (padRow_lt w d)

/-- The factor of the second attention, of the parameters. -/
def lamR (a b d e : S64.Idx → EReal) (li : S1.Idx → EReal) : EReal :=
  Ideal.exp (∑ x : Fin 64, a (ix1 x) * b (ix1 x)) - Ideal.exp (∑ x : Fin 64, d (ix1 x) * e (ix1 x)) + li (ix1 0)

section Rows
variable (a b d e : S64.Idx → EReal) (li : S1.Idx → EReal)

theorem lamBlk_0 (x : Fin 128) : lamBlk a b d e li (ix2 0 x) = padRow a (ix2 0 x) := by
  unfold lamBlk
  exact concatenate_apply_piece (t := S8x128) 0 _ _ (ix2 0 x) 0 (by show 0 < 6; omega) S1x128 (padRow a) rfl rfl 0 rfl (ix2 0 x) (fun b hb => match b with | ⟨0, _⟩ => absurd rfl hb | ⟨1, _⟩ => rfl) rfl
theorem lamBlk_1 (x : Fin 128) : lamBlk a b d e li (ix2 1 x) = padRow b (ix2 0 x) := by
  unfold lamBlk
  exact concatenate_apply_piece (t := S8x128) 0 _ _ (ix2 1 x) 1 (by show 1 < 6; omega) S1x128 (padRow b) rfl rfl 1 rfl (ix2 0 x) (fun b hb => match b with | ⟨0, _⟩ => absurd rfl hb | ⟨1, _⟩ => rfl) rfl
theorem lamBlk_2 (x : Fin 128) : lamBlk a b d e li (ix2 2 x) = padRow d (ix2 0 x) := by
  unfold lamBlk
  exact concatenate_apply_piece (t := S8x128) 0 _ _ (ix2 2 x) 2 (by show 2 < 6; omega) S1x128 (padRow d) rfl rfl 2 rfl (ix2 0 x) (fun b hb => match b with | ⟨0, _⟩ => absurd rfl hb | ⟨1, _⟩ => rfl) rfl
theorem lamBlk_3 (x : Fin 128) : lamBlk a b d e li (ix2 3 x) = padRow e (ix2 0 x) := by
  unfold lamBlk
  exact concatenate_apply_piece (t := S8x128) 0 _ _ (ix2 3 x) 3 (by show 3 < 6; omega) S1x128 (padRow e) rfl rfl 3 rfl (ix2 0 x) (fun b hb => match b with | ⟨0, _⟩ => absurd rfl hb | ⟨1, _⟩ => rfl) rfl
theorem lamBlk_4 (x : Fin 128) : lamBlk a b d e li (ix2 4 x) = li (ix1 0) := by
  unfold lamBlk
  exact (concatenate_apply_piece (t := S8x128) 0 _ _ (ix2 4 x) 4 (by show 4 < 6; omega) S1x128 (broadcastInDim S1x128 ![] bcast_S_S1x128 (shapeCast S_ li shapeCasts_S1_S_)) rfl rfl 4 rfl (ix2 0 x) (fun b hb => match b with | ⟨0, _⟩ => absurd rfl hb | ⟨1, _⟩ => rfl) rfl).trans
    ((broadcastInDim_apply _ _ _ _ (fun a : Fin 0 => a.elim0) (fun a : Fin 0 => a.elim0)).trans
      (shapeCast_apply li shapeCasts_S1_S_ _ (ix1 0) rfl))

theorem lamOf_blk : lamOf (lamBlk a b d e li) = lamR a b d e li := by
  unfold lamOf lamR
  rw [lamBlk_4]
  refine congrArg₂ (fun s t => Ideal.exp s - Ideal.exp t + li (ix1 0)) ?_ ?_
  · refine Eq.trans (Finset.sum_congr rfl fun x _ => ?_) (padRow_sum a b)
    rw [lamBlk_0, lamBlk_1]
  · refine Eq.trans (Finset.sum_congr rfl fun x _ => ?_) (padRow_sum d e)
    rw [lamBlk_2, lamBlk_3]

end Rows

end Cert.KernelIdeal.Own
-- ==== Proof.Blocks.lean ====
module

public import proofs.«01_k».proof.Proof.Host

/-! The blocks of the arrays that a grid point is given. -/

@[expose] public section

set_option maxRecDepth 16384
set_option maxHeartbeats 4000000

noncomputable section

namespace Cert.KernelIdeal.Own

open Idealize.ShloMosaic Idealize.ShloMosaic.TcCoe Idealize.ShloMosaic.Tactic Idealize.ShloMosaic.StableHlo
open Cert.KernelIdeal.Gen Cert.Attn
open Idealize.ShloMosaic.ValueIdx

attribute [local irreducible] pb_k0_t1

variable (m : (ℓ : Loc nD τ sig) → Buf (Elt Ideal) ℓ) (c : Dev nD)

/-- The batch of a point. -/
def bOf (t : Fin cfg0.N) : Fin 2 := ⟨t.val / 72, by have : t.val < 144 := lt_of_lt_of_eq t.isLt N_0; omega⟩
/-- A feature of the point's head. -/
def hOf (t : Fin cfg0.N) (d : Fin 128) : Fin 1024 := ⟨128 * (t.val / 9 % 8) + d.val, by omega⟩
/-- A row of the point's query block. -/
def pOf (t : Fin cfg0.N) (q : Fin 1024) : Fin 8192 := ⟨1024 * min (t.val % 9) 7 + q.val, by omega⟩
/-- A row of the point's output block. -/
def oOf (t : Fin cfg0.N) (q : Fin 1024) : Fin 8192 := ⟨1024 * (t.val % 9 - 1) + q.val, by omega⟩

/-- A three-axis index from its coordinates. -/
theorem idx3 {n0 n1 n2 : ℕ} (i : (⟨3, ![n0, n1, n2]⟩ : Shape).Idx) (a : Fin n0) (b : Fin n1) (d : Fin n2) (h0 : (i 0).val = a.val) (h1 : (i 1).val = b.val) (h2 : (i 2).val = d.val) : i = ix3 a b d :=
  funext fun x => Fin.ext (match x with | ⟨0, _⟩ => h0 | ⟨1, _⟩ => h1 | ⟨2, _⟩ => h2)

theorem ind0 : ∀ t : Fin cfg0.N, (cfg0.win 0).index t 0 = t.val / 72 ∧ (cfg0.win 0).index t 1 = min (t.val % 9) 7 ∧ (cfg0.win 0).index t 2 = t.val / 9 % 8 :=
  (by decide +kernel : ∀ t : Fin grid0.N, (cfg0.win 0).index t 0 = t.val / 72 ∧ (cfg0.win 0).index t 1 = min (t.val % 9) 7 ∧ (cfg0.win 0).index t 2 = t.val / 9 % 8)
theorem ind1 : ∀ t : Fin cfg0.N, (cfg0.win 1).index t 0 = t.val / 72 ∧ (cfg0.win 1).index t 1 = 0 ∧ (cfg0.win 1).index t 2 = t.val / 9 % 8 :=
  (by decide +kernel : ∀ t : Fin grid0.N, (cfg0.win 1).index t 0 = t.val / 72 ∧ (cfg0.win 1).index t 1 = 0 ∧ (cfg0.win 1).index t 2 = t.val / 9 % 8)
theorem ind2 : ∀ t : Fin cfg0.N, (cfg0.win 2).index t 0 = t.val / 72 ∧ (cfg0.win 2).index t 1 = 0 ∧ (cfg0.win 2).index t 2 = t.val / 9 % 8 :=
  (by decide +kernel : ∀ t : Fin grid0.N, (cfg0.win 2).index t 0 = t.val / 72 ∧ (cfg0.win 2).index t 1 = 0 ∧ (cfg0.win 2).index t 2 = t.val / 9 % 8)
theorem ind3 : ∀ t : Fin cfg0.N, (cfg0.win 3).index t 0 = t.val / 72 ∧ (cfg0.win 3).index t 1 = t.val % 9 - 1 ∧ (cfg0.win 3).index t 2 = t.val / 9 % 8 :=
  (by decide +kernel : ∀ t : Fin grid0.N, (cfg0.win 3).index t 0 = t.val / 72 ∧ (cfg0.win 3).index t 1 = t.val % 9 - 1 ∧ (cfg0.win 3).index t 2 = t.val / 9 % 8)
theorem ind4 : ∀ t : Fin cfg0.N, (cfg0.win 4).index t 0 = 0 ∧ (cfg0.win 4).index t 1 = 0 :=
  (by decide +kernel : ∀ t : Fin grid0.N, (cfg0.win 4).index t 0 = 0 ∧ (cfg0.win 4).index t 1 = 0)
theorem ind5 : ∀ t : Fin cfg0.N, (cfg0.win 5).index t 0 = 0 ∧ (cfg0.win 5).index t 1 = 0 :=
  (by decide +kernel : ∀ t : Fin grid0.N, (cfg0.win 5).index t 0 = 0 ∧ (cfg0.win 5).index t 1 = 0)
theorem ind6 : ∀ t : Fin cfg0.N, (cfg0.win 6).index t 0 = t.val / 72 ∧ (cfg0.win 6).index t 1 = t.val % 9 - 1 ∧ (cfg0.win 6).index t 2 = t.val / 9 % 8 :=
  (by decide +kernel : ∀ t : Fin grid0.N, (cfg0.win 6).index t 0 = t.val / 72 ∧ (cfg0.win 6).index t 1 = t.val % 9 - 1 ∧ (cfg0.win 6).index t 2 = t.val / 9 % 8)
theorem flush6 : ∀ t : Fin cfg0.N, (cfg0.win 6).flush t = true ↔ t.val % 9 ≠ 0 :=
  (by decide +kernel : ∀ t : Fin grid0.N, (cfg0.win 6).flush t = true ↔ t.val % 9 ≠ 0)
theorem co2 : ∀ t : Fin cfg0.N, ((grid0.coords t) 2).val = t.val % 9 :=
  (by decide +kernel : ∀ t : Fin grid0.N, ((grid0.coords t) 2).val = t.val % 9)

theorem iblk0_at (t : Fin cfg0.N) (q : Fin 1024) (d : Fin 128) :
    (iblk m c 0 t : S1x1024x128.Idx → EReal) (ix3 0 q d) = (m ((c : Thread nD τ).loc main_arg0) : S2x8192x1024.Idx → EReal) (ix3 (bOf t) (pOf t q) (hOf t d)) := by
  have e : (iblk m c 0 t : S1x1024x128.Idx → EReal) (ix3 0 q d) = (V (F := Ideal) m c main_arg0 : S2x8192x1024.Idx → EReal) (((cfg0.win 0).rect t).emb (ix3 0 q d)) := rfl
  rw [e, V_main_arg0]
  obtain ⟨h0, h1, h2⟩ := ind0 t
  refine congrArg _ (funext fun a => Fin.ext ?_)
  have := Pipeline.Window.rect_emb_val (cfg0.win 0) t (ix3 0 q d) a
  refine this.trans ?_
  match a with
  | ⟨0, _⟩ => show (cfg0.win 0).index t 0 * 1 + 0 = t.val / 72; rw [h0]; omega
  | ⟨1, _⟩ => show (cfg0.win 0).index t 1 * 1024 + q.val = 1024 * min (t.val % 9) 7 + q.val; rw [h1]; omega
  | ⟨2, _⟩ => show (cfg0.win 0).index t 2 * 128 + d.val = 128 * (t.val / 9 % 8) + d.val; rw [h2]; omega

theorem iblk1_at (t : Fin cfg0.N) (q : Fin 8192) (d : Fin 128) :
    (iblk m c 1 t : S1x8192x128.Idx → EReal) (ix3 0 q d) = (m ((c : Thread nD τ).loc main_arg1) : S2x8192x1024.Idx → EReal) (ix3 (bOf t) (q) (hOf t d)) := by
  have e : (iblk m c 1 t : S1x8192x128.Idx → EReal) (ix3 0 q d) = (V (F := Ideal) m c main_v13 : S2x8192x1024.Idx → EReal) (((cfg0.win 1).rect t).emb (ix3 0 q d)) := rfl
  rw [e, V_v13]
  obtain ⟨h0, h1, h2⟩ := ind1 t
  have e0 : ((((cfg0.win 1).rect t).emb (ix3 0 q d)) 0).val = t.val / 72 := (Pipeline.Window.rect_emb_val (cfg0.win 1) t (ix3 0 q d) 0).trans (by show (cfg0.win 1).index t 0 * 1 + 0 = t.val / 72; rw [h0, Nat.mul_one, Nat.add_zero])
  have e1 : ((((cfg0.win 1).rect t).emb (ix3 0 q d)) 1).val = q.val := (Pipeline.Window.rect_emb_val (cfg0.win 1) t (ix3 0 q d) 1).trans (by rw [h1, Nat.zero_mul, Nat.zero_add]; rfl)
  have e2 : ((((cfg0.win 1).rect t).emb (ix3 0 q d)) 2).val = 128 * (t.val / 9 % 8) + d.val := (Pipeline.Window.rect_emb_val (cfg0.win 1) t (ix3 0 q d) 2).trans (by show (cfg0.win 1).index t 2 * 128 + d.val = _; rw [h2, Nat.mul_comm])
  exact congrArg _ (idx3 _ (bOf t) q (hOf t d) e0 e1 e2)

theorem iblk2_at (t : Fin cfg0.N) (q : Fin 8192) (d : Fin 128) :
    (iblk m c 2 t : S1x8192x128.Idx → EReal) (ix3 0 q d) = (m ((c : Thread nD τ).loc main_arg2) : S2x8192x1024.Idx → EReal) (ix3 (bOf t) (q) (hOf t d)) := by
  have e : (iblk m c 2 t : S1x8192x128.Idx → EReal) (ix3 0 q d) = (V (F := Ideal) m c main_v14 : S2x8192x1024.Idx → EReal) (((cfg0.win 2).rect t).emb (ix3 0 q d)) := rfl
  rw [e, V_v14]
  obtain ⟨h0, h1, h2⟩ := ind2 t
  have e0 : ((((cfg0.win 2).rect t).emb (ix3 0 q d)) 0).val = t.val / 72 := (Pipeline.Window.rect_emb_val (cfg0.win 2) t (ix3 0 q d) 0).trans (by show (cfg0.win 2).index t 0 * 1 + 0 = t.val / 72; rw [h0, Nat.mul_one, Nat.add_zero])
  have e1 : ((((cfg0.win 2).rect t).emb (ix3 0 q d)) 1).val = q.val := (Pipeline.Window.rect_emb_val (cfg0.win 2) t (ix3 0 q d) 1).trans (by rw [h1, Nat.zero_mul, Nat.zero_add]; rfl)
  have e2 : ((((cfg0.win 2).rect t).emb (ix3 0 q d)) 2).val = 128 * (t.val / 9 % 8) + d.val := (Pipeline.Window.rect_emb_val (cfg0.win 2) t (ix3 0 q d) 2).trans (by show (cfg0.win 2).index t 2 * 128 + d.val = _; rw [h2, Nat.mul_comm])
  exact congrArg _ (idx3 _ (bOf t) q (hOf t d) e0 e1 e2)

theorem iblk3_at (t : Fin cfg0.N) (q : Fin 1024) (d : Fin 128) :
    (iblk m c 3 t : S1x1024x128.Idx → EReal) (ix3 0 q d) = (m ((c : Thread nD τ).loc main_arg3) : S2x8192x1024.Idx → EReal) (ix3 (bOf t) (oOf t q) (hOf t d)) := by
  have e : (iblk m c 3 t : S1x1024x128.Idx → EReal) (ix3 0 q d) = (V (F := Ideal) m c main_arg3 : S2x8192x1024.Idx → EReal) (((cfg0.win 3).rect t).emb (ix3 0 q d)) := rfl
  rw [e, V_main_arg3]
  obtain ⟨h0, h1, h2⟩ := ind3 t
  refine congrArg _ (funext fun a => Fin.ext ?_)
  have := Pipeline.Window.rect_emb_val (cfg0.win 3) t (ix3 0 q d) a
  refine this.trans ?_
  match a with
  | ⟨0, _⟩ => show (cfg0.win 3).index t 0 * 1 + 0 = t.val / 72; rw [h0]; omega
  | ⟨1, _⟩ => show (cfg0.win 3).index t 1 * 1024 + q.val = 1024 * (t.val % 9 - 1) + q.val; rw [h1]; omega
  | ⟨2, _⟩ => show (cfg0.win 3).index t 2 * 128 + d.val = 128 * (t.val / 9 % 8) + d.val; rw [h2]; omega

theorem iblk4_eq (t : Fin cfg0.N) : (iblk m c 4 t : S8x128.Idx → EReal) = lamBlk (m ((c : Thread nD τ).loc main_arg4)) (m ((c : Thread nD τ).loc main_arg5)) (m ((c : Thread nD τ).loc main_arg6)) (m ((c : Thread nD τ).loc main_arg7)) (m ((c : Thread nD τ).loc main_arg9)) := by
  rw [← V_v11]
  obtain ⟨h0, h1⟩ := ind4 t
  funext j
  have e : (iblk m c 4 t : S8x128.Idx → EReal) j = (V (F := Ideal) m c main_v11 : S8x128.Idx → EReal) (((cfg0.win 4).rect t).emb j) := rfl
  refine e.trans (congrArg _ (funext fun a => Fin.ext ?_))
  refine (Pipeline.Window.rect_emb_val (cfg0.win 4) t j a).trans ?_
  match a with
  | ⟨0, _⟩ => show (cfg0.win 4).index t 0 * 8 + (j 0).val = (j 0).val; rw [h0]; omega
  | ⟨1, _⟩ => show (cfg0.win 4).index t 1 * 128 + (j 1).val = (j 1).val; rw [h1]; omega

theorem iblk5_at (t : Fin cfg0.N) (d : Fin 128) : (iblk m c 5 t : S1x128.Idx → EReal) (ix2 0 d) = (m ((c : Thread nD τ).loc main_arg8) : S128.Idx → EReal) (ix1 d) := by
  obtain ⟨h0, h1⟩ := ind5 t
  have e : (iblk m c 5 t : S1x128.Idx → EReal) (ix2 0 d) = (V (F := Ideal) m c main_v12 : S1x128.Idx → EReal) (((cfg0.win 5).rect t).emb (ix2 0 d)) := rfl
  have e' : ((cfg0.win 5).rect t).emb (ix2 0 d) = (ix2 0 d : S1x128.Idx) := by
    refine funext fun a => Fin.ext ?_
    refine (Pipeline.Window.rect_emb_val (cfg0.win 5) t (ix2 0 d) a).trans ?_
    match a with
    | ⟨0, _⟩ => show (cfg0.win 5).index t 0 * 1 + 0 = 0; rw [h0]
    | ⟨1, _⟩ => show (cfg0.win 5).index t 1 * 128 + d.val = d.val; rw [h1]; omega
  rw [e, V_v12]
  refine (congrArg _ e').trans ?_
  refine shapeCast_apply _ _ _ (ix1 d) ?_
  rw [Shape.rowMajor_val_one, Shape.rowMajor_val_two]
  show d.val = 0 * 128 + d.val
  omega

end Cert.KernelIdeal.Own
-- ==== Proof.Points.lean ====
module

public import proofs.«01_k».proof.Proof.Blocks

/-! What each grid point leaves in the scratch buffers and stores to the output block. -/

@[expose] public section

set_option maxRecDepth 16384
set_option maxHeartbeats 4000000

noncomputable section

namespace Cert.KernelIdeal.Own

open Idealize.ShloMosaic Idealize.ShloMosaic.TcCoe Idealize.ShloMosaic.Tactic Idealize.ShloMosaic.StableHlo
open Cert.KernelIdeal.Gen Cert.Attn
open Idealize.ShloMosaic.ValueIdx

attribute [local irreducible] pb_k0_t1

variable (m : (ℓ : Loc nD τ sig) → Buf (Elt Ideal) ℓ) (c : Dev nD)

/-- The point before. -/
def prev (t : Fin cfg0.N) : Fin cfg0.N := ⟨t.val - 1, Nat.lt_of_le_of_lt (Nat.sub_le _ _) t.isLt⟩

/-- A real value. -/
abbrev IsR (x : EReal) : Prop := ∃ s : ℝ, x = s

theorem prev_b (t : Fin cfg0.N) (h : ¬t.val % 9 = 0) : bOf (prev t) = bOf t := Fin.ext (show (t.val - 1) / 72 = t.val / 72 by omega)
theorem prev_h (t : Fin cfg0.N) (h : ¬t.val % 9 = 0) (d : Fin 128) : hOf (prev t) d = hOf t d := Fin.ext (show 128 * ((t.val - 1) / 9 % 8) + d.val = 128 * (t.val / 9 % 8) + d.val by omega)

theorem pv_A (t : Fin cfg0.N) (h0 : t.val % 9 = 0) (h1 : t.val % 9 ≤ 7) : (outsAt0 (F := Ideal) m c t.val t.isLt).2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) := congrArg (fun x => x.2.1) (outsAt0_A m c t h0 h1)
theorem pl_A (t : Fin cfg0.N) (h0 : t.val % 9 = 0) (h1 : t.val % 9 ≤ 7) : (outsAt0 (F := Ideal) m c t.val t.isLt).2.2.1 = sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) := congrArg (fun x => x.2.2.1) (outsAt0_A m c t h0 h1)
theorem pa_A (t : Fin cfg0.N) (h0 : t.val % 9 = 0) (h1 : t.val % 9 ≤ 7) : (outsAt0 (F := Ideal) m c t.val t.isLt).2.2.2 = sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) := congrArg (fun x => x.2.2.2) (outsAt0_A m c t h0 h1)
theorem po_B (t : Fin cfg0.N) (h0 : ¬t.val % 9 = 0) (h1 : t.val % 9 ≤ 7) : (outsAt0 (F := Ideal) m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.1) (outsAt0_B m c t h0 h1)
theorem pv_B (t : Fin cfg0.N) (h0 : ¬t.val % 9 = 0) (h1 : t.val % 9 ≤ 7) : (outsAt0 (F := Ideal) m c t.val t.isLt).2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.2.1) (outsAt0_B m c t h0 h1)
theorem pl_B (t : Fin cfg0.N) (h0 : ¬t.val % 9 = 0) (h1 : t.val % 9 ≤ 7) : (outsAt0 (F := Ideal) m c t.val t.isLt).2.2.1 = sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.2.2.1) (outsAt0_B m c t h0 h1)
theorem pa_B (t : Fin cfg0.N) (h0 : ¬t.val % 9 = 0) (h1 : t.val % 9 ≤ 7) : (outsAt0 (F := Ideal) m c t.val t.isLt).2.2.2 = sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.2.2.2) (outsAt0_B m c t h0 h1)
theorem po_C (t : Fin cfg0.N) (h0 : ¬t.val % 9 = 0) (h1 : ¬t.val % 9 ≤ 7) : (outsAt0 (F := Ideal) m c t.val t.isLt).1 = out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.1) (outsAt0_C m c t h0 h1)
theorem pv_C (t : Fin cfg0.N) (h0 : ¬t.val % 9 = 0) (h1 : ¬t.val % 9 ≤ 7) : (outsAt0 (F := Ideal) m c t.val t.isLt).2.1 = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := congrArg (fun x => x.2.1) (outsAt0_C m c t h0 h1)

theorem vt_A (t : Fin cfg0.N) (h0 : t.val % 9 = 0) (n : Fin 16) (e : Fin 128) (k : Fin 512) :
    ((outsAt0 (F := Ideal) m c t.val t.isLt).2.1 : S16x128x512.Idx → EReal) (ix3 n e k) = (m ((c : Thread nD τ).loc main_arg2) : S2x8192x1024.Idx → EReal) (ix3 (bOf t) ⟨512 * n.val + k.val, by omega⟩ (hOf t e)) := by
  rw [pv_A m c t h0 (by omega)]
  unfold sout0_A_1
  rw [a_V]
  exact (vt_at _ _ _ _ _ _ n e k).trans (iblk2_at m c t _ e)

theorem vt_B (t : Fin cfg0.N) (h0 : ¬t.val % 9 = 0) : (outsAt0 (F := Ideal) m c t.val t.isLt).2.1 = (outsAt0 (F := Ideal) m c (prev t).val (prev t).isLt).2.1 := by
  by_cases h1 : t.val % 9 ≤ 7
  · exact pv_B m c t h0 h1
  · exact pv_C m c t h0 h1

theorem vt_all (t : Fin cfg0.N) (n : Fin 16) (e : Fin 128) (k : Fin 512) :
    ((outsAt0 (F := Ideal) m c t.val t.isLt).2.1 : S16x128x512.Idx → EReal) (ix3 n e k) = (m ((c : Thread nD τ).loc main_arg2) : S2x8192x1024.Idx → EReal) (ix3 (bOf t) ⟨512 * n.val + k.val, by omega⟩ (hOf t e)) := by
  obtain ⟨r, hr⟩ : ∃ r, t.val % 9 = r := ⟨_, rfl⟩
  induction r generalizing t with
  | zero => exact vt_A m c t hr n e k
  | succ r ih =>
    have h0 : ¬t.val % 9 = 0 := by omega
    rw [vt_B m c t h0, ih (prev t) (show (t.val - 1) % 9 = r by omega), prev_b t h0, prev_h t h0]

theorem iblk0_real (h : ∀ i, IsR ((m ((c : Thread nD τ).loc main_arg0) : S2x8192x1024.Idx → EReal) i)) (t : Fin cfg0.N) (i : S1x1024x128.Idx) :
    IsR ((iblk m c 0 t : S1x1024x128.Idx → EReal) i) := by
  have e : i = ix3 0 (i 1) (i 2) := funext fun a => match a with | ⟨0, _⟩ => Fin.ext (by have := (i 0).isLt; show (i 0).val = 0; exact Nat.lt_one_iff.mp this) | ⟨1, _⟩ => rfl | ⟨2, _⟩ => rfl
  rw [e]; exact (congrArg IsR (iblk0_at m c t _ _)).mpr (h _)

theorem iblk1_real (h : ∀ i, IsR ((m ((c : Thread nD τ).loc main_arg1) : S2x8192x1024.Idx → EReal) i)) (t : Fin cfg0.N) (i : S1x8192x128.Idx) :
    IsR ((iblk m c 1 t : S1x8192x128.Idx → EReal) i) := by
  have e : i = ix3 0 (i 1) (i 2) := funext fun a => match a with | ⟨0, _⟩ => Fin.ext (by have := (i 0).isLt; show (i 0).val = 0; exact Nat.lt_one_iff.mp this) | ⟨1, _⟩ => rfl | ⟨2, _⟩ => rfl
  rw [e]; exact (congrArg IsR (iblk1_at m c t _ _)).mpr (h _)

/-- The values of a head, as reals. -/
def vReal (t : Fin cfg0.N) (y : Fin 8192) (e : Fin 128) : ℝ := ((m ((c : Thread nD τ).loc main_arg2) : S2x8192x1024.Idx → EReal) (ix3 (bOf t) y (hOf t e))).toReal

section
variable (hq : ∀ i, IsR ((m ((c : Thread nD τ).loc main_arg0) : S2x8192x1024.Idx → EReal) i))
variable (hk : ∀ i, IsR ((m ((c : Thread nD τ).loc main_arg1) : S2x8192x1024.Idx → EReal) i))
variable (hv : ∀ i, IsR ((m ((c : Thread nD τ).loc main_arg2) : S2x8192x1024.Idx → EReal) i))
include hv

theorem vReal_coe (t : Fin cfg0.N) (y : Fin 8192) (e : Fin 128) : (m ((c : Thread nD τ).loc main_arg2) : S2x8192x1024.Idx → EReal) (ix3 (bOf t) y (hOf t e)) = ((vReal m c t y e : ℝ) : EReal) := by
  obtain ⟨s, h⟩ := hv (ix3 (bOf t) y (hOf t e))
  unfold vReal; rw [h]; rfl
include hq hk

theorem col_A (t : Fin cfg0.N) (h0 : t.val % 9 = 0) (C : Fin 2048) :
    ColRes (t.val % 9) (iblk m c 0 t) (iblk m c 1 t) (vReal m c t) C ((outsAt0 (F := Ideal) m c t.val t.isLt).2.2.1 (ix2 0 C)) (fun e => (outsAt0 (F := Ideal) m c t.val t.isLt).2.2.2 (ix2 e C)) := by
  have h1 : t.val % 9 ≤ 7 := by omega
  rw [pl_A m c t h0 h1, pa_A m c t h0 h1]
  unfold sout0_A_3 sout0_A_4
  have hlt : ((grid0.coords t) 2).val < 8 := by rw [co2]; omega
  have := a_col c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (iblk m c 0 t) (iblk m c 1 t) (iblk m c 2 t) (iblk m c 3 t) (iblk m c 4 t) (iblk m c 5 t) ((hcond0_1 t).mpr h1) hlt VS0_3.junk VS0_4.junk (iblk0_real m c hq t) (iblk1_real m c hk t) (vReal m c t) (fun y e => (iblk2_at m c t y e).trans (vReal_coe m c hv t y e)) C
  rw [co2] at this
  exact this

theorem col_B (t : Fin cfg0.N) (h0 : ¬t.val % 9 = 0) (h1 : t.val % 9 ≤ 7) (C : Fin 2048) :
    ColRes (t.val % 9) (iblk m c 0 t) (iblk m c 1 t) (vReal m c t) C ((outsAt0 (F := Ideal) m c t.val t.isLt).2.2.1 (ix2 0 C)) (fun e => (outsAt0 (F := Ideal) m c t.val t.isLt).2.2.2 (ix2 e C)) := by
  rw [pl_B m c t h0 h1, pa_B m c t h0 h1]
  unfold sout0_B_3 sout0_B_4
  have hlt : ((grid0.coords t) 2).val < 8 := by rw [co2]; omega
  have hV : ∀ (n : Fin 16) (e : Fin 128) (k : Fin 512), (((outsAt0 m c (t.val - 1) (Nat.lt_of_le_of_lt (Nat.sub_le _ _) t.isLt))).2.1 : S16x128x512.Idx → EReal) (ix3 n e k) = ((vReal m c t ⟨512 * n.val + k.val, by omega⟩ e : ℝ) : EReal) := by
    intro n e k
    rw [← vReal_coe m c hv, ← prev_b t h0, ← prev_h t h0]
    exact vt_all m c (prev t) n e k
  have := b_col c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 ((hcond0_1 t).mpr h1) hlt VS0_3.junk VS0_4.junk (iblk0_real m c hq t) (iblk1_real m c hk t) (vReal m c t) hV C
  rw [co2] at this
  exact this

theorem col_all (t : Fin cfg0.N) (h1 : t.val % 9 ≤ 7) (C : Fin 2048) :
    ColRes (t.val % 9) (iblk m c 0 t) (iblk m c 1 t) (vReal m c t) C ((outsAt0 (F := Ideal) m c t.val t.isLt).2.2.1 (ix2 0 C)) (fun e => (outsAt0 (F := Ideal) m c t.val t.isLt).2.2.2 (ix2 e C)) := by
  by_cases h0 : t.val % 9 = 0
  · exact col_A m c hq hk hv t h0 C
  · exact col_B m c hq hk hv t h0 h1 C
end

/-- The output block from the sums and accumulators of the point before. -/
theorem out_all (t : Fin cfg0.N) (h0 : ¬t.val % 9 = 0) (q : Fin 1024) (e : Fin 128) :
    ((outsAt0 (F := Ideal) m c t.val t.isLt).1 : S1x1024x128.Idx → EReal) (ix3 0 q e) = epi (odOf (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2 q) e ((iblk m c 5 t : S1x128.Idx → EReal) (ix2 0 e)) ((iblk m c 4 t : S8x128.Idx → EReal) (ix2 4 0)) ((iblk m c 3 t : S1x1024x128.Idx → EReal) (ix3 0 q e)) := by
  by_cases h1 : t.val % 9 ≤ 7
  · rw [po_B m c t h0 h1]
    unfold out0_B_6
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ q e
  · rw [po_C m c t h0 h1]
    unfold out0_C_6
    exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 _ _ q e

end Cert.KernelIdeal.Own
-- ==== Proof.Target.lean ====
module

public import proofs.«01_k».proof.Proof.Host

/-! The value both programs compute, element by element, over the ten argument arrays. -/

@[expose] public section

noncomputable section

namespace Cert.Attn

open Idealize.ShloMosaic Idealize.ShloMosaic.ValueIdx
open Cert.KernelIdeal.Own (epi lamR)

/-- An array over batch, position and feature. -/
abbrev Arr := (⟨3, ![2, 8192, 1024]⟩ : Shape).Idx → EReal
abbrev Row (n : ℕ) := (⟨1, ![n]⟩ : Shape).Idx → EReal

/-- A query or key feature of half `c` of head `h`. -/
def ch (h : Fin 8) (c : Fin 2) (d : Fin 64) : Fin 1024 := ⟨128 * h.val + 64 * c.val + d.val, by omega⟩
/-- A value feature of head `h`. -/
def vh (h : Fin 8) (e : Fin 128) : Fin 1024 := ⟨128 * h.val + e.val, by omega⟩

/-- The masked score of key `y` for query `p`. -/
def rs (Q K : Arr) (b : Fin 2) (h : Fin 8) (c : Fin 2) (p y : Fin 8192) : EReal :=
  if y.val ≤ p.val then (∑ d : Fin 64, Q (ix3 b p (ch h c d)) * K (ix3 b y (ch h c d))) * Ideal.ofBits .f32 0x3E000000#32 else ⊥

/-- The softmax average of the values. -/
def sm (Q K V : Arr) (b : Fin 2) (h : Fin 8) (c : Fin 2) (p : Fin 8192) (e : Fin 128) : ℝ :=
  (∑ y, we (rs Q K b h c p y) * (V (ix3 b y (vh h e))).toReal) / ∑ y, we (rs Q K b h c p y)

/-- The difference of the two averages. -/
def df (Q K V : Arr) (lam : EReal) (b : Fin 2) (h : Fin 8) (p : Fin 8192) (e : Fin 128) : EReal :=
  ((sm Q K V b h 0 p e : ℝ) : EReal) - lam * ((sm Q K V b h 1 p e : ℝ) : EReal)

/-- The output element. -/
def Gat (Q K V Z : Arr) (la lb lc ld : Row 64) (W : Row 128) (li : Row 1) (b : Fin 2) (h : Fin 8) (p : Fin 8192) (e : Fin 128) : EReal :=
  epi (df Q K V (lamR la lb lc ld li) b h p) e (W (ix1 e)) (li (ix1 0)) (Z (ix3 b p (vh h e)))

end Cert.Attn
-- ==== Proof.Weights.lean ====
module

public import proofs.«01_k».proof.Proof.Target

/-! The weights of the keys: those of the kernel, powers of two of scaled scores, are those of the reference. -/

@[expose] public section

noncomputable section

namespace Cert.Attn

open Idealize.ShloMosaic Idealize.ShloMosaic.ValueIdx
open Cert.KernelIdeal.Own (qs qs_real real_sum real_mul)

theorem eighth : Ideal.ofBits .f32 0x3E000000#32 = ((1 / 8 : ℝ) : EReal) := by
  simp [Ideal.ofBits, Ideal.ieee, -EReal.coe_mul]; norm_num

theorem wt_we (k q : Fin 64 → EReal) (hk : ∀ d, ∃ s : ℝ, k d = s) (hq : ∀ d, ∃ s : ℝ, q d = s) :
    wt (∑ d, k d * (q d * qs)) = we ((∑ d, q d * k d) * Ideal.ofBits .f32 0x3E000000#32) := by
  choose x hx using hk
  choose z hz using hq
  have e1 : ∑ d, k d * (q d * qs) = ((∑ d, x d * (z d * (8 * Real.log 2)⁻¹) : ℝ) : EReal) := by
    rw [coe_sum]
    refine Finset.sum_congr rfl fun d _ => ?_
    rw [hx, hz, qs_real, EReal.coe_mul, EReal.coe_mul]
  have e2 : (∑ d, q d * k d) * Ideal.ofBits .f32 0x3E000000#32 = (((∑ d, z d * x d) * (1 / 8) : ℝ) : EReal) := by
    rw [eighth, EReal.coe_mul, coe_sum]
    refine congrArg (· * _) (Finset.sum_congr rfl fun d _ => ?_)
    rw [hx, hz, EReal.coe_mul]
  rw [e1, e2, wt_coe, we_coe, Real.rpow_def_of_pos two_pos]
  congr 1
  rw [Finset.mul_sum, Finset.sum_mul]
  refine Finset.sum_congr rfl fun d _ => ?_
  have : Real.log 2 ≠ 0 := (Real.log_pos one_lt_two).ne'
  field_simp

/-- The whole array. -/
def GA (Q K V Z : Arr) (la lb lc ld : Row 64) (W : Row 128) (li : Row 1) : Arr := fun j =>
  Gat Q K V Z la lb lc ld W li (j 0) ⟨(j 2).val / 128, Nat.div_lt_of_lt_mul (j 2).isLt⟩ (j 1) ⟨(j 2).val % 128, Nat.mod_lt _ (by decide)⟩

theorem GA_at (Q K V Z : Arr) (la lb lc ld : Row 64) (W : Row 128) (li : Row 1) (b : Fin 2) (h : Fin 8) (p : Fin 8192) (e : Fin 128) : GA Q K V Z la lb lc ld W li (ix3 b p (vh h e)) = Gat Q K V Z la lb lc ld W li b h p e := by
  unfold GA
  exact congrArg₂ (fun h e => Gat Q K V Z la lb lc ld W li b h p e) (Fin.ext (show (128 * h.val + e.val) / 128 = h.val by omega)) (Fin.ext (show (128 * h.val + e.val) % 128 = e.val by omega))

variable (Q K : Arr) (hQ : ∀ i, ∃ s : ℝ, Q i = s) (hK : ∀ i, ∃ s : ℝ, K i = s) (b : Fin 2) (h : Fin 8) (c : Fin 2) (p : Fin 8192)
include hQ hK

theorem rs_le (y : Fin 8192) (hy : y.val ≤ p.val) : ∃ s : ℝ, rs Q K b h c p y = s := by
  unfold rs
  rw [if_pos hy]
  exact real_mul (real_sum _ _ fun d _ => real_mul (hQ _) (hK _)) ⟨_, eighth⟩

theorem rs_ne_top (y : Fin 8192) : rs Q K b h c p y ≠ ⊤ := by
  by_cases hy : y.val ≤ p.val
  · obtain ⟨s, e⟩ := rs_le Q K hQ hK b h c p y hy
    rw [e]; exact EReal.coe_ne_top s
  · unfold rs; rw [if_neg hy]; exact bot_ne_top

theorem rs_self : rs Q K b h c p p ≠ ⊥ := by
  obtain ⟨s, e⟩ := rs_le Q K hQ hK b h c p p le_rfl
  rw [e]; exact EReal.coe_ne_bot s

theorem wsum_ne : ∑ y, we (rs Q K b h c p y) ≠ 0 :=
  (Finset.sum_pos' (fun y _ => we_nonneg _) ⟨p, Finset.mem_univ p, we_pos (rs_self Q K hQ hK b h c p) (rs_ne_top Q K hQ hK b h c p p)⟩).ne'

end Cert.Attn
-- ==== Proof.Out.lean ====
module

public import proofs.«01_k».proof.Proof.Points
public import proofs.«01_k».proof.Proof.Weights

/-! The kernel's output array, element by element. -/

@[expose] public section

set_option maxRecDepth 16384
set_option maxHeartbeats 1000000

noncomputable section

namespace Cert.KernelIdeal.Own

open Idealize.ShloMosaic Idealize.ShloMosaic.TcCoe Idealize.ShloMosaic.StableHlo
open Cert.KernelIdeal.Gen Cert.Attn
open Idealize.ShloMosaic.ValueIdx

attribute [local irreducible] pb_k0_t1

/-- The head of a point. -/
def hd (t : Fin cfg0.N) : Fin 8 := ⟨t.val / 9 % 8, Nat.mod_lt _ (by decide)⟩

/-- The score of a column is the sum over its half of the features. -/
theorem sc8_half (x0 : S1x1024x128.Idx → EReal) (x1 : S1x8192x128.Idx → EReal) (Q K : Arr) (b : Fin 2) (h : Fin 8) (c : Fin 2) (p : Fin 8192) (q : Fin 1024) (C : Fin 2048) (hC : C.val = 1024 * c.val + q.val)
    (e0 : ∀ d : Fin 128, x0 (ix3 0 q d) = Q (ix3 b p (vh h d))) (e1 : ∀ (y : Fin 8192) (d : Fin 128), x1 (ix3 0 y d) = K (ix3 b y (vh h d))) (y : Fin 8192) :
    sc8 x0 x1 C y = ∑ d : Fin 64, K (ix3 b y (ch h c d)) * (Q (ix3 b p (ch h c d)) * qs) := by
  have hq : (⟨C.val % 1024, Nat.mod_lt _ (by decide)⟩ : Fin 1024) = q := Fin.ext (by show C.val % 1024 = q.val; omega)
  have hd : ∀ d : Fin 128, qcol x0 d C = if (d.val < 64 ↔ c.val = 0) then Q (ix3 b p (vh h d)) * qs else 0 := by
    intro d
    unfold qcol
    have e : (C.val < 1024 ↔ c.val = 0) := by constructor <;> intro <;> omega
    simp only [e]
    split
    · rw [← e0]; exact congrArg (fun z => x0 (ix3 0 z d) * qs) hq
    · rfl
  unfold sc8
  rw [show (∑ d : Fin 128, x1 (ix3 0 y d) * qcol x0 d C) = ∑ d : Fin (64 + 64), x1 (ix3 0 y d) * qcol x0 d C from rfl, Fin.sum_univ_add]
  by_cases hc : c.val = 0
  · refine Eq.trans (congrArg₂ (· + ·) (Finset.sum_congr rfl fun d _ => ?_) (Finset.sum_eq_zero fun d _ => ?_)) (add_zero _)
    · rw [hd, if_pos ⟨fun _ => hc, fun _ => d.isLt⟩, e1]
      have : vh h (Fin.castAdd 64 d) = ch h c d := Fin.ext (by show 128 * h.val + d.val = 128 * h.val + 64 * c.val + d.val; omega)
      rw [this]
    · rw [hd, if_neg (fun g => absurd (g.mpr hc) (by show ¬ 64 + d.val < 64; omega)), mul_zero]
  · refine Eq.trans (congrArg₂ (· + ·) (Finset.sum_eq_zero fun d _ => ?_) (Finset.sum_congr rfl fun d _ => ?_)) (zero_add _)
    · rw [hd, if_neg (fun g => hc (g.mp d.isLt)), mul_zero]
    · rw [hd, if_pos ⟨fun g => absurd g (by show ¬ 64 + d.val < 64; omega), fun g => absurd g hc⟩, e1]
      have : vh h (Fin.natAdd 64 d) = ch h c d := Fin.ext (by show 128 * h.val + (64 + d.val) = 128 * h.val + 64 * c.val + d.val; omega)
      rw [this]

variable (m : (ℓ : Loc nD τ sig) → Buf (Elt Ideal) ℓ) (c : Dev nD)

abbrev aQ : Arr := m ((c : Thread nD τ).loc main_arg0)
abbrev aK : Arr := m ((c : Thread nD τ).loc main_arg1)
abbrev aV : Arr := m ((c : Thread nD τ).loc main_arg2)
abbrev aZ : Arr := m ((c : Thread nD τ).loc main_arg3)
abbrev aA : Row 64 := m ((c : Thread nD τ).loc main_arg4)
abbrev aB : Row 64 := m ((c : Thread nD τ).loc main_arg5)
abbrev aC : Row 64 := m ((c : Thread nD τ).loc main_arg6)
abbrev aD : Row 64 := m ((c : Thread nD τ).loc main_arg7)
abbrev aW : Row 128 := m ((c : Thread nD τ).loc main_arg8)
abbrev aL : Row 1 := m ((c : Thread nD τ).loc main_arg9)

variable (hq : ∀ i, IsR (aQ m c i)) (hk : ∀ i, IsR (aK m c i)) (hv : ∀ i, IsR (aV m c i))
include hq hk hv

/-- An accumulator over its sum is the softmax average. -/
theorem quot (t : Fin cfg0.N) (h1 : t.val % 9 ≤ 7) (s : Fin 2) (q : Fin 1024) (C : Fin 2048) (hC : C.val = 1024 * s.val + q.val) (e : Fin 128) :
    (outsAt0 (F := Ideal) m c t.val t.isLt).2.2.2 (ix2 e C) * Ideal.div 1 ((outsAt0 (F := Ideal) m c t.val t.isLt).2.2.1 (ix2 0 C))
      = ((sm (aQ m c) (aK m c) (aV m c) (bOf t) (hd t) s (pOf t q) e : ℝ) : EReal) := by
  have hw : ∀ y, wt (cz (t.val % 9) (iblk m c 0 t) (iblk m c 1 t) C y) = we (rs (aQ m c) (aK m c) (bOf t) (hd t) s (pOf t q) y) := by
    intro y
    unfold cz rs
    have hp : (y.val ≤ 1024 * (t.val % 9) + C.val % 1024) ↔ (y.val ≤ (pOf t q).val) := by
      show _ ↔ y.val ≤ 1024 * min (t.val % 9) 7 + q.val
      constructor <;> intro <;> omega
    simp only [hp]
    split
    · rw [sc8_half (iblk m c 0 t) (iblk m c 1 t) (aQ m c) (aK m c) (bOf t) (hd t) s (pOf t q) q C hC (fun d => iblk0_at m c t q d) (fun y d => iblk1_at m c t y d) y]
      exact wt_we _ _ (fun d => hk _) (fun d => hq _)
    · rfl
  obtain ⟨M, hM⟩ := col_all m c hq hk hv t h1 C
  simp only [hw] at hM
  exact hM.quotient (wsum_ne _ _ hq hk _ _ _ _) e

/-- The output block of a point. -/
theorem out_at (t : Fin cfg0.N) (h0 : ¬t.val % 9 = 0) (q : Fin 1024) (e : Fin 128) :
    ((outsAt0 (F := Ideal) m c t.val t.isLt).1 : S1x1024x128.Idx → EReal) (ix3 0 q e) = Gat (aQ m c) (aK m c) (aV m c) (aZ m c) (aA m c) (aB m c) (aC m c) (aD m c) (aW m c) (aL m c) (bOf t) (hd t) (oOf t q) e := by
  rw [out_all m c t h0 q e, iblk5_at, iblk3_at, iblk4_eq, lamBlk_4]
  have h1 : (prev t).val % 9 ≤ 7 := by show (t.val - 1) % 9 ≤ 7; omega
  have hh : hd (prev t) = hd t := Fin.ext (by show (t.val - 1) / 9 % 8 = t.val / 9 % 8; omega)
  have hp : pOf (prev t) q = oOf t q := Fin.ext (by show 1024 * min ((t.val - 1) % 9) 7 + q.val = 1024 * (t.val % 9 - 1) + q.val; omega)
  unfold Gat
  refine congrArg (fun od => epi od e _ _ _) (funext fun x => ?_)
  unfold odOf df
  rw [lamOf_blk]
  have q0 := quot m c hq hk hv (prev t) h1 0 q ⟨q.val, by omega⟩ (by show q.val = 1024 * 0 + q.val; omega) x
  have q1 := quot m c hq hk hv (prev t) h1 1 q ⟨1024 + q.val, by omega⟩ (by show 1024 + q.val = 1024 * 1 + q.val; omega) x
  rw [hh, hp, prev_b t h0] at q0 q1
  exact congrArg₂ (fun u v => u - lamR (aA m c) (aB m c) (aC m c) (aD m c) (aL m c) * v) q0 q1

omit hq hk hv in
theorem emb6 (t : Fin cfg0.N) (q : Fin 1024) (e : Fin 128) : ((cfg0.win 6).rect t).emb (ix3 0 q e) = (ix3 (bOf t) (oOf t q) (vh (hd t) e) : S2x8192x1024.Idx) := by
  obtain ⟨h0, h1, h2⟩ := ind6 t
  refine idx3 _ _ _ _ ?_ ?_ ?_
  · exact (Pipeline.Window.rect_emb_val (cfg0.win 6) t (ix3 0 q e) 0).trans (by show (cfg0.win 6).index t 0 * 1 + 0 = t.val / 72; rw [h0]; omega)
  · exact (Pipeline.Window.rect_emb_val (cfg0.win 6) t (ix3 0 q e) 1).trans (by show (cfg0.win 6).index t 1 * 1024 + q.val = 1024 * (t.val % 9 - 1) + q.val; rw [h1]; omega)
  · exact (Pipeline.Window.rect_emb_val (cfg0.win 6) t (ix3 0 q e) 2).trans (by show (cfg0.win 6).index t 2 * 128 + e.val = 128 * (t.val / 9 % 8) + e.val; rw [h2]; omega)

theorem flushed_eq (t : Fin cfg0.N) (hf : (cfg0.win 6).flush t = true) :
    (dats (F := Ideal) m 0 c).flushed 6 t = ((cfg0.win 6).blk t).view.read (Elt Ideal) (GA (aQ m c) (aK m c) (aV m c) (aZ m c) (aA m c) (aB m c) (aC m c) (aD m c) (aW m c) (aL m c)) := by
  rw [OwnValue.flushed6]
  have h0 : ¬t.val % 9 = 0 := (flush6 t).mp hf
  funext y
  obtain ⟨q, e, ey⟩ : ∃ (q : Fin 1024) (e : Fin 128), (y : S1x1024x128.Idx) = ix3 0 q e := ⟨y 1, y 2, idx3 _ _ _ _ (Nat.lt_one_iff.mp (y 0).isLt) rfl rfl⟩
  have e1 : (cfg0.win 6).cut (grid0.coords t) ((outsAt0 (F := Ideal) m c t.val t.isLt).1) y = ((outsAt0 (F := Ideal) m c t.val t.isLt).1 : S1x1024x128.Idx → EReal) (ix3 0 q e) := congrArg ((outsAt0 (F := Ideal) m c t.val t.isLt).1 : S1x1024x128.Idx → EReal) ey
  have e2 : ((cfg0.win 6).blk t).view.read (Elt Ideal) (GA (aQ m c) (aK m c) (aV m c) (aZ m c) (aA m c) (aB m c) (aC m c) (aD m c) (aW m c) (aL m c)) y = GA (aQ m c) (aK m c) (aV m c) (aZ m c) (aA m c) (aB m c) (aC m c) (aD m c) (aW m c) (aL m c) (((cfg0.win 6).rect t).emb y) := rfl
  have e3 : ((cfg0.win 6).rect t).emb y = (ix3 (bOf t) (oOf t q) (vh (hd t) e) : S2x8192x1024.Idx) := (congrArg ((cfg0.win 6).rect t).emb ey).trans (emb6 t q e)
  exact e1.trans ((out_at m c hq hk hv t h0 q e).trans (e2.trans ((congrArg _ e3).trans (GA_at _ _ _ _ _ _ _ _ _ _ (bOf t) (hd t) (oOf t q) e))).symm)

omit hq hk hv in
theorem cover6 (i : S2x8192x1024.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 1024 := (i 2).isLt
  have ht : 72 * (i 0).val + 9 * ((i 2).val / 128) + (i 1).val / 1024 + 1 < 144 := by omega
  have hN : 72 * (i 0).val + 9 * ((i 2).val / 128) + (i 1).val / 1024 + 1 < cfg0.N := lt_of_lt_of_eq ht N_0.symm
  obtain ⟨t, tv⟩ : ∃ t : Fin cfg0.N, t.val = 72 * (i 0).val + 9 * ((i 2).val / 128) + (i 1).val / 1024 + 1 := ⟨⟨_, hN⟩, rfl⟩
  refine ⟨t, (flush6 t).mpr (by omega), ?_⟩
  have e : i = ((cfg0.win 6).blk t).view.emb (ix3 0 ⟨(i 1).val % 1024, Nat.mod_lt _ (by decide)⟩ ⟨(i 2).val % 128, Nat.mod_lt _ (by decide)⟩) := by
    refine Eq.trans ?_ (emb6 t ⟨(i 1).val % 1024, Nat.mod_lt _ (by decide)⟩ ⟨(i 2).val % 128, Nat.mod_lt _ (by decide)⟩).symm
    refine idx3 _ _ _ _ ?_ ?_ ?_
    · show (i 0).val = t.val / 72; omega
    · show (i 1).val = 1024 * (t.val % 9 - 1) + (i 1).val % 1024; omega
    · show (i 2).val = 128 * (t.val / 9 % 8) + (i 2).val % 128; omega
  rw [e]
  exact View.emb_mem_set _ _

/-- The array the launch leaves. -/
theorem arr6 : (dats (F := Ideal) m 0 c).arrAt 6 cfg0.N = GA (aQ m c) (aK m c) (aV m c) (aZ m c) (aA m c) (aB m c) (aC m c) (aD m c) (aW m c) (aL m c) :=
  (dats (F := Ideal) m 0 c).arrAt_eq_of_cover 6 _ (fun t hf => flushed_eq m c hq hk hv t hf) (fun i => cover6 i)

end Cert.KernelIdeal.Own
-- ==== Proof.RefRow.lean ====
module

public import proofs.«01_k».proof.Proof.Target
public import proofs.«01_k».proof.Proof.Gen.ReferenceIdeal.Run

/-! The reference's output, element by element: the softmax rows, their difference against the values, the norm and the gate. -/

@[expose] public section

set_option maxRecDepth 8192
set_option maxHeartbeats 1000000

noncomputable section

namespace Cert.ReferenceIdeal.Own

open Cert.ReferenceIdeal Cert.ReferenceIdeal.Gen Idealize.ShloMosaic Idealize.ShloMosaic.TcCoe Idealize.ShloMosaic.StableHlo
open Idealize.ShloMosaic.ValueIdx Cert.Attn
open Cert.KernelIdeal.Own (epi lamR one_word)

/-- The masked scores. -/
def sR (Q K : FVec Ideal S2x8192x1024 .f32) : FVec Ideal S2x8x2x8192x8192 .f32 := (select (broadcastInDim S2x8x2x8192x8192 ![3, 4] bcast_S8192x8192_S2x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S2x8192x8x2x64_S2x8192x8x2x64_S2x8x2x8192x8192_4_4_1_1_023_023 none (shapeCast _ Q shapeCasts_S2x8192x1024_S2x8192x8x2x64) (shapeCast _ K shapeCasts_S2x8192x1024_S2x8192x8x2x64)) (broadcastInDim S2x8x2x8192x8192 ![] bcast_S_S2x8x2x8192x8192 (constant S_ .f32 0x3E000000#32))) (broadcastInDim S2x8x2x8192x8192 ![] bcast_S_S2x8x2x8192x8192 (id (constant S_ .f32 0xFF800000#32))))
/-- The row maxima. -/
def mR (S : FVec Ideal S2x8x2x8192x8192 .f32) : FVec Ideal S2x8x2x8192 .f32 := (maximumf (broadcastInDim S2x8x2x8192 ![] bcast_S_S2x8x2x8192 (constant S_ .f32 0xFF800000#32)) (Host.reduce FloatOps.maximumf S (constant S_ .f32 0xFF800000#32) reducesTo_S2x8x2x8192x8192_S2x8x2x8192_d4 h_S_))
/-- The exponentials. -/
def eR (S : FVec Ideal S2x8x2x8192x8192 .f32) : FVec Ideal S2x8x2x8192x8192 .f32 := (Host.exp (subf S (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (mR S)))))
/-- The softmax. -/
def pR (S : FVec Ideal S2x8x2x8192x8192 .f32) : FVec Ideal S2x8x2x8192x8192 .f32 := (Host.divf (eR S) (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 (Host.reduceAdd (eR S) (constant S_ .f32 0x00000000#32) reducesTo_S2x8x2x8192x8192_S2x8x2x8192_d4 h_S_))))
/-- The weight of the second softmax. -/
def lR (la lb lc ld : FVec Ideal S64 .f32) (li : FVec Ideal S1 .f32) : FVec Ideal S_ .f32 := (addf (subf (Host.exp (Host.reduceAdd (mulf la lb) (constant S_ .f32 0x00000000#32) reducesTo_S64_S_d0 h_S_)) (Host.exp (Host.reduceAdd (mulf lc ld) (constant S_ .f32 0x00000000#32) reducesTo_S64_S_d0 h_S_))) (shapeCast _ li shapeCasts_S1_S_))
/-- The difference of the two softmaxes. -/
def dR (P : FVec Ideal S2x8x2x8192x8192 .f32) (L : FVec Ideal S_ .f32) : FVec Ideal S2x8x8192x8192 .f32 := (subf (shapeCast _ (extractStridedSlice S2x8x1x8192x8192 ![0, 0, 0, 0, 0] P slices_S2x8x2x8192x8192_S2x8x1x8192x8192_0_0_0_0_0) shapeCasts_S2x8x1x8192x8192_S2x8x8192x8192) (mulf (broadcastInDim S2x8x8192x8192 ![] bcast_S_S2x8x8192x8192 L) (shapeCast _ (extractStridedSlice S2x8x1x8192x8192 ![0, 0, 1, 0, 0] P slices_S2x8x2x8192x8192_S2x8x1x8192x8192_0_0_1_0_0) shapeCasts_S2x8x1x8192x8192_S2x8x8192x8192)))
/-- Its product with the values. -/
def oR (V : FVec Ideal S2x8192x1024 .f32) (D : FVec Ideal S2x8x8192x8192 .f32) : FVec Ideal S2x8192x8x128 .f32 := (transpose S2x8192x8x128 [0, 3, 1, 2] (Host.dotGeneral dot_S2x8192x8x128_S2x8x8192x8192_S2x8x128x8192_1_3_3_2_02_01 none (shapeCast _ V shapeCasts_S2x8192x1024_S2x8192x8x128) D) transposes_S2x8x128x8192_S2x8192x8x128_0_3_1_2)
/-- The norm of a head's outputs. -/
def nR (O : FVec Ideal S2x8192x8x128 .f32) (W : FVec Ideal S128 .f32) (li : FVec Ideal S1 .f32) : FVec Ideal S2x8192x8x128 .f32 := (mulf (mulf (mulf O (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf O O) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x3727C5AC#32)))))) (broadcastInDim S2x8192x8x128 ![0, 1, 2, 3] bcast_S1x1x1x128_S2x8192x8x128_0_1_2_3 (broadcastInDim S1x1x1x128 ![3] bcast_S128_S1x1x1x128_3 W))) (broadcastInDim S2x8192x8x128 ![] bcast_S_S2x8192x8x128 (subf (constant S_ .f32 0x3F800000#32) (shapeCast _ li shapeCasts_S1_S_))))
/-- The whole. -/
def tR (Q K V Z : FVec Ideal S2x8192x1024 .f32) (la lb lc ld : FVec Ideal S64 .f32) (W : FVec Ideal S128 .f32) (li : FVec Ideal S1 .f32) : FVec Ideal S2x8192x1024 .bf16 := truncf .bf16 (mulf (shapeCast _ (nR (oR V (dR (pR (sR Q K)) (lR la lb lc ld li))) W li) shapeCasts_S2x8192x8x128_S2x8192x1024) (mulf Z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf Z)))))) bitsLt_bf16_f32

theorem res_eq (m : (ℓ : Loc nD τ sig) → Buf (Elt Ideal) ℓ) (c : Dev nD) : Value.res_main_v62 (F := Ideal) m c = tR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v62 tR nR oR dR pR eR mR sR lR
  rfl

theorem neg_inf : Ideal.ofBits .f32 0xFF800000#32 = ⊥ := by rfl

theorem sle_pos (a b : Fin 8192) : (BitVec.ofNat 32 a.val).sle (BitVec.ofNat 32 b.val) = decide (a.val ≤ b.val) := by
  have h1 : (BitVec.ofNat 32 a.val).toInt = (a.val : Int) := by rw [BitVec.toInt_ofNat']; rw [Int.bmod_eq_of_le] <;> push_cast <;> omega
  have h2 : (BitVec.ofNat 32 b.val).toInt = (b.val : Int) := by rw [BitVec.toInt_ofNat']; rw [Int.bmod_eq_of_le] <;> push_cast <;> omega
  rw [BitVec.sle, h1, h2]
  exact decide_eq_decide.mpr Int.ofNat_le

section score
variable (b : Fin 2) (h : Fin 8) (c : Fin 2) (p y : Fin 8192)

theorem half_at (Q : FVec Ideal S2x8192x1024 .f32) (d : Fin 64) : shapeCast S2x8192x8x2x64 Q shapeCasts_S2x8192x1024_S2x8192x8x2x64 (ix5 b p h c d) = Q (ix3 b p (ch h c d)) := by
  refine shapeCast_apply _ _ _ _ ?_
  rw [Shape.rowMajor_val_three, Shape.rowMajor_val_five]
  show (b.val * 8192 + p.val) * 1024 + (128 * h.val + 64 * c.val + d.val) = (((b.val * 8192 + p.val) * 8 + h.val) * 2 + c.val) * 64 + d.val
  omega

theorem dot_at (Q K : FVec Ideal S2x8192x1024 .f32) : Host.dotGeneral dot_S2x8192x8x2x64_S2x8192x8x2x64_S2x8x2x8192x8192_4_4_1_1_023_023 none (shapeCast S2x8192x8x2x64 Q shapeCasts_S2x8192x1024_S2x8192x8x2x64) (shapeCast S2x8192x8x2x64 K shapeCasts_S2x8192x1024_S2x8192x8x2x64) (ix5 b h c p y)
    = ∑ d : Fin 64, Q (ix3 b p (ch h c d)) * K (ix3 b y (ch h c d)) := by
  refine (Ideal.dotGeneral_apply _ _ _ _ _ _).trans ?_
  rw [← Equiv.sum_comp (contrEquiv1 dot_S2x8192x8x2x64_S2x8192x8x2x64_S2x8x2x8192x8192_4_4_1_1_023_023 64 rfl rfl).symm]
  refine Finset.sum_congr rfl fun d _ => congrArg₂ (· * ·) ?_ ?_
  · refine Eq.trans (congrArg _ ?_) (half_at b h c p Q d)
    refine funext fun a => Fin.ext ?_
    match a with
    | ⟨0, _⟩ => rfl
    | ⟨1, _⟩ => rfl
    | ⟨2, _⟩ => rfl
    | ⟨3, _⟩ => rfl
    | ⟨4, _⟩ => exact contrEquiv1_symm_val dot_S2x8192x8x2x64_S2x8192x8x2x64_S2x8x2x8192x8192_4_4_1_1_023_023 64 rfl rfl d
  · refine Eq.trans (congrArg _ ?_) (half_at b h c y K d)
    refine funext fun a => Fin.ext ?_
    match a with
    | ⟨0, _⟩ => rfl
    | ⟨1, _⟩ => rfl
    | ⟨2, _⟩ => rfl
    | ⟨3, _⟩ => rfl
    | ⟨4, _⟩ => exact contrEquiv1_symm_val dot_S2x8192x8x2x64_S2x8192x8x2x64_S2x8x2x8192x8192_4_4_1_1_023_023 64 rfl rfl d

theorem mask_at {α : Type} (x : S8192x8192.Idx → α) : broadcastInDim S2x8x2x8192x8192 ![3, 4] bcast_S8192x8192_S2x8x2x8192x8192_3_4 x (ix5 b h c p y) = x (ix2 p y) :=
  broadcastInDim_apply _ _ _ _ _ (fun a => match a with | ⟨0, _⟩ => rfl | ⟨1, _⟩ => rfl)

theorem key_at {α : Type} (x : S8192.Idx → α) : broadcastInDim S8192x8192 ![0, 1] bcast_S1x8192_S8192x8192_0_1 (broadcastInDim S1x8192 ![1] bcast_S8192_S1x8192_1 x) (ix2 p y) = x (ix1 y) :=
  (broadcastInDim_apply _ _ _ _ (ix2 0 y) (fun a => match a with | ⟨0, _⟩ => rfl | ⟨1, _⟩ => rfl)).trans (broadcastInDim_apply _ _ _ _ _ (fun a => match a with | ⟨0, _⟩ => rfl))

theorem qry_at {α : Type} (x : S8192.Idx → α) : broadcastInDim S8192x8192 ![0, 1] bcast_S8192x1_S8192x8192_0_1 (broadcastInDim S8192x1 ![0] bcast_S8192_S8192x1_0 x) (ix2 p y) = x (ix1 p) :=
  (broadcastInDim_apply _ _ _ _ (ix2 p 0) (fun a => match a with | ⟨0, _⟩ => rfl | ⟨1, _⟩ => rfl)).trans (broadcastInDim_apply _ _ _ _ _ (fun a => match a with | ⟨0, _⟩ => rfl))

theorem row_at {α : Type} (x : S2x8x2x8192.Idx → α) : broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 x) (ix5 b h c p y) = x (ix4 b h c p) :=
  (broadcastInDim_apply _ _ _ _ (ix5 b h c p 0) (fun a => match a with | ⟨0, _⟩ => rfl | ⟨1, _⟩ => rfl | ⟨2, _⟩ => rfl | ⟨3, _⟩ => rfl | ⟨4, _⟩ => rfl)).trans
    (broadcastInDim_apply _ _ _ _ _ (fun a => match a with | ⟨0, _⟩ => rfl | ⟨1, _⟩ => rfl | ⟨2, _⟩ => rfl | ⟨3, _⟩ => rfl))

theorem sR_at (Q K : FVec Ideal S2x8192x1024 .f32) : sR Q K (ix5 b h c p y) = rs Q K b h c p y := by
  unfold sR rs
  rw [select_apply, mask_at, broadcastInDim_scalar_apply]
  have hc : ∀ (x z : IVec S8192x8192 32), cmpi .sle x z (ix2 p y) = BitVec.ofBool ((x (ix2 p y)).sle (z (ix2 p y))) := fun _ _ => rfl
  rw [hc, key_at, qry_at, iotaInDim_apply, iotaInDim_apply]
  have hm : mulf (Host.dotGeneral dot_S2x8192x8x2x64_S2x8192x8x2x64_S2x8x2x8192x8192_4_4_1_1_023_023 none (shapeCast S2x8192x8x2x64 Q shapeCasts_S2x8192x1024_S2x8192x8x2x64) (shapeCast S2x8192x8x2x64 K shapeCasts_S2x8192x1024_S2x8192x8x2x64)) (broadcastInDim S2x8x2x8192x8192 ![] bcast_S_S2x8x2x8192x8192 (constant S_ .f32 0x3E000000#32)) (ix5 b h c p y) = (∑ d : Fin 64, Q (ix3 b p (ch h c d)) * K (ix3 b y (ch h c d))) * Ideal.ofBits .f32 0x3E000000#32 :=
    congrArg₂ (· * ·) (dot_at b h c p y Q K) (broadcastInDim_scalar_apply _ _ _)
  refine (congrArg₂ (fun u v => Scalar.select (BitVec.ofBool ((BitVec.ofNat 32 y.val).sle (BitVec.ofNat 32 p.val))) u v) hm neg_inf).trans ?_
  rw [sle_pos]
  by_cases hy : y.val ≤ p.val
  · rw [if_pos hy, decide_eq_true hy]; rfl
  · rw [if_neg hy, decide_eq_false hy]; rfl
end score

theorem fold_congr {n : ℕ} (z z' : EReal) (f g : Fin n → EReal) (hz : z = z') (hf : ∀ y, f y = g y) : (Finset.univ : Finset (Fin n)).fold max z f = (Finset.univ : Finset (Fin n)).fold max z' g := by
  rw [hz, show f = g from funext hf]

theorem reduces5 : S2x8x2x8192x8192.Reduces [4] S2x8x2x8192 := by decide

theorem lift5 (b : Fin 2) (h : Fin 8) (c : Fin 2) (p y : Fin 8192) : reduces5.lift (ix4 b h c p) y = ix5 b h c p y :=
  funext fun a => Fin.ext (match a with | ⟨0, _⟩ => rfl | ⟨1, _⟩ => rfl | ⟨2, _⟩ => rfl | ⟨3, _⟩ => rfl | ⟨4, _⟩ => rfl)

theorem max5 (S : FVec Ideal S2x8x2x8192x8192 .f32) (b : Fin 2) (h : Fin 8) (c : Fin 2) (p : Fin 8192) :
    multiReduction .maximumf [4] S2x8x2x8192 S 0xFF800000#32 reduces5 (.inl rfl) rfl (ix4 b h c p) = (Finset.univ : Finset (Fin 8192)).fold max (Ideal.ofBits .f32 0xFF800000#32) (S ∘ reduces5.lift (ix4 b h c p)) :=
  Ideal.multiReduction_maximumf_single S _ reduces5 _ _ _

theorem hostmax5 (S : FVec Ideal S2x8x2x8192x8192 .f32) :
    Host.reduce FloatOps.maximumf S (constant S_ .f32 0xFF800000#32) reducesTo_S2x8x2x8192x8192_S2x8x2x8192_d4 h_S_ = multiReduction .maximumf [4] S2x8x2x8192 S 0xFF800000#32 reduces5 (.inl rfl) rfl :=
  hostReduce_maximumf_eq_multiReduction S 0xFF800000#32 _ _ reduces5 (.inl rfl) rfl

theorem max_at {s : Shape} (x y : FVec Ideal s .f32) (j : s.Idx) : maximumf x y j = max (x j) (y j) := rfl

theorem mR_at (S : FVec Ideal S2x8x2x8192x8192 .f32) (b : Fin 2) (h : Fin 8) (c : Fin 2) (p : Fin 8192) : mR S (ix4 b h c p) = max ⊥ ((Finset.univ : Finset (Fin 8192)).fold max ⊥ fun y => S (ix5 b h c p y)) := by
  unfold mR
  have e2 : broadcastInDim S2x8x2x8192 ![] bcast_S_S2x8x2x8192 (constant (F := Ideal) S_ .f32 0xFF800000#32) (ix4 b h c p) = ⊥ := (broadcastInDim_scalar_apply _ _ _).trans neg_inf
  rw [max_at, e2, hostmax5, max5]
  exact congrArg (max ⊥) (fold_congr _ _ _ _ neg_inf (fun y => congrArg S (lift5 b h c p y)))

theorem eR_at (S : FVec Ideal S2x8x2x8192x8192 .f32) (b : Fin 2) (h : Fin 8) (c : Fin 2) (p y : Fin 8192) : eR S (ix5 b h c p y) = Ideal.exp (S (ix5 b h c p y) - mR S (ix4 b h c p)) := by
  unfold eR
  exact congrArg (fun z => Ideal.exp (S (ix5 b h c p y) - z)) (row_at b h c p y (mR S))

theorem pR_at (S : FVec Ideal S2x8x2x8192x8192 .f32) (b : Fin 2) (h : Fin 8) (c : Fin 2) (p y : Fin 8192) : pR S (ix5 b h c p y) = Ideal.div (Ideal.exp (S (ix5 b h c p y) - mR S (ix4 b h c p))) (∑ x : Fin 8192, Ideal.exp (S (ix5 b h c p x) - mR S (ix4 b h c p))) := by
  unfold pR
  rw [hostDivf_apply, row_at, eR_at, hostReduceAdd_apply]
  refine congrArg (Ideal.div _) ?_
  refine (Ideal.hostReduceAdd_single _ reduces5 _ _ _).trans ?_
  refine (congrArg (· + _) (show constant (F := Ideal) S_ .f32 0x00000000#32 _ = 0 from Ideal.ofBits_zero_f32)).trans ?_
  rw [zero_add]
  exact Finset.sum_congr rfl fun x _ => (congrArg (eR S) (lift5 b h c p x)).trans (eR_at S b h c p x)

end Cert.ReferenceIdeal.Own
-- ==== Proof.RefVal.lean ====
module

public import proofs.«01_k».proof.Proof.RefRow
public import proofs.«01_k».proof.Proof.Weights
public import proofs.«01_k».proof.Proof.Blocks
public import Idealize.ShloMosaic.Lib.ValueIdxRank1

/-! The reference's output is the same array. -/

@[expose] public section

set_option maxRecDepth 8192
set_option maxHeartbeats 1000000

noncomputable section

namespace Cert.ReferenceIdeal.Own

open Cert.ReferenceIdeal Cert.ReferenceIdeal.Gen Idealize.ShloMosaic Idealize.ShloMosaic.TcCoe Idealize.ShloMosaic.StableHlo
open Idealize.ShloMosaic.ValueIdx Cert.Attn
open Cert.KernelIdeal.Own (epi lamR one_word real_sum real_mul idx3)

theorem d5 (P : FVec Ideal S2x8x2x8192x8192 .f32) (L : FVec Ideal S_ .f32) (b : Fin 2) (h : Fin 8) (p y : Fin 8192) : dR P L (ix4 b h p y) = P (ix5 b h 0 p y) - L ix0 * P (ix5 b h 1 p y) := by
  have s0 : shapeCast S2x8x8192x8192 (extractStridedSlice S2x8x1x8192x8192 ![0, 0, 0, 0, 0] P slices_S2x8x2x8192x8192_S2x8x1x8192x8192_0_0_0_0_0) shapeCasts_S2x8x1x8192x8192_S2x8x8192x8192 (ix4 b h p y) = P (ix5 b h 0 p y) := by
    refine (shapeCast_apply _ _ _ (ix5 b h 0 p y) ?_).trans ?_
    · rw [Shape.rowMajor_val_five, Shape.rowMajor_val_four]
      show (((b.val * 8 + h.val) * 1 + 0) * 8192 + p.val) * 8192 + y.val = ((b.val * 8 + h.val) * 8192 + p.val) * 8192 + y.val
      omega
    · exact congrArg P (funext fun a => Fin.ext (match a with | ⟨0, _⟩ => Nat.zero_add _ | ⟨1, _⟩ => Nat.zero_add _ | ⟨2, _⟩ => rfl | ⟨3, _⟩ => Nat.zero_add _ | ⟨4, _⟩ => Nat.zero_add _))
  have s1 : shapeCast S2x8x8192x8192 (extractStridedSlice S2x8x1x8192x8192 ![0, 0, 1, 0, 0] P slices_S2x8x2x8192x8192_S2x8x1x8192x8192_0_0_1_0_0) shapeCasts_S2x8x1x8192x8192_S2x8x8192x8192 (ix4 b h p y) = P (ix5 b h 1 p y) := by
    refine (shapeCast_apply _ _ _ (ix5 b h 0 p y) ?_).trans ?_
    · rw [Shape.rowMajor_val_five, Shape.rowMajor_val_four]
      show (((b.val * 8 + h.val) * 1 + 0) * 8192 + p.val) * 8192 + y.val = ((b.val * 8 + h.val) * 8192 + p.val) * 8192 + y.val
      omega
    · exact congrArg P (funext fun a => Fin.ext (match a with | ⟨0, _⟩ => Nat.zero_add _ | ⟨1, _⟩ => Nat.zero_add _ | ⟨2, _⟩ => rfl | ⟨3, _⟩ => Nat.zero_add _ | ⟨4, _⟩ => Nat.zero_add _))
  unfold dR
  rw [subf_apply, mulf_apply, s0, s1, broadcastInDim_scalar_apply]

theorem val_at (V : FVec Ideal S2x8192x1024 .f32) (b : Fin 2) (h : Fin 8) (y : Fin 8192) (e : Fin 128) : shapeCast S2x8192x8x128 V shapeCasts_S2x8192x1024_S2x8192x8x128 (ix4 b y h e) = V (ix3 b y (vh h e)) := by
  refine shapeCast_apply _ _ _ _ ?_
  rw [Shape.rowMajor_val_three, Shape.rowMajor_val_four]
  show (b.val * 8192 + y.val) * 1024 + (128 * h.val + e.val) = ((b.val * 8192 + y.val) * 8 + h.val) * 128 + e.val
  omega

theorem o4 (V : FVec Ideal S2x8192x1024 .f32) (D : FVec Ideal S2x8x8192x8192 .f32) (b : Fin 2) (h : Fin 8) (p : Fin 8192) (e : Fin 128) : oR V D (ix4 b p h e) = ∑ y : Fin 8192, V (ix3 b y (vh h e)) * D (ix4 b h p y) := by
  unfold oR
  refine (transpose_apply _ _ _ _ (ix4 b h e p) (fun a => match a with | ⟨0, _⟩ => rfl | ⟨1, _⟩ => rfl | ⟨2, _⟩ => rfl | ⟨3, _⟩ => rfl)).trans ?_
  refine (Ideal.dotGeneral_apply _ _ _ _ _ _).trans ?_
  rw [← Equiv.sum_comp (contrEquiv1 dot_S2x8192x8x128_S2x8x8192x8192_S2x8x128x8192_1_3_3_2_02_01 8192 rfl rfl).symm]
  refine Finset.sum_congr rfl fun y _ => congrArg₂ (· * ·) ?_ ?_
  · refine Eq.trans (congrArg _ ?_) (val_at V b h y e)
    refine funext fun a => Fin.ext ?_
    match a with
    | ⟨0, _⟩ => rfl
    | ⟨1, _⟩ => exact contrEquiv1_symm_val dot_S2x8192x8x128_S2x8x8192x8192_S2x8x128x8192_1_3_3_2_02_01 8192 rfl rfl y
    | ⟨2, _⟩ => rfl
    | ⟨3, _⟩ => rfl
  · refine congrArg D ?_
    refine funext fun a => Fin.ext ?_
    match a with
    | ⟨0, _⟩ => rfl
    | ⟨1, _⟩ => rfl
    | ⟨2, _⟩ => rfl
    | ⟨3, _⟩ => exact contrEquiv1_symm_val dot_S2x8192x8x128_S2x8x8192x8192_S2x8x128x8192_1_3_3_2_02_01 8192 rfl rfl y

theorem sum64 (v : FVec Ideal S64 .f32) : Host.reduceAdd v (constant S_ .f32 0x00000000#32) reducesTo_S64_S_d0 h_S_ ix0 = ∑ x : Fin 64, v (ix1 x) := by
  rw [hostReduceAdd_apply]
  unfold Ideal.hostReduceAdd
  refine (congrArg (· + _) (show constant (F := Ideal) S_ .f32 0x00000000#32 _ = 0 from Ideal.ofBits_zero_f32)).trans ?_
  rw [zero_add, Finset.filter_true_of_mem (fun i _ => funext fun a => a.elim0)]
  exact Fintype.sum_equiv idxEquiv1 _ _ fun i => congrArg v (funext fun a => Fin.ext (match a with | ⟨0, _⟩ => rfl))

theorem li_at (li : FVec Ideal S1 .f32) : shapeCast S_ li shapeCasts_S1_S_ ix0 = li (ix1 0) :=
  shapeCast_apply _ _ _ _ (by rfl)

theorem l_at (la lb lc ld : FVec Ideal S64 .f32) (li : FVec Ideal S1 .f32) : lR la lb lc ld li ix0 = lamR la lb lc ld li := by
  unfold lR lamR
  rw [addf_apply, subf_apply, li_at]
  have e1 : Host.exp (Host.reduceAdd (mulf la lb) (constant (F := Ideal) S_ .f32 0x00000000#32) reducesTo_S64_S_d0 h_S_) ix0 = Ideal.exp (∑ x : Fin 64, la (ix1 x) * lb (ix1 x)) := congrArg Ideal.exp (sum64 (mulf la lb))
  have e2 : Host.exp (Host.reduceAdd (mulf lc ld) (constant (F := Ideal) S_ .f32 0x00000000#32) reducesTo_S64_S_d0 h_S_) ix0 = Ideal.exp (∑ x : Fin 64, lc (ix1 x) * ld (ix1 x)) := congrArg Ideal.exp (sum64 (mulf lc ld))
  rw [e1, e2]

section norm
variable (b : Fin 2) (h : Fin 8) (p : Fin 8192) (e : Fin 128)

theorem sq_at (O : FVec Ideal S2x8192x8x128 .f32) : Host.reduceAdd (mulf O O) (constant S_ .f32 0x00000000#32) reducesTo_S2x8192x8x128_S2x8192x8_d3 h_S_ (ix3 b p h) = ∑ x : Fin 128, O (ix4 b p h x) * O (ix4 b p h x) := by
  rw [hostReduceAdd_apply]
  refine (Ideal.hostReduceAdd_single _ (by decide) _ _ _).trans ?_
  refine (congrArg (· + _) (show constant (F := Ideal) S_ .f32 0x00000000#32 _ = 0 from Ideal.ofBits_zero_f32)).trans ?_
  rw [zero_add]
  refine Finset.sum_congr rfl fun x _ => congrArg (mulf O O) (funext fun a => Fin.ext (match a with | ⟨0, _⟩ => rfl | ⟨1, _⟩ => rfl | ⟨2, _⟩ => rfl | ⟨3, _⟩ => rfl))

theorem bc1 {α : Type} (x : S2x8192x8x1.Idx → α) : broadcastInDim S2x8192x8x128 ![0, 1, 2, 3] bcast_S2x8192x8x1_S2x8192x8x128_0_1_2_3 x (ix4 b p h e) = x (ix4 b p h 0) :=
  broadcastInDim_apply _ _ _ _ _ (fun a => match a with | ⟨0, _⟩ => rfl | ⟨1, _⟩ => rfl | ⟨2, _⟩ => rfl | ⟨3, _⟩ => rfl)

theorem bc2 {α : Type} (x : S2x8192x8.Idx → α) : broadcastInDim S2x8192x8x1 ![0, 1, 2] bcast_S2x8192x8_S2x8192x8x1_0_1_2 x (ix4 b p h 0) = x (ix3 b p h) :=
  broadcastInDim_apply _ _ _ _ _ (fun a => match a with | ⟨0, _⟩ => rfl | ⟨1, _⟩ => rfl | ⟨2, _⟩ => rfl)

theorem bc3 {α : Type} (x : S128.Idx → α) : broadcastInDim S2x8192x8x128 ![0, 1, 2, 3] bcast_S1x1x1x128_S2x8192x8x128_0_1_2_3 (broadcastInDim S1x1x1x128 ![3] bcast_S128_S1x1x1x128_3 x) (ix4 b p h e) = x (ix1 e) :=
  (broadcastInDim_apply _ _ _ _ (ix4 0 0 0 e) (fun a => match a with | ⟨0, _⟩ => rfl | ⟨1, _⟩ => rfl | ⟨2, _⟩ => rfl | ⟨3, _⟩ => rfl)).trans (broadcastInDim_apply _ _ _ _ _ (fun a => match a with | ⟨0, _⟩ => rfl))

theorem n4 (O : FVec Ideal S2x8192x8x128 .f32) (W : FVec Ideal S128 .f32) (li : FVec Ideal S1 .f32) :
    nR O W li (ix4 b p h e) = O (ix4 b p h e) * Ideal.rsqrt (Ideal.div (∑ x : Fin 128, O (ix4 b p h x) * O (ix4 b p h x)) (Ideal.ofBits .f32 0x43000000#32) + Ideal.ofBits .f32 0x3727C5AC#32) * W (ix1 e) * (Ideal.ofBits .f32 0x3F800000#32 - li (ix1 0)) := by
  unfold nR
  rw [mulf_apply, mulf_apply, mulf_apply, bc1, bc3, broadcastInDim_scalar_apply, subf_apply, li_at]
  have hr : ∀ (x : FVec Ideal S2x8192x8x1 .f32) (j : S2x8192x8x1.Idx), Host.rsqrt x j = Ideal.rsqrt (x j) := fun _ _ => rfl
  rw [hr, addf_apply, hostDivf_apply, bc2, sq_at, broadcastInDim_scalar_apply, broadcastInDim_scalar_apply]
  rfl
end norm

theorem t3 (Q K V Z : FVec Ideal S2x8192x1024 .f32) (la lb lc ld : FVec Ideal S64 .f32) (W : FVec Ideal S128 .f32) (li : FVec Ideal S1 .f32) (b : Fin 2) (h : Fin 8) (p : Fin 8192) (e : Fin 128) :
    tR Q K V Z la lb lc ld W li (ix3 b p (vh h e)) = epi (fun x => oR V (dR (pR (sR Q K)) (lR la lb lc ld li)) (ix4 b p h x)) e (W (ix1 e)) (li (ix1 0)) (Z (ix3 b p (vh h e))) := by
  have hs : ∀ N : FVec Ideal S2x8192x8x128 .f32, shapeCast S2x8192x1024 N shapeCasts_S2x8192x8x128_S2x8192x1024 (ix3 b p (vh h e)) = N (ix4 b p h e) := by
    intro N
    refine shapeCast_apply _ _ _ _ ?_
    rw [Shape.rowMajor_val_three, Shape.rowMajor_val_four]
    show ((b.val * 8192 + p.val) * 8 + h.val) * 128 + e.val = (b.val * 8192 + p.val) * 1024 + (128 * h.val + e.val)
    omega
  have hz : (mulf Z (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf Z))))) (ix3 b p (vh h e)) = Z (ix3 b p (vh h e)) * Ideal.logistic (Z (ix3 b p (vh h e))) := by
    rw [mulf_apply, hostDivf_apply, addf_apply, broadcastInDim_scalar_apply]
    refine congrArg (Z (ix3 b p (vh h e)) * ·) ?_
    show Ideal.div (Ideal.ofBits .f32 0x3F800000#32) (Ideal.ofBits .f32 0x3F800000#32 + Ideal.exp (-(Z (ix3 b p (vh h e))))) = _
    rw [one_word]
    rfl
  unfold tR epi
  have ht : ∀ (x : FVec Ideal S2x8192x1024 .f32) (j : S2x8192x1024.Idx), truncf .bf16 x bitsLt_bf16_f32 j = x j := fun _ _ => rfl
  rw [ht, mulf_apply, hs, hz, n4]

section finite
variable (Q K V Z : Arr) (la lb lc ld : Row 64) (W : Row 128) (li : Row 1) (hQ : ∀ i, ∃ s : ℝ, Q i = s) (hK : ∀ i, ∃ s : ℝ, K i = s) (hV : ∀ i, ∃ s : ℝ, V i = s)
  (ha : ∀ i, ∃ s : ℝ, la i = s) (hb : ∀ i, ∃ s : ℝ, lb i = s) (hc : ∀ i, ∃ s : ℝ, lc i = s) (hd : ∀ i, ∃ s : ℝ, ld i = s) (hl : ∀ i, ∃ s : ℝ, li i = s)
include ha hb hc hd hl in
theorem lam_real : ∃ s : ℝ, lamR la lb lc ld li = s := by
  unfold lamR
  obtain ⟨x, hx⟩ := real_sum Finset.univ (fun x : Fin 64 => la (ix1 x) * lb (ix1 x)) (fun x _ => real_mul (ha _) (hb _))
  obtain ⟨y, hy⟩ := real_sum Finset.univ (fun x : Fin 64 => lc (ix1 x) * ld (ix1 x)) (fun x _ => real_mul (hc _) (hd _))
  obtain ⟨z, hz⟩ := hl (ix1 0)
  rw [hx, hy, hz]
  exact ⟨Real.exp x - Real.exp y + z, by rw [EReal.coe_add, EReal.coe_sub]; rfl⟩

include hQ hK in
theorem p_real (b : Fin 2) (h : Fin 8) (c : Fin 2) (p y : Fin 8192) : pR (sR Q K) (ix5 b h c p y) = ((we (rs Q K b h c p y) / ∑ x, we (rs Q K b h c p x) : ℝ) : EReal) := by
  rw [pR_at, mR_at]
  simp only [sR_at]
  exact softmax_row (fun y => rs Q K b h c p y) (rs_ne_top Q K hQ hK b h c p) ⟨p, rs_self Q K hQ hK b h c p⟩ y _ rfl

include hQ hK hV ha hb hc hd hl in
theorem o_real (b : Fin 2) (h : Fin 8) (p : Fin 8192) (e : Fin 128) : oR V (dR (pR (sR Q K)) (lR la lb lc ld li)) (ix4 b p h e) = df Q K V (lamR la lb lc ld li) b h p e := by
  obtain ⟨L, hL⟩ := lam_real la lb lc ld li ha hb hc hd hl
  choose v hv using hV
  rw [o4]
  unfold df sm
  rw [hL]
  have e1 : ∀ y : Fin 8192, V (ix3 b y (vh h e)) * dR (pR (sR Q K)) (lR la lb lc ld li) (ix4 b h p y)
      = ((v (ix3 b y (vh h e)) * (we (rs Q K b h 0 p y) / (∑ x, we (rs Q K b h 0 p x)) - L * (we (rs Q K b h 1 p y) / ∑ x, we (rs Q K b h 1 p x))) : ℝ) : EReal) := by
    intro y
    rw [d5, l_at, hL, p_real Q K hQ hK, p_real Q K hQ hK, hv, EReal.coe_mul, EReal.coe_sub, EReal.coe_mul]
  refine (Finset.sum_congr rfl fun y _ => e1 y).trans ?_
  rw [← coe_sum, ← EReal.coe_mul, ← EReal.coe_sub]
  refine congrArg (fun z : ℝ => (z : EReal)) ?_
  have e2 : ∀ y : Fin 8192, (V (ix3 b y (vh h e))).toReal = v (ix3 b y (vh h e)) := fun y => by rw [hv]; rfl
  simp only [e2]
  rw [Finset.sum_div, Finset.sum_div, Finset.mul_sum, ← Finset.sum_sub_distrib]
  refine Finset.sum_congr rfl fun y _ => ?_
  ring

include hQ hK hV ha hb hc hd hl in
/-- The reference's array. -/
theorem ref_eq : tR Q K V Z la lb lc ld W li = GA Q K V Z la lb lc ld W li := by
  funext j
  obtain ⟨b, h, p, e, ej⟩ : ∃ (b : Fin 2) (h : Fin 8) (p : Fin 8192) (e : Fin 128), j = ix3 b p (vh h e) := by
    have h2 : (j 2).val < 1024 := (j 2).isLt
    exact ⟨j 0, ⟨(j 2).val / 128, by omega⟩, j 1, ⟨(j 2).val % 128, Nat.mod_lt _ (by decide)⟩, idx3 _ _ _ _ rfl rfl (by show (j 2).val = 128 * ((j 2).val / 128) + (j 2).val % 128; omega)⟩
  rw [ej, GA_at, t3]
  unfold Gat
  refine congrArg (fun od => epi od _ _ _ _) (funext fun x => ?_)
  exact o_real Q K V la lb lc ld li hQ hK hV ha hb hc hd hl _ _ _ x
end finite

end Cert.ReferenceIdeal.Own
-- ==== Proof.Finite.lean ====
module

public import proofs.«01_k».proof.Defs
public import proofs.«01_k».proof.Proof.Target

/-! An array whose magnitudes are all below infinity holds real numbers. -/

@[expose] public section

noncomputable section

namespace Cert.Attn

open Idealize.ShloMosaic

/-- The word of infinity. -/
theorem inf_word : Ideal.ofBits .f32 0x7F800000#32 = ⊤ := by simp [Ideal.ofBits, Ideal.ieee]

/-- A number whose magnitude is below infinity is real. -/
theorem real_of_abs_lt (x : EReal) (h : max x (-x) < ⊤) : ∃ s : ℝ, x = s := by
  induction x using EReal.rec with
  | bot => simp at h
  | top => simp at h
  | coe s => exact ⟨s, rfl⟩

/-- The comparison's bit, read back. -/
theorem lt_of_bit (x y : EReal) (h : Ideal.cmp .olt x y = 1#1) : x < y := by
  by_contra hn
  have e : Ideal.cmp .olt x y = 0#1 := by simp [Ideal.cmp, hn]
  rw [e] at h
  exact absurd h (by decide)

/-- The test `|x| < ∞`, all ones, says every element is real. -/
theorem real_of_test {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    ∃ r : ℝ, x i = r := by
  have h1 : Ideal.cmp .olt (max (x i) (-(x i))) (Ideal.ofBits .f32 0x7F800000#32) = 1#1 := congrFun h i
  have h2 := lt_of_bit _ _ h1
  rw [inf_word] at h2
  exact real_of_abs_lt _ h2

end Cert.Attn

end
-- ==== Proof.lean ====
module

public import proofs.«01_k».proof.Defs
public import proofs.«01_k».proof.Proof.Gen.Kernel
public import proofs.«01_k».proof.Proof.WordFrame
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Out
public import proofs.«01_k».proof.Proof.RefVal
public import proofs.«01_k».proof.Proof.Finite
public import Idealize.ShloMosaic.Adequacy
public import Idealize.ShloMosaic.Init

/-! The claims about the prompt's attention: each program runs, leaves its arguments and the machine's counters as they
were; the named constant is within the rounding of its word; and the kernel's result is the reference's, exactly, at
finite queries, keys, values and lambda parameters. -/

@[expose] public section

noncomputable section

namespace Cert.Proof

open Idealize.ShloMosaic Idealize.SL.Sem Cert.Kernel Cert.KernelIdeal.Own

/-- The broadcasts the precondition uses. -/
theorem preFacts : Cert.Pre_finite.Facts := ⟨by decide, by decide, by decide⟩

/-- The kernel as written runs to its end. -/
theorem frame_kernel : Cert.quiescent_Kernel := fun m ρ _ => Cert.Kernel.Own.frame m ρ

/-- So does the kernel over the extended reals. -/
theorem frame_kernelIdeal : Cert.quiescent_KernelIdeal := fun m ρ _ => Cert.KernelIdeal.Own.frame m ρ

/-- So does the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's result is the reference's, at real queries, keys, values and lambda parameters. -/
theorem value : Cert.algebraic_KernelIdeal_ReferenceIdeal_pre_finite (hPre_finite := preFacts) := fun m g m' g' hp ha => by
  refine ⟨fun c => Cert.Attn.GA (aQ m c) (aK m c) (aV m c) (aZ m c) (aA m c) (aB m c) (aC m c) (aD m c) (aW m c) (aL m c), ?_, ?_⟩
  · refine (θ_run Cert.KernelIdeal.defs _ _).mono (fun r h c => ⟨(h c).1.trans ?_, (h c).2⟩) (Cert.KernelIdeal.OwnValue.run_blocks m g)
    obtain ⟨h0, h1, h2, -⟩ := hp c
    exact arr6 m c (fun i => Cert.Attn.real_of_test _ _ h0 i) (fun i => Cert.Attn.real_of_test _ _ h1 i) (fun i => Cert.Attn.real_of_test _ _ h2 i)
  · refine (θ_run Cert.ReferenceIdeal.defs _ _).mono (fun r h c => ⟨(h c).1.trans ?_, (h c).2⟩) (Cert.ReferenceIdeal.Value.run (F := Ideal) m' g')
    obtain ⟨h0, h1, h2, h4, h5, h6, h7, h9⟩ := hp c
    obtain ⟨e0, e1, e2, e3, e4, e5, e6, e7, e8, e9⟩ := ha c
    refine (Cert.ReferenceIdeal.Own.res_eq m' c).trans ?_
    rw [e0, e1, e2, e3, e4, e5, e6, e7, e8, e9]
    exact Cert.ReferenceIdeal.Own.ref_eq _ _ _ _ _ _ _ _ _ _ (fun i => Cert.Attn.real_of_test _ _ h0 i) (fun i => Cert.Attn.real_of_test _ _ h1 i)
      (fun i => Cert.Attn.real_of_test _ _ h2 i) (fun i => Cert.Attn.real_of_test _ _ h4 i) (fun i => Cert.Attn.real_of_test _ _ h5 i)
      (fun i => Cert.Attn.real_of_test _ _ h6 i) (fun i => Cert.Attn.real_of_test _ _ h7 i) (fun i => Cert.Attn.real_of_test _ _ h9 i)

end Cert.Proof

theorem Cert.Proof.claim : Cert.Claim :=
  ⟨Cert.Kernel.Gen.facts, Cert.KernelIdeal.Gen.facts, Cert.ReferenceIdeal.Gen.facts, Cert.Proof.preFacts,
    Cert.Proof.frame_kernel, Cert.Proof.frame_kernelIdeal, fun m ρ _ => Cert.Proof.frame_kernelIdeal m ρ trivial,
    Cert.Proof.frame_reference, fun m ρ _ => Cert.Proof.frame_reference m ρ trivial,
    Idealize.ShloMosaic.IdealRules.named_const.statement _ _ _ _ _ rfl, Cert.Proof.value⟩

end
